-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v15)) (v6 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v15) = v5 c
          ∧ r.2.mem ((c.tc : Thread Cert.KernelIdeal.nD Cert.KernelIdeal.τ).loc Cert.KernelIdeal.main_v16) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_v12) = v5 c
          ∧ r.2.mem ((c.tc : Thread Cert.ReferenceIdeal.nD Cert.ReferenceIdeal.τ).loc Cert.ReferenceIdeal.main_v13) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S24x384x2304 : Shape := ⟨3, ![24, 384, 2304]⟩
abbrev S24x384 : Shape := ⟨2, ![24, 384]⟩
abbrev S24x384x9216 : Shape := ⟨3, ![24, 384, 9216]⟩
abbrev S2304x9216 : Shape := ⟨2, ![2304, 9216]⟩
abbrev S9216 : Shape := ⟨1, ![9216]⟩
abbrev S2304x32 : Shape := ⟨2, ![2304, 32]⟩
abbrev S32x9216 : Shape := ⟨2, ![32, 9216]⟩
abbrev S_ : Shape := ⟨0, ![]⟩

class Facts : Prop where
  natLt_8_32 : 8 < 32
  bcast_S_S24x384x2304 : S_.BroadcastsInDim S24x384x2304 (![] : Fin 0 → Fin S24x384x2304.rank)
  reducesTo_S24x384x2304_S_d0_1_2 : S24x384x2304.ReducesTo [0, 1, 2] S_
  h_S_ : 0 < S_.numel
  bcast_S_S24x384x9216 : S_.BroadcastsInDim S24x384x9216 (![] : Fin 0 → Fin S24x384x9216.rank)
  reducesTo_S24x384x9216_S_d0_1_2 : S24x384x9216.ReducesTo [0, 1, 2] S_
  bcast_S_S2304x9216 : S_.BroadcastsInDim S2304x9216 (![] : Fin 0 → Fin S2304x9216.rank)
  reducesTo_S2304x9216_S_d0_1 : S2304x9216.ReducesTo [0, 1] S_
  bcast_S_S24x384 : S_.BroadcastsInDim S24x384 (![] : Fin 0 → Fin S24x384.rank)
  reducesTo_S24x384_S_d0_1 : S24x384.ReducesTo [0, 1] S_
  bcast_S_S9216 : S_.BroadcastsInDim S9216 (![] : Fin 0 → Fin S9216.rank)
  reducesTo_S9216_S_d0 : S9216.ReducesTo [0] S_
  bcast_S_S2304x32 : S_.BroadcastsInDim S2304x32 (![] : Fin 0 → Fin S2304x32.rank)
  reducesTo_S2304x32_S_d0_1 : S2304x32.ReducesTo [0, 1] S_
  bcast_S_S32x9216 : S_.BroadcastsInDim S32x9216 (![] : Fin 0 → Fin S32x9216.rank)
  reducesTo_S32x9216_S_d0_1 : S32x9216.ReducesTo [0, 1] S_

variable [Facts]

def fn_part2 {F : FTy → Type} [FloatOps F] (main_arg6 : FVec F S2304x32 .bf16) (main_arg7 : FVec F S32x9216 .bf16) (main_v29 : IVec S_ 1) (main_v32 : IVec S9216 1) (main_c_12 : IVec S_ 1) : IVec S_ 1 :=
  let main_v33 : IVec S_ 1 := (fun x v => Host.reduce IntOp.andi x v reducesTo_S9216_S_d0 h_S_) main_v32 main_c_12
  let main_v34 : IVec S_ 1 := andi main_v29 main_v33
  let main_v35 : FVec F S2304x32 .bf16 := Host.absf main_arg6
  let main_cst_13 : FVec F S_ .bf16 := constant S_ .bf16 0x4980#16
  let main_v36 : FVec F S2304x32 .bf16 := broadcastInDim S2304x32 ![] bcast_S_S2304x32 main_cst_13
  let main_v37 : IVec S2304x32 1 := cmpf .ole main_v35 main_v36
  let main_c_14 : IVec S_ 1 := constantI S_ 1 1#1
  let main_v38 : IVec S_ 1 := (fun x v => Host.reduce IntOp.andi x v reducesTo_S2304x32_S_d0_1 h_S_) main_v37 main_c_14
  let main_v39 : IVec S_ 1 := andi main_v34 main_v38
  let main_v40 : FVec F S32x9216 .bf16 := Host.absf main_arg7
  let main_cst_15 : FVec F S_ .bf16 := constant S_ .bf16 0x4980#16
  let main_v41 : FVec F S32x9216 .bf16 := broadcastInDim S32x9216 ![] bcast_S_S32x9216 main_cst_15
  let main_v42 : IVec S32x9216 1 := cmpf .ole main_v40 main_v41
  let main_c_16 : IVec S_ 1 := constantI S_ 1 1#1
  let main_v43 : IVec S_ 1 := (fun x v => Host.reduce IntOp.andi x v reducesTo_S32x9216_S_d0_1 h_S_) main_v42 main_c_16
  let main_v44 : IVec S_ 1 := andi main_v39 main_v43
  main_v44

def fn_part1 {F : FTy → Type} [FloatOps F] (main_arg1 : FVec F S24x384 .f32) (main_arg3 : FVec F S24x384 .f32) (main_arg5 : FVec F S9216 .f32) (main_arg6 : FVec F S2304x32 .bf16) (main_arg7 : FVec F S32x9216 .bf16) (main_v12 : IVec S_ 1) (main_v15 : IVec S2304x9216 32) (main_c_6 : IVec S_ 32) : IVec S_ 1 :=
  let main_v16 : IVec S2304x9216 32 := broadcastInDim S2304x9216 ![] bcast_S_S2304x9216 main_c_6
  let main_v17 : IVec S2304x9216 1 := cmpi .slt main_v15 main_v16
  let main_c_7 : IVec S_ 1 := constantI S_ 1 1#1
  let main_v18 : IVec S_ 1 := (fun x v => Host.reduce IntOp.andi x v reducesTo_S2304x9216_S_d0_1 h_S_) main_v17 main_c_7
  let main_v19 : IVec S_ 1 := andi main_v12 main_v18
  let main_v20 : FVec F S24x384 .f32 := Host.absf main_arg1
  let main_cst : FVec F S_ .f32 := constant S_ .f32 0x7F7FFFFF#32
  let main_v21 : FVec F S24x384 .f32 := broadcastInDim S24x384 ![] bcast_S_S24x384 main_cst
  let main_v22 : IVec S24x384 1 := cmpf .ole main_v20 main_v21
  let main_c_8 : IVec S_ 1 := constantI S_ 1 1#1
  let main_v23 : IVec S_ 1 := (fun x v => Host.reduce IntOp.andi x v reducesTo_S24x384_S_d0_1 h_S_) main_v22 main_c_8
  let main_v24 : IVec S_ 1 := andi main_v19 main_v23
  let main_v25 : FVec F S24x384 .f32 := Host.absf main_arg3
  let main_cst_9 : FVec F S_ .f32 := constant S_ .f32 0x49800000#32
  let main_v26 : FVec F S24x384 .f32 := broadcastInDim S24x384 ![] bcast_S_S24x384 main_cst_9
  let main_v27 : IVec S24x384 1 := cmpf .ole main_v25 main_v26
  let main_c_10 : IVec S_ 1 := constantI S_ 1 1#1
  let main_v28 : IVec S_ 1 := (fun x v => Host.reduce IntOp.andi x v reducesTo_S24x384_S_d0_1 h_S_) main_v27 main_c_10
  let main_v29 : IVec S_ 1 := andi main_v24 main_v28
  let main_v30 : FVec F S9216 .f32 := Host.absf main_arg5
  let main_cst_11 : FVec F S_ .f32 := constant S_ .f32 0x49800000#32
  let main_v31 : FVec F S9216 .f32 := broadcastInDim S9216 ![] bcast_S_S9216 main_cst_11
  let main_v32 : IVec S9216 1 := cmpf .ole main_v30 main_v31
  let main_c_12 : IVec S_ 1 := constantI S_ 1 1#1
  fn_part2 (F := F) main_arg6 main_arg7 main_v29 main_v32 main_c_12

def fn {F : FTy → Type} [FloatOps F] (main_arg0 : IVec S24x384x2304 8) (main_arg1 : FVec F S24x384 .f32) (main_arg2 : IVec S24x384x9216 8) (main_arg3 : FVec F S24x384 .f32) (main_arg4 : IVec S2304x9216 8) (main_arg5 : FVec F S9216 .f32) (main_arg6 : FVec F S2304x32 .bf16) (main_arg7 : FVec F S32x9216 .bf16) : IVec S_ 1 :=
  let main_v0 : IVec S24x384x2304 32 := (extui 32 · natLt_8_32) main_arg0
  let main_c : IVec S_ 32 := constantI S_ 32 127#32
  let main_v1 : IVec S24x384x2304 32 := broadcastInDim S24x384x2304 ![] bcast_S_S24x384x2304 main_c
  let main_v2 : IVec S24x384x2304 32 := andi main_v0 main_v1
  let main_c_0 : IVec S_ 32 := constantI S_ 32 127#32
  let main_v3 : IVec S24x384x2304 32 := broadcastInDim S24x384x2304 ![] bcast_S_S24x384x2304 main_c_0
  let main_v4 : IVec S24x384x2304 1 := cmpi .slt main_v2 main_v3
  let main_c_1 : IVec S_ 1 := constantI S_ 1 1#1
  let main_v5 : IVec S_ 1 := (fun x v => Host.reduce IntOp.andi x v reducesTo_S24x384x2304_S_d0_1_2 h_S_) main_v4 main_c_1
  let main_v6 : IVec S24x384x9216 32 := (extui 32 · natLt_8_32) main_arg2
  let main_c_2 : IVec S_ 32 := constantI S_ 32 127#32
  let main_v7 : IVec S24x384x9216 32 := broadcastInDim S24x384x9216 ![] bcast_S_S24x384x9216 main_c_2
  let main_v8 : IVec S24x384x9216 32 := andi main_v6 main_v7
  let main_c_3 : IVec S_ 32 := constantI S_ 32 124#32
  let main_v9 : IVec S24x384x9216 32 := broadcastInDim S24x384x9216 ![] bcast_S_S24x384x9216 main_c_3
  let main_v10 : IVec S24x384x9216 1 := cmpi .slt main_v8 main_v9
  let main_c_4 : IVec S_ 1 := constantI S_ 1 1#1
  let main_v11 : IVec S_ 1 := (fun x v => Host.reduce IntOp.andi x v reducesTo_S24x384x9216_S_d0_1_2 h_S_) main_v10 main_c_4
  let main_v12 : IVec S_ 1 := andi main_v5 main_v11
  let main_v13 : IVec S2304x9216 32 := (extui 32 · natLt_8_32) main_arg4
  let main_c_5 : IVec S_ 32 := constantI S_ 32 127#32
  let main_v14 : IVec S2304x9216 32 := broadcastInDim S2304x9216 ![] bcast_S_S2304x9216 main_c_5
  let main_v15 : IVec S2304x9216 32 := andi main_v13 main_v14
  let main_c_6 : IVec S_ 32 := constantI S_ 32 127#32
  fn_part1 (F := F) main_arg1 main_arg3 main_arg5 main_arg6 main_arg7 main_v12 main_v15 main_c_6
-- ==== Kernel.lean ====
abbrev S24x384x2304 : Shape := ⟨3, ![24, 384, 2304]⟩
abbrev S24x384 : Shape := ⟨2, ![24, 384]⟩
abbrev S24x384x9216 : Shape := ⟨3, ![24, 384, 9216]⟩
abbrev S2304x9216 : Shape := ⟨2, ![2304, 9216]⟩
abbrev S9216 : Shape := ⟨1, ![9216]⟩
abbrev S2304x32 : Shape := ⟨2, ![2304, 32]⟩
abbrev S32x9216 : Shape := ⟨2, ![32, 9216]⟩
abbrev S9216x2304 : Shape := ⟨2, ![9216, 2304]⟩
abbrev S36x1x256 : Shape := ⟨3, ![36, 1, 256]⟩
abbrev S9216x9216 : Shape := ⟨2, ![9216, 9216]⟩
abbrev S1x9216 : Shape := ⟨2, ![1, 9216]⟩
abbrev S2304x96 : Shape := ⟨2, ![2304, 96]⟩
abbrev S32x2304 : Shape := ⟨2, ![32, 2304]⟩
abbrev S9216x32 : Shape := ⟨2, ![9216, 32]⟩
abbrev S256x2304 : Shape := ⟨2, ![256, 2304]⟩
abbrev S1x1x256 : Shape := ⟨3, ![1, 1, 256]⟩
abbrev S256x9216 : Shape := ⟨2, ![256, 9216]⟩
abbrev S256x32 : Shape := ⟨2, ![256, 32]⟩
abbrev S2x128x9216 : Shape := ⟨3, ![2, 128, 9216]⟩
abbrev S2304x256 : Shape := ⟨2, ![2304, 256]⟩
abbrev S2 : Shape := ⟨1, ![2]⟩
abbrev S1 : Shape := ⟨1, ![1]⟩
abbrev S_ : Shape := ⟨0, ![]⟩
abbrev S1x128x9216 : Shape := ⟨3, ![1, 128, 9216]⟩
abbrev S128x9216 : Shape := ⟨2, ![128, 9216]⟩
abbrev S1x256 : Shape := ⟨2, ![1, 256]⟩
abbrev S32x256 : Shape := ⟨2, ![32, 256]⟩
abbrev S96x256 : Shape := ⟨2, ![96, 256]⟩
abbrev S96x2304 : Shape := ⟨2, ![96, 2304]⟩
abbrev S96x9216 : Shape := ⟨2, ![96, 9216]⟩
abbrev S768x9216 : Shape := ⟨2, ![768, 9216]⟩
abbrev S768x256 : Shape := ⟨2, ![768, 256]⟩
abbrev S768x96 : Shape := ⟨2, ![768, 96]⟩
abbrev S256 : Shape := ⟨1, ![256]⟩
abbrev S128x256 : Shape := ⟨2, ![128, 256]⟩
abbrev S256x128 : Shape := ⟨2, ![256, 128]⟩
abbrev S24x384x32 : Shape := ⟨3, ![24, 384, 32]⟩

abbrev nBuf : Space → Nat
  | .hbm => 31
  | .vmem => 27
  | .smem => 0
  | _ => 0

abbrev bufTy : (tb : Table) → Fin (tcTables nBuf tb) → BufTy
  | .hbm, ⟨0, _⟩ => ⟨S24x384x2304, .i8⟩
  | .hbm, ⟨1, _⟩ => ⟨S24x384, .f32⟩
  | .hbm, ⟨2, _⟩ => ⟨S24x384x9216, .i8⟩
  | .hbm, ⟨3, _⟩ => ⟨S24x384, .f32⟩
  | .hbm, ⟨4, _⟩ => ⟨S2304x9216, .i8⟩
  | .hbm, ⟨5, _⟩ => ⟨S9216, .f32⟩
  | .hbm, ⟨6, _⟩ => ⟨S2304x32, .bf16⟩
  | .hbm, ⟨7, _⟩ => ⟨S32x9216, .bf16⟩
  | .hbm, ⟨8, _⟩ => ⟨S24x384x2304, .fp8e4m3⟩
  | .hbm, ⟨9, _⟩ => ⟨S24x384x9216, .fp8e5m2⟩
  | .hbm, ⟨10, _⟩ => ⟨S2304x9216, .fp8e4m3⟩
  | .hbm, ⟨11, _⟩ => ⟨S9216x2304, .fp8e4m3⟩
  | .hbm, ⟨12, _⟩ => ⟨S36x1x256, .f32⟩
  | .hbm, ⟨13, _⟩ => ⟨S9216x9216, .fp8e5m2⟩
  | .hbm, ⟨14, _⟩ => ⟨S36x1x256, .f32⟩
  | .hbm, ⟨15, _⟩ => ⟨S1x9216, .f32⟩
  | .hbm, ⟨16, _⟩ => ⟨S2304x96, .bf16⟩
  | .hbm, ⟨17, _⟩ => ⟨S32x2304, .bf16⟩
  | .hbm, ⟨18, _⟩ => ⟨S9216x2304, .bf16⟩
  | .hbm, ⟨19, _⟩ => ⟨S32x2304, .f32⟩
  | .hbm, ⟨20, _⟩ => ⟨S32x9216, .f32⟩
  | .hbm, ⟨21, _⟩ => ⟨S9216x32, .f32⟩
  | .hbm, ⟨22, _⟩ => ⟨S9216x32, .f32⟩
  | .hbm, ⟨23, _⟩ => ⟨S9216x2304, .fp8e5m2⟩
  | .hbm, ⟨24, _⟩ => ⟨S36x1x256, .f32⟩
  | .hbm, ⟨25, _⟩ => ⟨S24x384x2304, .bf16⟩
  | .hbm, ⟨26, _⟩ => ⟨S2304x32, .f32⟩
  | .hbm, ⟨27, _⟩ => ⟨S24x384x32, .f32⟩
  | .hbm, ⟨28, _⟩ => ⟨S24x384x32, .f32⟩
  | .hbm, ⟨29, _⟩ => ⟨S24x384x2304, .fp8e5m2⟩
  | .hbm, ⟨30, _⟩ => ⟨S24x384, .f32⟩
  | .local _ .vmem, ⟨0, _⟩ => ⟨S256x2304, .fp8e4m3⟩
  | .local _ .vmem, ⟨1, _⟩ => ⟨S256x2304, .fp8e4m3⟩
  | .local _ .vmem, ⟨2, _⟩ => ⟨S1x1x256, .f32⟩
  | .local _ .vmem, ⟨3, _⟩ => ⟨S1x1x256, .f32⟩
  | .local _ .vmem, ⟨4, _⟩ => ⟨S256x9216, .fp8e5m2⟩
  | .local _ .vmem, ⟨5, _⟩ => ⟨S256x9216, .fp8e5m2⟩
  | .local _ .vmem, ⟨6, _⟩ => ⟨S1x1x256, .f32⟩
  | .local _ .vmem, ⟨7, _⟩ => ⟨S1x1x256, .f32⟩
  | .local _ .vmem, ⟨8, _⟩ => ⟨S1x9216, .f32⟩
  | .local _ .vmem, ⟨9, _⟩ => ⟨S2304x96, .bf16⟩
  | .local _ .vmem, ⟨10, _⟩ => ⟨S32x2304, .bf16⟩
  | .local _ .vmem, ⟨11, _⟩ => ⟨S32x9216, .bf16⟩
  | .local _ .vmem, ⟨12, _⟩ => ⟨S256x2304, .bf16⟩
  | .local _ .vmem, ⟨13, _⟩ => ⟨S256x2304, .bf16⟩
  | .local _ .vmem, ⟨14, _⟩ => ⟨S32x2304, .f32⟩
  | .local _ .vmem, ⟨15, _⟩ => ⟨S32x9216, .f32⟩
  | .local _ .vmem, ⟨16, _⟩ => ⟨S256x32, .f32⟩
  | .local _ .vmem, ⟨17, _⟩ => ⟨S256x32, .f32⟩
  | .local _ .vmem, ⟨18, _⟩ => ⟨S256x32, .f32⟩
  | .local _ .vmem, ⟨19, _⟩ => ⟨S256x32, .f32⟩
  | .local _ .vmem, ⟨20, _⟩ => ⟨S256x2304, .fp8e5m2⟩
  | .local _ .vmem, ⟨21, _⟩ => ⟨S256x2304, .fp8e5m2⟩
  | .local _ .vmem, ⟨22, _⟩ => ⟨S1x1x256, .f32⟩
  | .local _ .vmem, ⟨23, _⟩ => ⟨S1x1x256, .f32⟩
  | .local _ .vmem, ⟨24, _⟩ => ⟨S2304x9216, .bf16⟩
  | .local _ .vmem, ⟨25, _⟩ => ⟨S2x128x9216, .fp8e4m3⟩
  | .local _ .vmem, ⟨26, _⟩ => ⟨S2304x256, .f32⟩
  | _, _ => ⟨S24x384x2304, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v10_6 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_198 : BitVec 32 := 0#32
  let c18_i32 : BitVec 32 := 18#32
  let v388 : BitVec 32 := Scalar.addi c0_i32_198 c18_i32
  let c1_i32_199 : BitVec 32 := 1#32
  ⟨c0_i32_198, v388, c1_i32_199⟩
def k0_cond2 (k0_t1 : Fin k0_t1_loop.trips) : BitVec 1 :=
  let c0_i32_198 : BitVec 32 := 0#32
  let c1_i32_199 : BitVec 32 := 1#32
  let arg21 : BitVec 32 := Scf.iv c0_i32_198 c1_i32_199 k0_t1
  let c1_i32_208 : BitVec 32 := 1#32
  let v394 : BitVec 32 := Scalar.addi arg21 c1_i32_208
  let c18_i32_209 : BitVec 32 := 18#32
  let v395 : BitVec 1 := Scalar.cmpi .slt v394 c18_i32_209
  let v396 : BitVec 32 := Scalar.extui v395
  let c0_i32_210 : BitVec 32 := 0#32
  let v397 : BitVec 1 := Scalar.cmpi .ne v396 c0_i32_210
  v397

def k0_off1 (k0_t1 : Fin k0_t1_loop.trips) : Fin 1 → Nat :=
  let c1_i32_222 : BitVec 32 := 1#32
  let c0_i32_198 : BitVec 32 := 0#32
  let c1_i32_199 : BitVec 32 := 1#32
  let arg21 : BitVec 32 := Scf.iv c0_i32_198 c1_i32_199 k0_t1
  let c2_i32_207 : BitVec 32 := 2#32
  let v393 : BitVec 32 := Scalar.remsi arg21 c2_i32_207
  let v419 : BitVec 32 := Scalar.subi c1_i32_222 v393
  ![v419.toNat]
def k0_off2 (k0_t1 : Fin k0_t1_loop.trips) : Fin 3 → Nat :=
  let c1_i32_222 : BitVec 32 := 1#32
  let c0_i32_198 : BitVec 32 := 0#32
  let c1_i32_199 : BitVec 32 := 1#32
  let arg21 : BitVec 32 := Scf.iv c0_i32_198 c1_i32_199 k0_t1
  let c2_i32_207 : BitVec 32 := 2#32
  let v393 : BitVec 32 := Scalar.remsi arg21 c2_i32_207
  let v419 : BitVec 32 := Scalar.subi c1_i32_222 v393
  let c0_i32_224 : BitVec 32 := 0#32
  let c0_i32_225 : BitVec 32 := 0#32
  ![v419.toNat, 0, 0]
def k0_off3 (k0_t1 : Fin k0_t1_loop.trips) : Fin 2 → Nat :=
  let c0_i32_198 : BitVec 32 := 0#32
  let c1_i32_199 : BitVec 32 := 1#32
  let arg21 : BitVec 32 := Scf.iv c0_i32_198 c1_i32_199 k0_t1
  let c1_i32_221 : BitVec 32 := 1#32
  let v418 : BitVec 32 := Scalar.addi arg21 c1_i32_221
  let c128_i32_223 : BitVec 32 := 128#32
  let v420 : BitVec 32 := Scalar.muli v418 c128_i32_223
  let c0_i32_226 : BitVec 32 := 0#32
  ![v420.toNat, 0]
def k0_off4 (k0_t1 : Fin k0_t1_loop.trips) : Fin 1 → Nat :=
  let c0_i32_198 : BitVec 32 := 0#32
  let c1_i32_199 : BitVec 32 := 1#32
  let arg21 : BitVec 32 := Scf.iv c0_i32_198 c1_i32_199 k0_t1
  let c2_i32_207 : BitVec 32 := 2#32
  let v393 : BitVec 32 := Scalar.remsi arg21 c2_i32_207
  ![v393.toNat]
def k0_off5 (k0_t1 : Fin k0_t1_loop.trips) : Fin 3 → Nat :=
  let c0_i32_198 : BitVec 32 := 0#32
  let c1_i32_199 : BitVec 32 := 1#32
  let arg21 : BitVec 32 := Scf.iv c0_i32_198 c1_i32_199 k0_t1
  let c2_i32_207 : BitVec 32 := 2#32
  let v393 : BitVec 32 := Scalar.remsi arg21 c2_i32_207
  let c0_i32_212 : BitVec 32 := 0#32
  let c0_i32_213 : BitVec 32 := 0#32
  ![v393.toNat, 0, 0]
def k0_off6 (k0_t1 : Fin k0_t1_loop.trips) : Fin 2 → Nat :=
  let c0_i32_198 : BitVec 32 := 0#32
  let c1_i32_199 : BitVec 32 := 1#32
  let arg21 : BitVec 32 := Scf.iv c0_i32_198 c1_i32_199 k0_t1
  let c128_i32_211 : BitVec 32 := 128#32
  let v398 : BitVec 32 := Scalar.muli arg21 c128_i32_211
  let c0_i32_214 : BitVec 32 := 0#32
  ![v398.toNat, 0]
def k0_off7 (k0_t1 : Fin k0_t1_loop.trips) : Fin 3 → Nat :=
  let c0_i32_198 : BitVec 32 := 0#32
  let c1_i32_199 : BitVec 32 := 1#32
  let arg21 : BitVec 32 := Scf.iv c0_i32_198 c1_i32_199 k0_t1
  let c2_i32_207 : BitVec 32 := 2#32
  let v393 : BitVec 32 := Scalar.remsi arg21 c2_i32_207
  let v404 : Index := Scalar.indexCast v393
  let c0_215 : Index := 0#32
  let c0_216 : Index := 0#32
  ![v404.toNat, 0, 0]
def k0_off8 (k0_t1 : Fin k0_t1_loop.trips) : Fin 2 → Nat :=
  let c0_i32_198 : BitVec 32 := 0#32
  let c1_i32_199 : BitVec 32 := 1#32
  let arg21 : BitVec 32 := Scf.iv c0_i32_198 c1_i32_199 k0_t1
  let c128_i32_219 : BitVec 32 := 128#32
  let v413 : BitVec 32 := Scalar.muli arg21 c128_i32_219
  let v414 : Index := Scalar.indexCast v413
  let c0_220 : Index := 0#32
  ![v414.toNat, 0]
@[reducible] def k0_t2_loop : Scf.Loop 32 :=
  let c0_i32_37 : BitVec 32 := 0#32
  let c3_i32 : BitVec 32 := 3#32
  let v83 : BitVec 32 := Scalar.addi c0_i32_37 c3_i32
  let c1_i32 : BitVec 32 := 1#32
  ⟨c0_i32_37, v83, c1_i32⟩
def k0_off9 (k0_t2 : Fin k0_t2_loop.trips) : Fin 2 → Nat :=
  let c0_i32_37 : BitVec 32 := 0#32
  let c1_i32 : BitVec 32 := 1#32
  let arg21 : BitVec 32 := Scf.iv c0_i32_37 c1_i32 k0_t2
  let c768_i32 : BitVec 32 := 768#32
  let v383 : BitVec 32 := Scalar.muli arg21 c768_i32
  let v384 : Index := Scalar.indexCast v383
  let c0_192 : Index := 0#32
  ![v384.toNat, 0]
def k0_off10 (k0_t2 : Fin k0_t2_loop.trips) : Fin 2 → Nat :=
  let c0_i32_37 : BitVec 32 := 0#32
  let c1_i32 : BitVec 32 := 1#32
  let arg21 : BitVec 32 := Scf.iv c0_i32_37 c1_i32 k0_t2
  let c768_i32 : BitVec 32 := 768#32
  let v383 : BitVec 32 := Scalar.muli arg21 c768_i32
  let v389 : Index := Scalar.indexCast v383
  let c0_196 : Index := 0#32
  ![v389.toNat, 0]
def k0_off11 (k0_t2 : Fin k0_t2_loop.trips) : Fin 2 → Nat :=
  let c0_i32_37 : BitVec 32 := 0#32
  let c1_i32 : BitVec 32 := 1#32
  let arg21 : BitVec 32 := Scf.iv c0_i32_37 c1_i32 k0_t2
  let c768_i32 : BitVec 32 := 768#32
  let v383 : BitVec 32 := Scalar.muli arg21 c768_i32
  let v396 : Index := Scalar.indexCast v383
  let c0_198 : Index := 0#32
  ![v396.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2304 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x9216 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2304x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x9216 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2304 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32x2304 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x9216 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2304 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S24x384x2304 : Shape := ⟨3, ![24, 384, 2304]⟩
abbrev S24x384 : Shape := ⟨2, ![24, 384]⟩
abbrev S24x384x9216 : Shape := ⟨3, ![24, 384, 9216]⟩
abbrev S2304x9216 : Shape := ⟨2, ![2304, 9216]⟩
abbrev S9216 : Shape := ⟨1, ![9216]⟩
abbrev S2304x32 : Shape := ⟨2, ![2304, 32]⟩
abbrev S32x9216 : Shape := ⟨2, ![32, 9216]⟩
abbrev S9216x2304 : Shape := ⟨2, ![9216, 2304]⟩
abbrev S9216x1 : Shape := ⟨2, ![9216, 1]⟩
abbrev S9216x9216 : Shape := ⟨2, ![9216, 9216]⟩
abbrev S1x9216 : Shape := ⟨2, ![1, 9216]⟩
abbrev S9216x32 : Shape := ⟨2, ![9216, 32]⟩
abbrev S24x384x32 : Shape := ⟨3, ![24, 384, 32]⟩

abbrev nBuf : Space → Nat
  | .hbm => 28
  | .vmem => 15
  | .smem => 0
  | _ => 0

abbrev bufTy : (tb : Table) → Fin (tcTables nBuf tb) → BufTy
  | .hbm, ⟨0, _⟩ => ⟨S24x384x2304, .i8⟩
  | .hbm, ⟨1, _⟩ => ⟨S24x384, .f32⟩
  | .hbm, ⟨2, _⟩ => ⟨S24x384x9216, .i8⟩
  | .hbm, ⟨3, _⟩ => ⟨S24x384, .f32⟩
  | .hbm, ⟨4, _⟩ => ⟨S2304x9216, .i8⟩
  | .hbm, ⟨5, _⟩ => ⟨S9216, .f32⟩
  | .hbm, ⟨6, _⟩ => ⟨S2304x32, .bf16⟩
  | .hbm, ⟨7, _⟩ => ⟨S32x9216, .bf16⟩
  | .hbm, ⟨8, _⟩ => ⟨S24x384x2304, .fp8e4m3⟩
  | .hbm, ⟨9, _⟩ => ⟨S24x384x9216, .fp8e5m2⟩
  | .hbm, ⟨10, _⟩ => ⟨S2304x9216, .fp8e4m3⟩
  | .hbm, ⟨11, _⟩ => ⟨S9216x2304, .fp8e4m3⟩
  | .hbm, ⟨12, _⟩ => ⟨S9216x1, .f32⟩
  | .hbm, ⟨13, _⟩ => ⟨S9216x9216, .fp8e5m2⟩
  | .hbm, ⟨14, _⟩ => ⟨S9216x1, .f32⟩
  | .hbm, ⟨15, _⟩ => ⟨S1x9216, .f32⟩
  | .hbm, ⟨16, _⟩ => ⟨S9216x2304, .bf16⟩
  | .hbm, ⟨17, _⟩ => ⟨S2304x32, .f32⟩
  | .hbm, ⟨18, _⟩ => ⟨S32x9216, .f32⟩
  | .hbm, ⟨19, _⟩ => ⟨S9216x32, .f32⟩
  | .hbm, ⟨20, _⟩ => ⟨S9216x32, .f32⟩
  | .hbm, ⟨21, _⟩ => ⟨S9216x2304, .fp8e5m2⟩
  | .hbm, ⟨22, _⟩ => ⟨S9216x1, .f32⟩
  | .hbm, ⟨23, _⟩ => ⟨S24x384x2304, .bf16⟩
  | .hbm, ⟨24, _⟩ => ⟨S24x384x32, .f32⟩
  | .hbm, ⟨25, _⟩ => ⟨S24x384x32, .f32⟩
  | .hbm, ⟨26, _⟩ => ⟨S24x384x2304, .fp8e5m2⟩
  | .hbm, ⟨27, _⟩ => ⟨S24x384, .f32⟩
  | .local _ .vmem, ⟨0, _⟩ => ⟨S9216x2304, .fp8e4m3⟩
  | .local _ .vmem, ⟨1, _⟩ => ⟨S9216x1, .f32⟩
  | .local _ .vmem, ⟨2, _⟩ => ⟨S9216x9216, .fp8e5m2⟩
  | .local _ .vmem, ⟨3, _⟩ => ⟨S9216x1, .f32⟩
  | .local _ .vmem, ⟨4, _⟩ => ⟨S2304x9216, .fp8e4m3⟩
  | .local _ .vmem, ⟨5, _⟩ => ⟨S1x9216, .f32⟩
  | .local _ .vmem, ⟨6, _⟩ => ⟨S2304x32, .bf16⟩
  | .local _ .vmem, ⟨7, _⟩ => ⟨S32x9216, .bf16⟩
  | .local _ .vmem, ⟨8, _⟩ => ⟨S9216x2304, .bf16⟩
  | .local _ .vmem, ⟨9, _⟩ => ⟨S2304x32, .f32⟩
  | .local _ .vmem, ⟨10, _⟩ => ⟨S32x9216, .f32⟩
  | .local _ .vmem, ⟨11, _⟩ => ⟨S9216x32, .f32⟩
  | .local _ .vmem, ⟨12, _⟩ => ⟨S9216x32, .f32⟩
  | .local _ .vmem, ⟨13, _⟩ => ⟨S9216x2304, .fp8e5m2⟩
  | .local _ .vmem, ⟨14, _⟩ => ⟨S9216x1, .f32⟩
  | _, _ => ⟨S24x384x2304, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c253_i32 : BitVec 32 := 253#32
  let v59 : BitVec 32 := Scalar.addi c0_i32 c253_i32
  let c1_i32 : BitVec 32 := 1#32
  ⟨c0_i32, v59, c1_i32⟩
abbrev stage0_0 : Fin 1 → Memref sig .tc .vmem S9216x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x9216 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x9216 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x9216 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9216x2304 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2304x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x9216 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S9216x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S9216x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S9216x2304 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S9216x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Kernel.Ring.lean ====
/- The conversion loop of the first grid point: the blocks of `w0` in the operand's buffer, the two slots of the staging
   buffer, their transfer cells, and the offset chains in closed form. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Ring
public import Idealize.ShloMosaic.Lib.Affine
public import Idealize.ShloMosaic.Lib.Tactic

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

omit [FloatOps F] in
theorem entails_of_eq {P Q : sProp 𝕄} (e : P = Q) : P ⊢ Q := e ▸ .rfl

/-! ## Canonical names -/

/-- The operand `w0`, unstaged; -/
abbrev aM : Memref sig .tc .hbm S2304x9216 .fp8e4m3 := Memref.whole main_v2
/-- the staging buffer of two slots. -/
abbrev bufM : Memref sig .tc .vmem S2x128x9216 .fp8e4m3 := Memref.whole cc0_scratch1

abbrev grpOff (b : Fin 18) : Fin 2 → Nat := ![128 * b.val, 0]
theorem grpOff_inb (b : Fin 18) : ∀ a, grpOff b a + S128x9216.size a ≤ S2304x9216.size a := by
  have := b.isLt; intro a; fin_cases a
  · show 128 * b.val + 128 ≤ 2304; omega
  · show 0 + 9216 ≤ 9216; omega
abbrev slotOff (s : Fin 2) : Fin 3 → Nat := ![s.val, 0, 0]
theorem slotOff_inb (s : Fin 2) : ∀ a, slotOff s a + S1x128x9216.size a ≤ S2x128x9216.size a := by
  have := s.isLt; intro a; fin_cases a
  · show s.val + 1 ≤ 2; omega
  · show 0 + 128 ≤ 128; omega
  · show 0 + 9216 ≤ 9216; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` of `w0`: 128 of its rows. -/
def grp (b : Fin 18) : Memref sig .tc .hbm S128x9216 .fp8e4m3 :=
  aM.slice (Rect.unit (s := S2304x9216) (grpOff b) S128x9216.size (grpOff_inb b)) (fun _ => rfl)
/-- Slot `s` of the staging buffer. -/
def rslot (s : Fin 2) : Memref sig .tc .vmem S128x9216 .fp8e4m3 :=
  (bufM.slice (Rect.unit (s := S2x128x9216) (slotOff s) S1x128x9216.size (slotOff_inb s)) (fun _ => rfl)).squeeze S128x9216 squeezes_S1x128x9216_S128x9216
/-- Slot `s`'s transfer cell. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 18) : ClosedOff (grpOff b) := ⟨grpOff b, rfl⟩

/-! ## The offset chains in closed form -/

section Chain
open Affine

theorem trips1 : k0_t1_loop.trips = 18 := by decide
theorem trips2 : k0_t2_loop.trips = 3 := by decide

theorem iv1 (k : Fin k0_t1_loop.trips) : IsInt (Scf.iv 0#32 1#32 k.val) k.val := by
  have := Nat.lt_of_lt_of_eq k.isLt trips1
  exact iv (e := k.val) (ofNat (e := 0) 0 ⟨rfl, by decide⟩) (ofNat (e := 1) 1 ⟨rfl, by decide⟩) k.val ⟨by omega, by omega, by omega⟩
theorem rem1 (k : Fin k0_t1_loop.trips) : IsInt (Scalar.remsi (Scf.iv 0#32 1#32 k.val) 2#32) (k.val % 2 : Nat) :=
  remsi (e := (k.val % 2 : Nat)) (iv1 k) (ofNat (e := 2) 2 ⟨rfl, by decide⟩) ⟨by omega, by omega, by omega⟩
theorem orem1 (k : Fin k0_t1_loop.trips) : IsInt (Scalar.subi 1#32 (Scalar.remsi (Scf.iv 0#32 1#32 k.val) 2#32)) ((k.val + 1) % 2 : Nat) :=
  subi (e := ((k.val + 1) % 2 : Nat)) (ofNat (e := 1) 1 ⟨rfl, by decide⟩) (rem1 k) ⟨by omega, by omega, by omega⟩
theorem mul1 (k : Fin k0_t1_loop.trips) : IsInt (Scalar.muli (Scf.iv 0#32 1#32 k.val) 128#32) (128 * k.val : Nat) := by
  have := Nat.lt_of_lt_of_eq k.isLt trips1
  exact muli (e := (128 * k.val : Nat)) (iv1 k) (ofNat (e := 128) 128 ⟨rfl, by decide⟩) ⟨by push_cast; omega, by omega, by omega⟩
theorem mulS1 (k : Fin k0_t1_loop.trips) :
    IsInt (Scalar.muli (Scalar.addi (Scf.iv 0#32 1#32 k.val) 1#32) 128#32) (128 * (k.val + 1) : Nat) := by
  have := Nat.lt_of_lt_of_eq k.isLt trips1
  have h1 : IsInt (Scalar.addi (Scf.iv 0#32 1#32 k.val) 1#32) (k.val + 1 : Nat) :=
    addi (e := (k.val + 1 : Nat)) (iv1 k) (ofNat (e := 1) 1 ⟨rfl, by decide⟩) ⟨by push_cast; omega, by omega, by omega⟩
  exact muli (e := (128 * (k.val + 1) : Nat)) h1 (ofNat (e := 128) 128 ⟨rfl, by decide⟩) ⟨by push_cast; omega, by omega, by omega⟩

theorem off1_eq (k : Fin k0_t1_loop.trips) : k0_off1 k = semOff (Ring.sl 2 (k.val + 1)) :=
  vec_cons (orem1 k) (by simp [Ring.sl, Fin.ofNat]) vec_nil
theorem off2_eq (k : Fin k0_t1_loop.trips) : k0_off2 k = slotOff (Ring.sl 2 (k.val + 1)) :=
  vec_cons (orem1 k) (by simp [Ring.sl, Fin.ofNat]) rfl
theorem off3_eq (k : Fin k0_t1_loop.trips) (hk : k.val + 1 < 18) : k0_off3 k = grpOff (Ring.bk 18 (k.val + 1)) :=
  vec_cons (mulS1 k) (by rw [Ring.bk_val hk]) rfl
theorem off4_eq (k : Fin k0_t1_loop.trips) : k0_off4 k = semOff (Ring.sl 2 k.val) :=
  vec_cons (rem1 k) (by simp [Ring.sl, Fin.ofNat]) vec_nil
theorem off5_eq (k : Fin k0_t1_loop.trips) : k0_off5 k = slotOff (Ring.sl 2 k.val) :=
  vec_cons (rem1 k) (by simp [Ring.sl, Fin.ofNat]) rfl
theorem off6_eq (k : Fin k0_t1_loop.trips) : k0_off6 k = grpOff (Ring.bk 18 k.val) :=
  vec_cons (mul1 k) (by rw [Ring.bk_val (Nat.lt_of_lt_of_eq k.isLt trips1)]) rfl
theorem off7_eq (k : Fin k0_t1_loop.trips) : k0_off7 k = slotOff (Ring.sl 2 k.val) :=
  vec_cons (indexCast (rem1 k)) (by simp [Ring.sl, Fin.ofNat]) rfl
theorem off8_eq (k : Fin k0_t1_loop.trips) : k0_off8 k = grpOff (Ring.bk 18 k.val) :=
  vec_cons (indexCast (mul1 k)) (by rw [Ring.bk_val (Nat.lt_of_lt_of_eq k.isLt trips1)]) rfl

instance (k : Fin k0_t1_loop.trips) : ClosedOff (k0_off2 k) := ⟨slotOff (Ring.sl 2 (k.val + 1)), off2_eq k⟩
instance (k : Fin k0_t1_loop.trips) : ClosedOff (k0_off5 k) := ⟨slotOff (Ring.sl 2 k.val), off5_eq k⟩
instance (k : Fin k0_t1_loop.trips) : ClosedOff (k0_off7 k) := ⟨slotOff (Ring.sl 2 k.val), off7_eq k⟩

theorem cond2_iff (k : Fin k0_t1_loop.trips) : k0_cond2 k = 1#1 ↔ k.val + 1 < 18 := by
  revert k; decide +kernel

/-! The rows loop. -/
theorem iv2 (k : Fin k0_t2_loop.trips) : IsInt (Scf.iv 0#32 1#32 k.val) k.val := by
  have := Nat.lt_of_lt_of_eq k.isLt trips2
  exact iv (e := k.val) (ofNat (e := 0) 0 ⟨rfl, by decide⟩) (ofNat (e := 1) 1 ⟨rfl, by decide⟩) k.val ⟨by omega, by omega, by omega⟩
theorem mul2 (k : Fin k0_t2_loop.trips) : IsInt (Scalar.muli (Scf.iv 0#32 1#32 k.val) 768#32) (768 * k.val : Nat) := by
  have := Nat.lt_of_lt_of_eq k.isLt trips2
  exact muli (e := (768 * k.val : Nat)) (iv2 k) (ofNat (e := 768) 768 ⟨rfl, by decide⟩) ⟨by push_cast; omega, by omega, by omega⟩
theorem off9_eq (k : Fin k0_t2_loop.trips) : k0_off9 k = ![768 * k.val, 0] := vec_cons (indexCast (mul2 k)) rfl rfl
theorem off10_eq (k : Fin k0_t2_loop.trips) : k0_off10 k = ![768 * k.val, 0] := vec_cons (indexCast (mul2 k)) rfl rfl
theorem off11_eq (k : Fin k0_t2_loop.trips) : k0_off11 k = ![768 * k.val, 0] := vec_cons (indexCast (mul2 k)) rfl rfl

end Chain

/-! ### The body's slices are `csm`, `rslot`, `grp` -/

private theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x128x9216) off S1x128x9216.size hh) hs).squeeze S128x9216 squeezes_S1x128x9216_S128x9216 = rslot s :=
  congrArg (fun M : Memref sig .tc .vmem S1x128x9216 .fp8e4m3 => M.squeeze S128x9216 squeezes_S1x128x9216_S128x9216) (Memref.slice_unit_congr _ e _ _ _ _)
private theorem grp_congr {off : Fin 2 → Nat} {b : Fin 18} (e : off = grpOff b) (hh hs) :
    aM.slice (Rect.unit (s := S2304x9216) off S128x9216.size hh) hs = grp b :=
  Memref.slice_unit_congr _ e _ _ hs (fun _ => rfl)

@[sl_canon] theorem semL0 (hh) : (cc0_scratch3.slice (Rect.unit (s := S2) ![0] S1.size hh)).squeeze S_ squeezes_S1_S_ = csm 0 := csm_congr (by decide) _
@[sl_canon] theorem slotL0 (hh hs) : (bufM.slice (Rect.unit (s := S2x128x9216) ![0, 0, 0] S1x128x9216.size hh) hs).squeeze S128x9216 squeezes_S1x128x9216_S128x9216 = rslot 0 := rslot_congr (by decide) _ _
@[sl_canon] theorem grpL0 (hh hs) : aM.slice (Rect.unit (s := S2304x9216) ![0, 0] S128x9216.size hh) hs = grp 0 := grp_congr (by decide) _ _

@[sl_canon] theorem semI (k : Fin k0_t1_loop.trips) (hh) :
    (cc0_scratch3.slice (Rect.unit (s := S2) (k0_off1 k) S1.size hh)).squeeze S_ squeezes_S1_S_ = csm (Ring.sl 2 (k.val + 1)) := csm_congr (off1_eq k) _
@[sl_canon] theorem slotI (k : Fin k0_t1_loop.trips) (hh hs) :
    (bufM.slice (Rect.unit (s := S2x128x9216) (k0_off2 k) S1x128x9216.size hh) hs).squeeze S128x9216 squeezes_S1x128x9216_S128x9216 = rslot (Ring.sl 2 (k.val + 1)) := rslot_congr (off2_eq k) _ _
@[sl_canon] theorem grpI (k : Fin k0_t1_loop.trips) (hk : k.val + 1 < 18) (hh hs) :
    aM.slice (Rect.unit (s := S2304x9216) (k0_off3 k) S128x9216.size hh) hs = grp (Ring.bk 18 (k.val + 1)) := grp_congr (off3_eq k hk) _ _
@[sl_canon] theorem semK (k : Fin k0_t1_loop.trips) (hh) :
    (cc0_scratch3.slice (Rect.unit (s := S2) (k0_off4 k) S1.size hh)).squeeze S_ squeezes_S1_S_ = csm (Ring.sl 2 k.val) := csm_congr (off4_eq k) _
@[sl_canon] theorem slotK (k : Fin k0_t1_loop.trips) (hh hs) :
    (bufM.slice (Rect.unit (s := S2x128x9216) (k0_off5 k) S1x128x9216.size hh) hs).squeeze S128x9216 squeezes_S1x128x9216_S128x9216 = rslot (Ring.sl 2 k.val) := rslot_congr (off5_eq k) _ _
@[sl_canon] theorem grpK (k : Fin k0_t1_loop.trips) (hh hs) :
    aM.slice (Rect.unit (s := S2304x9216) (k0_off6 k) S128x9216.size hh) hs = grp (Ring.bk 18 k.val) := grp_congr (off6_eq k) _ _

/-! ## The pieces -/

section Pieces
variable (c : Dev nD) (XA : Buf (Elt F) (aM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Block `b` home: held on its elements at `w0`'s contents. -/
abbrev homeP (b : Fin 18) : sProp 𝕄 := (grp b).view.loc (c : Thread nD τ) ↦[(grp b).view.set]{fullShare} XA
/-- What block `b`'s transfer leaves in slot `s` over prior contents `f`. -/
abbrev landed (s : Fin 2) (b : Fin 18) (f : Buf (Elt F) ((rslot s).view.loc (c : Thread nD τ))) : Buf (Elt F) ((rslot s).view.loc (c : Thread nD τ)) :=
  (rslot s).view.writes (Elt F) f [⟨Rect.whole S128x9216, ReadAs.same.apply ((grp b).view.read (Elt F) XA)⟩]
/-- A block's transfer moves 36864 units on its cell. -/
abbrev NN : ℕ := 36864
/-- Slot `s` in flight with block `b`, issued over `f`. -/
abbrev flightP (s : Fin 2) (b : Fin 18) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

end Pieces

end Cert.Kernel.Hand

end
-- ==== Proof.Kernel.LoopW.lean ====
/- One trip of the conversion loop and the loop's invariant: before trip `k` the converted weights hold the first `128 * k`
   rows, block `k` is in flight into slot `k % 2` and the other slot is free. -/
module

public import proofs.«01_k».proof.Proof.Kernel.Ring
public import Idealize.ShloMosaic.Lib.VecWindow
public import Idealize.ShloMosaic.Lib.WholeRead
public import Idealize.ShloMosaic.Lib.Pointwise

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Trip
variable (c : Dev nD) (XA : Buf (Elt F) (aM.view.loc (c : Thread nD τ))) (x4 : Vec F S1x9216 .f32)
  (i : grid0.Coords) (arg1 : Memref sig .tc .vmem S256x2304 .fp8e4m3) (harg1 : arg1.IsWhole) (arg2 : Memref sig .tc .vmem S1x1x256 .f32) (harg2 : arg2.IsWhole) (arg3 : Memref sig .tc .vmem S256x9216 .fp8e5m2) (harg3 : arg3.IsWhole) (arg4 : Memref sig .tc .vmem S1x1x256 .f32) (harg4 : arg4.IsWhole) (arg6 : Memref sig .tc .vmem S1x9216 .f32) (harg6 : arg6.IsWhole) (arg7 : Memref sig .tc .vmem S2304x96 .bf16) (harg7 : arg7.IsWhole) (arg8 : Memref sig .tc .vmem S32x2304 .bf16) (harg8 : arg8.IsWhole) (arg9 : Memref sig .tc .vmem S32x9216 .bf16) (harg9 : arg9.IsWhole) (arg10 : Memref sig .tc .vmem S256x2304 .bf16) (harg10 : arg10.IsWhole) (arg11 : Memref sig .tc .vmem S32x2304 .f32) (harg11 : arg11.IsWhole) (arg12 : Memref sig .tc .vmem S32x9216 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x2304 .fp8e5m2) (harg15 : arg15.IsWhole) (arg16 : Memref sig .tc .vmem S1x1x256 .f32) (harg16 : arg16.IsWhole) (arg17 : Memref sig .tc .vmem S2304x9216 .bf16) (harg17 : arg17.IsWhole) (arg19 : Memref sig .tc .vmem S2304x256 .f32) (harg19 : arg19.IsWhole) (k0_h1 : k0_cond1 i = 1#1)

/-- Block `b` of `w0`, as a slot of the staging buffer is read. -/
def wblk (b : Fin 18) : Vec F S1x128x9216 .fp8e4m3 := shapeCast S1x128x9216 ((grp b).view.read (Elt F) XA) (by decide)

/-- The converted weights before trip `k`, from `d` at the loop's entry. -/
def wrec (d : Vec F S2304x9216 .bf16) : ℕ → Vec F S2304x9216 .bf16
  | 0 => d
  | k + 1 => VecWindow.put (wrec d k) (grpOff (Ring.bk 18 k)) S128x9216.size (k0_pay1 (wblk c XA (Ring.bk 18 k)) x4)

/-- The converted weights: row `y` is row `y % 128` of block `y / 128`, converted. -/
def WEFF : Vec F S2304x9216 .bf16 := fun y =>
  k0_pay1 (wblk c XA (Ring.bk 18 ((y 0).val / 128))) x4 (ix2 ⟨(y 0).val % 128, Nat.mod_lt _ (by decide)⟩ (y 1))

theorem wrec_apply (d : Vec F S2304x9216 .bf16) (k : ℕ) (hk : k ≤ 18) (y : S2304x9216.Idx) :
    wrec c XA x4 d k y = if (y 0).val < 128 * k then WEFF c XA x4 y else d y := by
  induction k with
  | zero => simp [wrec]
  | succ k ih =>
    have hb : (Ring.bk 18 k).val = k := Ring.bk_val (show k < 18 by omega)
    have h1 : (y 1).val < 9216 := (y 1).isLt
    rw [wrec, VecWindow.put]
    split
    · rename_i h
      have h0 : 128 * (Ring.bk 18 k).val ≤ (y 0).val ∧ (y 0).val < 128 * (Ring.bk 18 k).val + 128 := h 0
      rw [if_pos (by omega), WEFF]
      have e : (y 0).val / 128 = k := by omega
      rw [e]
      congr 1
      funext a
      apply Fin.ext
      match a with
      | ⟨0, _⟩ => show (y 0).val - 128 * (Ring.bk 18 k).val = (y 0).val % 128; omega
      | ⟨1, _⟩ => show (y 1).val - 0 = (y 1).val; omega
    · rename_i h
      rw [ih (by omega)]
      by_cases h0 : (y 0).val < 128 * k
      · rw [if_pos h0, if_pos (by omega)]
      · rw [if_neg h0, if_neg]
        intro h2; apply h; intro a
        match a with
        | ⟨0, _⟩ => show 128 * (Ring.bk 18 k).val ≤ (y 0).val ∧ (y 0).val < 128 * (Ring.bk 18 k).val + 128; omega
        | ⟨1, _⟩ => show 0 ≤ (y 1).val ∧ (y 1).val < 0 + 9216; omega

theorem wrec_end (d : Vec F S2304x9216 .bf16) : wrec c XA x4 d 18 = WEFF c XA x4 := by
  funext y
  have h0 : (y 0).val < 2304 := (y 0).isLt
  rw [wrec_apply c XA x4 d 18 (le_refl _) y, if_pos (by omega)]

/-- A load of the staging buffer at slot `s`'s rectangle, after block `b` has landed there. -/
theorem read_slot {off : Fin 3 → ℕ} (s : Fin 2) (b : Fin 18) (e : off = slotOff s) (inb : ∀ a, off a + S1x128x9216.size a ≤ S2x128x9216.size a)
    (f : Buf (Elt F) ((rslot s).view.loc (c : Thread nD τ))) :
    View.readAt (Elt F) bufM.view (Rect.unit (s := S2x128x9216) off S1x128x9216.size inb).toLoadRect (landed c XA s b f) = wblk c XA b := by
  subst e
  have h : (rslot s).view.read (Elt F) (landed c XA s b f) = (grp b).view.read (Elt F) XA := View.read_writes_whole _ _ _
  funext j
  have h2 := congrFun h (Shape.reshapeEquiv (by decide : S1x128x9216.numel = S128x9216.numel) j)
  refine Eq.trans ?_ h2
  show bufM.view.read (Elt F) _ ((Rect.unit (s := S2x128x9216) (slotOff s) S1x128x9216.size inb).emb j)
    = bufM.view.read (Elt F) _ ((Rect.unit (s := S2x128x9216) (slotOff s) S1x128x9216.size (slotOff_inb s)).emb (Shape.reshapeEquiv _ (Shape.reshapeEquiv _ j)))
  rw [Shape.reshapeEquiv_reshapeEquiv, Shape.reshapeEquiv_self]

/-- The other blocks, home while block `k` is in flight. -/
abbrev HS (k : ℕ) : Finset (Fin 18) := Finset.univ.erase (Ring.bk 18 k)

theorem homes_here (k : ℕ) (hk : k + 1 < 18) :
    bigSep (HS k) (homeP c XA) = iprop(homeP c XA (Ring.bk 18 (k + 1)) ∗ bigSep ((HS k).erase (Ring.bk 18 (k + 1))) (homeP c XA)) := by
  have h : Ring.bk 18 (k + 1) ∈ HS k := by
    rw [Finset.mem_erase]; refine ⟨?_, Finset.mem_univ _⟩
    rw [Ne, Fin.ext_iff, Ring.bk_val hk, Ring.bk_val (show k < 18 by omega)]; omega
  conv_lhs => rw [← Finset.insert_erase h, bigSep_insert (Finset.notMem_erase _ _)]
  rfl
theorem homes_next (k : ℕ) (hk : k + 1 < 18) :
    bigSep (HS (k + 1)) (homeP c XA) = iprop(homeP c XA (Ring.bk 18 k) ∗ bigSep ((HS k).erase (Ring.bk 18 (k + 1))) (homeP c XA)) := by
  have h : Ring.bk 18 k ∈ HS (k + 1) := by
    rw [Finset.mem_erase]; refine ⟨?_, Finset.mem_univ _⟩
    rw [Ne, Fin.ext_iff, Ring.bk_val hk, Ring.bk_val (show k < 18 by omega)]; omega
  conv_lhs => rw [← Finset.insert_erase h, bigSep_insert (Finset.notMem_erase _ _), Finset.erase_right_comm]
  rfl
theorem homes_all (k : ℕ) :
    bigSep Finset.univ (homeP c XA) = iprop(homeP c XA (Ring.bk 18 k) ∗ bigSep (HS k) (homeP c XA)) := by
  conv_lhs => rw [← Finset.insert_erase (Finset.mem_univ (Ring.bk 18 k)), bigSep_insert (Finset.notMem_erase _ _)]
  rfl

theorem sl2_add2 (k : ℕ) : Ring.sl 2 (k + 1 + 1) = Ring.sl 2 k := by rw [show k + 1 + 1 = k + 2 from rfl, Ring.sl_add]

abbrev wP (f : Buf (Elt F) (arg17.view.loc (c : Thread nD τ))) : sProp 𝕄 := arg17.view.loc (c : Thread nD τ) ↦[arg17.view.set]{fullShare} f
abbrev sP : sProp 𝕄 := arg6.view.loc (c : Thread nD τ) ↦[arg6.view.set]{fullShare} harg6.unread x4

/-- The ring before trip `k < 18`. -/
def ringAt (k : ℕ) : sProp 𝕄 :=
  iprop((∃ W, owes (c : Thread nD τ) 0 W) ∗ bigSep (HS k) (homeP c XA)
    ∗ (∃ f, flightP c XA (Ring.sl 2 k) (Ring.bk 18 k) f) ∗ (∃ f, slotP c (Ring.sl 2 (k + 1)) f) ∗ cellP c (Ring.sl 2 (k + 1)))
/-- The ring after the last trip. -/
def ringEnd : sProp 𝕄 :=
  iprop((∃ W, owes (c : Thread nD τ) 0 W) ∗ bigSep Finset.univ (homeP c XA)
    ∗ ((∃ f, slotP c (Ring.sl 2 17) f) ∗ (∃ f, slotP c (Ring.sl 2 (17 + 1)) f)) ∗ cellP c (Ring.sl 2 17) ∗ cellP c (Ring.sl 2 (17 + 1)))

abbrev tripG (k : Fin k0_t1_loop.trips) : Prog (TpuEff nD τ sig (Elt F) Λ₀ .tc) Unit :=
  k0_t1_body (F := F) i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3 k0_h1 k ()

abbrev R8 (k : Fin k0_t1_loop.trips) : Rect S2304x9216 := Rect.unit (s := S2304x9216) (k0_off8 k) S128x9216.size (k0_off8_inb i k k0_h1)

theorem tripRun (k : Fin k0_t1_loop.trips) (hk : k.val + 1 < 18) (f : Buf (Elt F) (arg17.view.loc (c : Thread nD τ))) :
  iprop(sP c x4 arg6 harg6 ∗ wP c arg17 f ∗ ringAt c XA k) ⊢ wp frame (wpE (defs₀ (F := F)) Variants.none (c : Thread nD τ) none) Set.univ
      (tripG i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k0_h1 k)
      (fun _ => iprop(sP c x4 arg6 harg6 ∗ wP c arg17 (arg17.view.writes (Elt F) f [⟨R8 i k0_h1 k, k0_pay1 (wblk c XA (Ring.bk 18 k.val)) x4⟩]) ∗ ringAt c XA (k.val + 1))) := by
  have hc : k0_cond2 k = 1#1 := (cond2_iff k).2 hk
  unfold ringAt
  rw [homes_here c XA k.val hk, homes_next c XA k.val hk, sl2_add2]
  iintro ⟨H6, HO, ⟨%W, HW⟩, ⟨Hg, Hrest⟩, ⟨%f0, HF0⟩, ⟨%f1, HS1⟩, Hc1⟩
  dsimp only [tripG]
  sl_unfold [k0_t1_body]
  sl_exec (disch := first | sl_exact hc)
  sl_step
  isplitl [H6]; · iexact H6
  have e5 : tripRun.sl.v405 c XA i k0_h1 k = wblk c XA (Ring.bk 18 k.val) := read_slot c XA _ _ (off7_eq k) _ _
  have e6 : View.readAt (Elt F) arg6.view (Rect.unit ![0, 0] S1x9216.size inb_S1x9216_S1x9216_0_0).toLoadRect (harg6.unread x4) = x4 :=
    (View.readAt_full _ _ _).trans (harg6.read_unread x4)
  isplitl [HO]
  · iapply (entails_of_eq (congrArg (fun w => wP c arg17 (arg17.view.writes (Elt F) f [⟨R8 i k0_h1 k, w⟩])) (congrArg₂ k0_pay1 e5 e6)))
    iexact HO
  isplitl [HW]; · iexists _; iexact HW
  isplitl [HF0_src Hrest]
  · isplitl [HF0_src]; · iexact HF0_src
    iexact Hrest
  isplitl [Hc1]; · iexists f1; iexact Hc1
  isplitl [HF0_dst]; · iexists _; iexact HF0_dst
  iexact HF0

theorem tripLast (k : Fin k0_t1_loop.trips) (hk : k.val = 17) (f : Buf (Elt F) (arg17.view.loc (c : Thread nD τ))) :
  iprop(sP c x4 arg6 harg6 ∗ wP c arg17 f ∗ ringAt c XA k) ⊢ wp frame (wpE (defs₀ (F := F)) Variants.none (c : Thread nD τ) none) Set.univ
      (tripG i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k0_h1 k)
      (fun _ => iprop(sP c x4 arg6 harg6 ∗ wP c arg17 (arg17.view.writes (Elt F) f [⟨R8 i k0_h1 k, k0_pay1 (wblk c XA (Ring.bk 18 k.val)) x4⟩]) ∗ ringEnd c XA)) := by
  have hc : ¬ k0_cond2 k = 1#1 := fun h => by have := (cond2_iff k).1 h; omega
  unfold ringAt ringEnd
  rw [homes_all c XA k.val]
  iintro ⟨H6, HO, ⟨%W, HW⟩, Hrest, ⟨%f0, HF0⟩, ⟨%f1, HS1⟩, Hc1⟩
  dsimp only [tripG]
  sl_unfold [k0_t1_body]
  sl_exec (disch := first | sl_exact hc)
  sl_step
  isplitl [H6]; · iexact H6
  have e5 : tripLast.sl.v405 c XA i k0_h1 k = wblk c XA (Ring.bk 18 k.val) := read_slot c XA _ _ (off7_eq k) _ _
  have e6 : View.readAt (Elt F) arg6.view (Rect.unit ![0, 0] S1x9216.size inb_S1x9216_S1x9216_0_0).toLoadRect (harg6.unread x4) = x4 :=
    (View.readAt_full _ _ _).trans (harg6.read_unread x4)
  isplitl [HO]
  · iapply (entails_of_eq (congrArg (fun w => wP c arg17 (arg17.view.writes (Elt F) f [⟨R8 i k0_h1 k, w⟩])) (congrArg₂ k0_pay1 e5 e6)))
    iexact HO
  isplitl [HW]; · iexists _; iexact HW
  isplitl [HF0_src Hrest]
  · isplitl [HF0_src]; · iexact HF0_src
    iexact Hrest
  irw [← hk]
  isplitl [HF0_dst HS1]
  · isplitl [HF0_dst]; · iexists _; iexact HF0_dst
    iexists f1; iexact HS1
  isplitl [HF0]; · iexact HF0
  iexact Hc1

/-- The ring before trip `k`, for every `k`. -/
def ring (k : ℕ) : sProp 𝕄 := if k < 18 then ringAt c XA k else ringEnd c XA

theorem unread_put (k : Fin k0_t1_loop.trips) (d : Vec F S2304x9216 .bf16) :
    arg17.view.writes (Elt F) (harg17.unread (wrec c XA x4 d k.val)) [⟨R8 i k0_h1 k, k0_pay1 (wblk c XA (Ring.bk 18 k.val)) x4⟩]
      = harg17.unread (wrec c XA x4 d (k.val + 1)) := by
  refine harg17.eq_unread ?_
  rw [View.read_writes_cons_put _ _ _ _ _ (off8_eq k), View.writes_nil, harg17.read_unread]
  rfl

set_option warn.classDefReducibility false in
/-- THE LOOP'S INVARIANT. -/
@[sl_loop] def loopInv1 (d : Vec F S2304x9216 .bf16) :
    LoopInvTy_k0_t1 (F := F) Unit ℕ (Pipeline.UD sig nD τ) ℕ Variants.none c none Set.univ i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3 k0_h1 where
  inv k _ := iprop(sP c x4 arg6 harg6 ∗ wP c arg17 (harg17.unread (wrec c XA x4 d k)) ∗ ring c XA k)
  step k _ := by
    have hk := Nat.lt_of_lt_of_eq k.isLt trips1
    rw [← unread_put c XA x4 i arg17 harg17 k0_h1 k d]
    unfold ring
    rw [if_pos hk]
    by_cases h : k.val + 1 < 18
    · rw [if_pos h]; exact tripRun c XA x4 i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k0_h1 k h _
    · rw [if_neg h]; exact tripLast c XA x4 i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k0_h1 k (by omega) _

/-- What the loop leaves: the weights converted, everything home. -/
instance (d : Vec F S2304x9216 .bf16) : LoopExit (loopInv1 c XA x4 i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k0_h1 d) where
  post acc := iprop(sP c x4 arg6 harg6 ∗ wP c arg17 (harg17.unread (WEFF c XA x4)) ∗ ringEnd c XA)
  exit acc := by
    show iprop(sP c x4 arg6 harg6 ∗ wP c arg17 (harg17.unread (wrec c XA x4 d k0_t1_loop.trips)) ∗ ring c XA k0_t1_loop.trips) ⊢ _
    rw [trips1, wrec_end, ring, if_neg (by decide)]

end Trip
end Cert.Kernel.Hand

end
-- ==== Proof.Kernel.LoopR.lean ====
/- The rows loop: three trips, each a block of 768 rows of the transposed gradient and its part of the running maximum; the
   loop's invariant states both as functions of what the loop reads. -/
module

public import proofs.«01_k».proof.Proof.Kernel.LoopW

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Trip
variable (v6 : FVec F S1x256 .f32) (v73 : FVec F S32x256 .f32) (v74 : FVec F S32x256 .bf16)
  (w : Vec F S2304x9216 .bf16) (x2 : Vec F S256x9216 .fp8e5m2) (x5 : Vec F S2304x96 .bf16)

/-- Rows `768 k` to `768 k + 767` of the converted weights; -/
def rowsW (k : ℕ) : Vec F S768x9216 .bf16 := fun j =>
  w (ix2 ⟨(768 * k + (j 0).val) % 2304, Nat.mod_lt _ (by decide)⟩ (j 1))
/-- of the split `a` factor. -/
def rowsA (k : ℕ) : Vec F S768x96 .bf16 := fun j =>
  x5 (ix2 ⟨(768 * k + (j 0).val) % 2304, Nat.mod_lt _ (by decide)⟩ (j 1))

/-- The transposed gradient: row `y` is row `y % 768` of trip `y / 768`'s block. -/
def DXT : Vec F S2304x256 .f32 := fun y =>
  k0_pay18 v6 v73 v74 (rowsW w ((y 0).val / 768)) x2 (rowsA x5 ((y 0).val / 768)) (ix2 ⟨(y 0).val % 768, Nat.mod_lt _ (by decide)⟩ (y 1))
/-- The running maximum before trip `k`. -/
def AMAX (init : FVec F S1x256 .f32) : ℕ → FVec F S1x256 .f32
  | 0 => init
  | k + 1 => k0_pay19 v6 v73 v74 (AMAX init k) (rowsW w k) x2 (rowsA x5 k)

/-- The transposed gradient's buffer before trip `k`, from `d` at the loop's entry. -/
def drec (d : Vec F S2304x256 .f32) : ℕ → Vec F S2304x256 .f32
  | 0 => d
  | k + 1 => VecWindow.put (drec d k) ![768 * k, 0] S768x256.size (k0_pay18 v6 v73 v74 (rowsW w k) x2 (rowsA x5 k))

theorem drec_apply (d : Vec F S2304x256 .f32) (k : ℕ) (hk : k ≤ 3) (y : S2304x256.Idx) :
    drec v6 v73 v74 w x2 x5 d k y = if (y 0).val < 768 * k then DXT v6 v73 v74 w x2 x5 y else d y := by
  induction k with
  | zero => simp [drec]
  | succ k ih =>
    have h1 : (y 1).val < 256 := (y 1).isLt
    rw [drec, VecWindow.put]
    split
    · rename_i h
      have h0 : 768 * k ≤ (y 0).val ∧ (y 0).val < 768 * k + 768 := h 0
      rw [if_pos (by omega), DXT]
      have e : (y 0).val / 768 = k := by omega
      rw [e]
      congr 1
      funext a
      apply Fin.ext
      match a with
      | ⟨0, _⟩ => show (y 0).val - 768 * k = (y 0).val % 768; omega
      | ⟨1, _⟩ => show (y 1).val - 0 = (y 1).val; omega
    · rename_i h
      rw [ih (by omega)]
      by_cases h0 : (y 0).val < 768 * k
      · rw [if_pos h0, if_pos (by omega)]
      · rw [if_neg h0, if_neg]
        intro h2; apply h; intro a
        match a with
        | ⟨0, _⟩ => show 768 * k ≤ (y 0).val ∧ (y 0).val < 768 * k + 768; omega
        | ⟨1, _⟩ => show 0 ≤ (y 1).val ∧ (y 1).val < 0 + 256; omega

theorem drec_end (d : Vec F S2304x256 .f32) : drec v6 v73 v74 w x2 x5 d 3 = DXT v6 v73 v74 w x2 x5 := by
  funext y
  have h0 : (y 0).val < 2304 := (y 0).isLt
  rw [drec_apply v6 v73 v74 w x2 x5 d 3 (le_refl _) y, if_pos (by omega)]

variable (c : Dev nD) (i : grid0.Coords) (arg1 : Memref sig .tc .vmem S256x2304 .fp8e4m3) (harg1 : arg1.IsWhole) (arg2 : Memref sig .tc .vmem S1x1x256 .f32) (harg2 : arg2.IsWhole) (arg3 : Memref sig .tc .vmem S256x9216 .fp8e5m2) (harg3 : arg3.IsWhole) (arg4 : Memref sig .tc .vmem S1x1x256 .f32) (harg4 : arg4.IsWhole) (arg6 : Memref sig .tc .vmem S1x9216 .f32) (harg6 : arg6.IsWhole) (arg7 : Memref sig .tc .vmem S2304x96 .bf16) (harg7 : arg7.IsWhole) (arg8 : Memref sig .tc .vmem S32x2304 .bf16) (harg8 : arg8.IsWhole) (arg9 : Memref sig .tc .vmem S32x9216 .bf16) (harg9 : arg9.IsWhole) (arg10 : Memref sig .tc .vmem S256x2304 .bf16) (harg10 : arg10.IsWhole) (arg11 : Memref sig .tc .vmem S32x2304 .f32) (harg11 : arg11.IsWhole) (arg12 : Memref sig .tc .vmem S32x9216 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x2304 .fp8e5m2) (harg15 : arg15.IsWhole) (arg16 : Memref sig .tc .vmem S1x1x256 .f32) (harg16 : arg16.IsWhole) (arg17 : Memref sig .tc .vmem S2304x9216 .bf16) (harg17 : arg17.IsWhole) (arg19 : Memref sig .tc .vmem S2304x256 .f32) (harg19 : arg19.IsWhole)

theorem read_W (k : Fin k0_t2_loop.trips) :
    View.readAt (Elt F) arg17.view (Rect.unit (s := S2304x9216) (k0_off9 k) S768x9216.size (k0_off9_inb k)).toLoadRect (harg17.unread w) = rowsW w k.val := by
  have hk := Nat.lt_of_lt_of_eq k.isLt trips2
  funext j
  have h0 : (j 0).val < 768 := (j 0).isLt
  rw [harg17.readAt_unread, rowsW]
  congr 1
  funext a; apply Fin.ext
  match a with
  | ⟨0, _⟩ => show (k0_off9 k) 0 + 1 * (j 0).val = (768 * k.val + (j 0).val) % 2304; have e : k0_off9 k 0 = 768 * k.val := congrFun (off9_eq k) 0; omega
  | ⟨1, _⟩ => show (k0_off9 k) 1 + 1 * (j 1).val = (j 1).val; have e : k0_off9 k 1 = 0 := congrFun (off9_eq k) 1; omega
theorem read_A (k : Fin k0_t2_loop.trips) :
    View.readAt (Elt F) arg7.view (Rect.unit (s := S2304x96) (k0_off10 k) S768x96.size (k0_off10_inb k)).toLoadRect (harg7.unread x5) = rowsA x5 k.val := by
  have hk := Nat.lt_of_lt_of_eq k.isLt trips2
  funext j
  have h0 : (j 0).val < 768 := (j 0).isLt
  rw [harg7.readAt_unread, rowsA]
  congr 1
  funext a; apply Fin.ext
  match a with
  | ⟨0, _⟩ => show (k0_off10 k) 0 + 1 * (j 0).val = (768 * k.val + (j 0).val) % 2304; have e : k0_off10 k 0 = 768 * k.val := congrFun (off10_eq k) 0; omega
  | ⟨1, _⟩ => show (k0_off10 k) 1 + 1 * (j 1).val = (j 1).val; have e : k0_off10 k 1 = 0 := congrFun (off10_eq k) 1; omega

abbrev RD : sProp 𝕄 :=
  iprop((arg17.view.loc (c : Thread nD τ) ↦[arg17.view.set]{fullShare} harg17.unread w) ∗ (arg3.view.loc (c : Thread nD τ) ↦[arg3.view.set]{fullShare} harg3.unread x2)
    ∗ (arg7.view.loc (c : Thread nD τ) ↦[arg7.view.set]{fullShare} harg7.unread x5))
abbrev GP (f : Buf (Elt F) (arg19.view.loc (c : Thread nD τ))) : sProp 𝕄 := arg19.view.loc (c : Thread nD τ) ↦[arg19.view.set]{fullShare} f

abbrev R11 (k : Fin k0_t2_loop.trips) : Rect S2304x256 := Rect.unit (s := S2304x256) (k0_off11 k) S768x256.size (k0_off11_inb k)

theorem tripRows (k : Fin k0_t2_loop.trips) (acc : FVec F S1x256 .f32) (f : Buf (Elt F) (arg19.view.loc (c : Thread nD τ))) :
    iprop(RD w x2 x5 c arg3 harg3 arg7 harg7 arg17 harg17 ∗ GP c arg19 f) ⊢ wp frame (wpE (defs₀ (F := F)) Variants.none (c : Thread nD τ) none) Set.univ
      (k0_t2_body (F := F) i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3 v6 v73 v74 k acc)
      (fun y => iprop(RD w x2 x5 c arg3 harg3 arg7 harg7 arg17 harg17
        ∗ GP c arg19 (arg19.view.writes (Elt F) f [⟨R11 k, k0_pay18 v6 v73 v74 (rowsW w k.val) x2 (rowsA x5 k.val)⟩])
        ∗ ⌜y = k0_pay19 v6 v73 v74 acc (rowsW w k.val) x2 (rowsA x5 k.val)⌝)) := by
  have hk := Nat.lt_of_lt_of_eq k.isLt trips2
  iintro ⟨⟨H17, H3, H7⟩, HG⟩
  sl_unfold [k0_t2_body]
  sl_exec
  sl_step
  have e17 := read_W w arg17 harg17 k
  have e7 := read_A x5 arg7 harg7 k
  have e3 : View.readAt (Elt F) arg3.view (Rect.unit ![0, 0] S256x9216.size inb_S256x9216_S256x9216_0_0).toLoadRect (harg3.unread x2) = x2 :=
    (View.readAt_full _ _ _).trans (harg3.read_unread x2)
  isplitl [H17 H3 H7]
  · isplitl [H17]; · iexact H17
    isplitl [H3]; · iexact H3
    iexact H7
  have e18 : k0_pay18 v6 v73 v74 (View.readAt (Elt F) arg17.view (Rect.unit (s := S2304x9216) (k0_off9 k) S768x9216.size (k0_off9_inb k)).toLoadRect (harg17.unread w))
      (View.readAt (Elt F) arg3.view (Rect.unit ![0, 0] S256x9216.size inb_S256x9216_S256x9216_0_0).toLoadRect (harg3.unread x2))
      (View.readAt (Elt F) arg7.view (Rect.unit (s := S2304x96) (k0_off10 k) S768x96.size (k0_off10_inb k)).toLoadRect (harg7.unread x5))
        = k0_pay18 v6 v73 v74 (rowsW w k.val) x2 (rowsA x5 k.val) := by rw [e17, e3, e7]
  isplitl [HG]
  · iapply (entails_of_eq (congrArg (fun p => GP c arg19 (arg19.view.writes (Elt F) f [⟨R11 k, p⟩])) e18))
    iexact HG
  ipureintro
  rw [e17, e3, e7]

theorem unread_put2 (k : Fin k0_t2_loop.trips) (d : Vec F S2304x256 .f32) :
    arg19.view.writes (Elt F) (harg19.unread (drec v6 v73 v74 w x2 x5 d k.val)) [⟨R11 k, k0_pay18 v6 v73 v74 (rowsW w k.val) x2 (rowsA x5 k.val)⟩]
      = harg19.unread (drec v6 v73 v74 w x2 x5 d (k.val + 1)) := by
  refine harg19.eq_unread ?_
  rw [View.read_writes_cons_put _ _ _ _ _ (off11_eq k), View.writes_nil, harg19.read_unread]
  rfl

set_option warn.classDefReducibility false in
/-- THE LOOP'S INVARIANT. -/
@[sl_loop] def loopInv2 (init : FVec F S1x256 .f32) (d : Vec F S2304x256 .f32) :
    LoopInvTy_k0_t2 (F := F) Unit ℕ (Pipeline.UD sig nD τ) ℕ Variants.none c none Set.univ i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3 v6 v73 v74 init where
  inv k acc := iprop(RD w x2 x5 c arg3 harg3 arg7 harg7 arg17 harg17 ∗ GP c arg19 (harg19.unread (drec v6 v73 v74 w x2 x5 d k)) ∗ ⌜acc = AMAX v6 v73 v74 w x2 x5 init k⌝)
  step k acc := by
    rw [← unread_put2 v6 v73 v74 w x2 x5 arg19 harg19 k d]
    iintro ⟨HR, HG, %ha⟩
    subst ha
    iapply (wp_wand_r Idealize.ShloMosaic.frame (wpE (defs₀ (F := F)) Variants.none (c : Thread nD τ) none) Set.univ)
    isplitl [HR HG]
    · iapply (tripRows v6 v73 v74 w x2 x5 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k (AMAX v6 v73 v74 w x2 x5 init k.val) _)
      isplitl [HR]; · iexact HR
      iexact HG
    · iintro %y ⟨HR, HG, %hy⟩
      isplitl [HR]; · iexact HR
      isplitl [HG]; · iexact HG
      ipureintro; exact hy

/-- What the loop leaves. -/
instance (init : FVec F S1x256 .f32) (d : Vec F S2304x256 .f32) : LoopExit (loopInv2 v6 v73 v74 w x2 x5 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 init d) where
  post acc := iprop(RD w x2 x5 c arg3 harg3 arg7 harg7 arg17 harg17 ∗ GP c arg19 (harg19.unread (DXT v6 v73 v74 w x2 x5)) ∗ ⌜acc = AMAX v6 v73 v74 w x2 x5 init 3⌝)
  exit acc := by
    show iprop(RD w x2 x5 c arg3 harg3 arg7 harg7 arg17 harg17 ∗ GP c arg19 (harg19.unread (drec v6 v73 v74 w x2 x5 d k0_t2_loop.trips)) ∗ ⌜acc = AMAX v6 v73 v74 w x2 x5 init k0_t2_loop.trips⌝) ⊢ _
    rw [trips2, drec_end]

end Trip
end Cert.Kernel.Hand

end
-- ==== Proof.Kernel.Runs.lean ====
/- What the body's triple and the frame share: the run of the host lines around the region, the windows' staging memrefs, the
   body's scratch operands, its transfer cells and the operand it reads in place. -/
module

public import proofs.«01_k».proof.Proof.Kernel.LoopR
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      ((h c).1 7).trans (((dats 0 c).arrAt_in 7 rfl _).trans ((hA c 7).trans (V_main_arg7 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-- Each window's current staging memref at point `t`, spelled as the pipeline passes it (`bodyAt0`), and its wholeness. -/
abbrev ms0_0 (t : Fin cfg0.N) : Memref sig .tc .vmem S256x2304 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x9216 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x9216 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2304x96 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x2304 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x9216 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2304 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x2304 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x9216 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x32 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x2304 .fp8e5m2 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x256 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S2304x9216 .bf16 := Memref.whole cc0_scratch0
abbrev scM0_1 : Memref sig .tc .vmem S2x128x9216 .fp8e4m3 := Memref.whole cc0_scratch1
abbrev scM0_2 : Memref sig .tc .vmem S2304x256 .f32 := Memref.whole cc0_scratch2
/-- The scratch `arg17` the kernel carries between points, as a view: what it holds is stated through it. -/
abbrev VS0_0 : View sig .tc .vmem S2304x9216 .bf16 := scM0_0.view
/-- The operands left in HBM that the body copies into scratch itself, whole. -/
abbrev hbM0_0 : Memref sig .tc .hbm S2304x9216 .fp8e4m3 := Memref.whole main_v2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 24, SemLoc.dma 25] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 24) 0 ∗ semVal ((c : Thread nD τ), SemLoc.dma 25) 0) := by
  rw [Pipeline.ownSems0_eq_of_list c osem0 [0, 1] (by decide) (by decide)]; rfl
/-- The HBM operands the body moves, as references: unscoped, no window's array (`Pipeline.restRefs`). -/
def H0 : Finset (Ref sig .tc) := {main_v2}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v2)) := by
  rw [BI.bigSep_eq_bigSepL_of_eq [main_v2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 24) 0 ∗ semVal ((c : Thread nD τ), SemLoc.dma 25) 0) ∗ iprop(hbPt0 c hbM0_0 (V m c main_v2))) := by
  rw [Pipeline.ΦD_eq, scopedRest0_eq, ownSems00_eq, hbmPts0_eq]; simp only [scM0_0, scM0_1, scM0_2, owns_whole]; try rfl

end Cert.Kernel.Hand

end
-- ==== Proof.Kernel.Values.lean ====
/- What one grid point computes, as functions of the blocks it reads: every payload of the body at its operands. -/
module

public import proofs.«01_k».proof.Proof.Kernel.Runs
public import Idealize.ShloMosaic.Lib.Pointwise

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Values
variable (x0 : Vec F S256x2304 .fp8e4m3) (x1 : Vec F S1x1x256 .f32) (x2 : Vec F S256x9216 .fp8e5m2) (x3 : Vec F S1x1x256 .f32)
  (x5 : Vec F S2304x96 .bf16) (x6 : Vec F S32x2304 .bf16) (x7 : Vec F S32x9216 .bf16) (w : Vec F S2304x9216 .bf16)

/-- `t` and `xa` of the point's tokens; -/
abbrev TT : Vec F S256x32 .f32 := k0_pay8 x3 x7 x2
abbrev XX : Vec F S256x32 .f32 := k0_pay10 x1 x6 x0
/-- the two gradients, from `a` and `b` before the point; -/
abbrev DAT (a : Vec F S32x2304 .f32) : Vec F S32x2304 .f32 := k0_pay12 (k0_pay11 x1 x3 x7 x2) x0 a
abbrev DBT (b : Vec F S32x9216 .f32) : Vec F S32x9216 .f32 := k0_pay13 (k0_pay5 x3) (k0_pay9 x1 x6 x0) x2 b
/-- the transposed gradient of the point's tokens and its rows' maximum; -/
abbrev DD : Vec F S2304x256 .f32 := DXT (k0_pay5 x3) (k0_pay14 (k0_pay6 x7 x2)) (k0_pay15 (k0_pay6 x7 x2)) w x2 x5
abbrev MX : Vec F S1x256 .f32 := AMAX (k0_pay5 x3) (k0_pay14 (k0_pay6 x7 x2)) (k0_pay15 (k0_pay6 x7 x2)) w x2 x5 k0_pay16 3
/-- the exponent field, whether it is zero, the scale and its inverse in columns. -/
def EXPO (mx : Vec F S1x256 .f32) : IVec S1x256 32 := k0_pay23 (k0_pay20 mx) (k0_pay21 mx) (k0_pay22 mx) 23#32
def EZ (mx : Vec F S1x256 .f32) : IVec S1x256 1 := k0_pay24 (k0_pay20 mx) (k0_pay21 mx) (k0_pay22 mx) 23#32
def SCL (mx : Vec F S1x256 .f32) : Vec F S1x1x256 .f32 := k0_pay26 (EXPO mx) (EZ mx) 255#32
def INV (mx : Vec F S1x256 .f32) : Vec F S256x128 .f32 := k0_pay27 (EXPO mx) (EZ mx) 255#32

/-- Rows `128 k` to `128 k + 127` of the transposed gradient, -/
def rowsD (D : Vec F S2304x256 .f32) (k : ℕ) : Vec F S128x256 .f32 := fun j =>
  D (ix2 ⟨(128 * k + (j 0).val) % 2304, Nat.mod_lt _ (by decide)⟩ (j 1))
/-- the gradient: columns `128 k` to `128 k + 127` are those rows transposed and rounded; -/
def DXO (D : Vec F S2304x256 .f32) : Vec F S256x2304 .bf16 := fun y =>
  k0_pay29 (rowsD D ((y 1).val / 128)) (ix2 (y 0) ⟨(y 1).val % 128, Nat.mod_lt _ (by decide)⟩)
/-- and its codes. -/
def COD (iv : Vec F S256x128 .f32) (D : Vec F S2304x256 .f32) : Vec F S256x2304 .fp8e5m2 := fun y =>
  k0_pay36 iv (rowsD D ((y 1).val / 128)) (ix2 (y 0) ⟨(y 1).val % 128, Nat.mod_lt _ (by decide)⟩)

end Values

/-! Reading a row block, and a row of column blocks written. -/

theorem read_D {sp : Space} (v : View sig .tc sp S2304x256 .f32) (f : v.ty.Contents (Elt F)) (D : Vec F S2304x256 .f32) (hD : v.read (Elt F) f = D)
    (k : ℕ) (hk : k < 18) {off : Fin 2 → ℕ} (ho : off = ![128 * k, 0]) (inb) :
    v.readAt (Elt F) (Rect.unit (s := S2304x256) off S128x256.size inb).toLoadRect f = rowsD D k := by
  subst ho
  funext j
  rw [View.readAt_apply, hD]
  have h0 : (j 0).val < 128 := (j 0).isLt
  unfold rowsD
  refine congrArg D (funext fun a => Fin.ext ?_)
  exact match a with
  | ⟨0, _⟩ => show 128 * k + 1 * (j 0).val = (128 * k + (j 0).val) % 2304 by omega
  | ⟨1, _⟩ => show 0 + 1 * (j 1).val = (j 1).val by omega

/-- Column block `k` of what `G` names is what the piece at that block must hold. -/
theorem col_piece {e : EltTy} (G : Vec F S256x2304 e) (P : ℕ → Vec F S256x128 e)
    (hG : ∀ y : S256x2304.Idx, G y = P ((y 1).val / 128) (ix2 (y 0) ⟨(y 1).val % 128, Nat.mod_lt _ (by decide)⟩))
    (k : ℕ) {off : Fin 2 → ℕ} (ho : off = ![0, 128 * k]) (inb) (x : (Rect.unit (s := S256x2304) off S256x128.size inb).shape.Idx) :
    P k x = G ((Rect.unit (s := S256x2304) off S256x128.size inb).emb x) := by
  subst ho
  have h1 : (x 1).val < 128 := (x 1).isLt
  rw [hG]
  have e1 : (((Rect.unit (s := S256x2304) ![0, 128 * k] S256x128.size inb).emb x) 1).val = 128 * k + 1 * (x 1).val := rfl
  have e0 : (((Rect.unit (s := S256x2304) ![0, 128 * k] S256x128.size inb).emb x) 0).val = 0 + 1 * (x 0).val := rfl
  have ek : (((Rect.unit (s := S256x2304) ![0, 128 * k] S256x128.size inb).emb x) 1).val / 128 = k := by rw [e1]; omega
  rw [ek]
  refine congrArg (P k) (funext fun a => Fin.ext ?_)
  exact match a with
  | ⟨0, _⟩ => show (x 0).val = (((Rect.unit (s := S256x2304) ![0, 128 * k] S256x128.size inb).emb x) 0).val by rw [e0]; omega
  | ⟨1, _⟩ => show (x 1).val = (((Rect.unit (s := S256x2304) ![0, 128 * k] S256x128.size inb).emb x) 1).val % 128 by rw [e1]; omega

/-- Every column lies in one of the blocks. -/
theorem col_mem (y : S256x2304.Idx) {off : Fin 2 → ℕ} (ho : off = ![0, 128 * ((y 1).val / 128)]) (inb) :
    y ∈ (Rect.unit (s := S256x2304) off S256x128.size inb).set := by
  subst ho
  rw [Rect.mem_set_unit]
  intro a
  have h0 : (y 0).val < 256 := (y 0).isLt
  exact match a with
  | ⟨0, _⟩ => show 0 ≤ (y 0).val ∧ (y 0).val < 0 + 256 by omega
  | ⟨1, _⟩ => show 128 * ((y 1).val / 128) ≤ (y 1).val ∧ (y 1).val < 128 * ((y 1).val / 128) + 128 by omega

/-- The 18 column blocks stored make the gradient. -/
theorem dx_all {sp : Space} (v : View sig .tc sp S256x2304 .bf16) (f : v.ty.Contents (Elt F)) (D : Vec F S2304x256 .f32)
    (p0 p1 p2 p3 p4 p5 p6 p7 p8 p9 p10 p11 p12 p13 p14 p15 p16 p17 : Vec F S256x128 .bf16)
    (h0 : p0 = k0_pay29 (rowsD D 0))
    (h1 : p1 = k0_pay29 (rowsD D 1))
    (h2 : p2 = k0_pay29 (rowsD D 2))
    (h3 : p3 = k0_pay29 (rowsD D 3))
    (h4 : p4 = k0_pay29 (rowsD D 4))
    (h5 : p5 = k0_pay29 (rowsD D 5))
    (h6 : p6 = k0_pay29 (rowsD D 6))
    (h7 : p7 = k0_pay29 (rowsD D 7))
    (h8 : p8 = k0_pay29 (rowsD D 8))
    (h9 : p9 = k0_pay29 (rowsD D 9))
    (h10 : p10 = k0_pay29 (rowsD D 10))
    (h11 : p11 = k0_pay29 (rowsD D 11))
    (h12 : p12 = k0_pay29 (rowsD D 12))
    (h13 : p13 = k0_pay29 (rowsD D 13))
    (h14 : p14 = k0_pay29 (rowsD D 14))
    (h15 : p15 = k0_pay29 (rowsD D 15))
    (h16 : p16 = k0_pay29 (rowsD D 16))
    (h17 : p17 = k0_pay29 (rowsD D 17))
    : v.read (Elt F) (v.writes (Elt F) f [⟨Rect.unit (s := S256x2304) ![0, 2176] S256x128.size inb_S256x2304_S256x128_0_2176, p17⟩, ⟨Rect.unit (s := S256x2304) ![0, 2048] S256x128.size inb_S256x2304_S256x128_0_2048, p16⟩, ⟨Rect.unit (s := S256x2304) ![0, 1920] S256x128.size inb_S256x2304_S256x128_0_1920, p15⟩, ⟨Rect.unit (s := S256x2304) ![0, 1792] S256x128.size inb_S256x2304_S256x128_0_1792, p14⟩, ⟨Rect.unit (s := S256x2304) ![0, 1664] S256x128.size inb_S256x2304_S256x128_0_1664, p13⟩, ⟨Rect.unit (s := S256x2304) ![0, 1536] S256x128.size inb_S256x2304_S256x128_0_1536, p12⟩, ⟨Rect.unit (s := S256x2304) ![0, 1408] S256x128.size inb_S256x2304_S256x128_0_1408, p11⟩, ⟨Rect.unit (s := S256x2304) ![0, 1280] S256x128.size inb_S256x2304_S256x128_0_1280, p10⟩, ⟨Rect.unit (s := S256x2304) ![0, 1152] S256x128.size inb_S256x2304_S256x128_0_1152, p9⟩, ⟨Rect.unit (s := S256x2304) ![0, 1024] S256x128.size inb_S256x2304_S256x128_0_1024, p8⟩, ⟨Rect.unit (s := S256x2304) ![0, 896] S256x128.size inb_S256x2304_S256x128_0_896, p7⟩, ⟨Rect.unit (s := S256x2304) ![0, 768] S256x128.size inb_S256x2304_S256x128_0_768, p6⟩, ⟨Rect.unit (s := S256x2304) ![0, 640] S256x128.size inb_S256x2304_S256x128_0_640, p5⟩, ⟨Rect.unit (s := S256x2304) ![0, 512] S256x128.size inb_S256x2304_S256x128_0_512, p4⟩, ⟨Rect.unit (s := S256x2304) ![0, 384] S256x128.size inb_S256x2304_S256x128_0_384, p3⟩, ⟨Rect.unit (s := S256x2304) ![0, 256] S256x128.size inb_S256x2304_S256x128_0_256, p2⟩, ⟨Rect.unit (s := S256x2304) ![0, 128] S256x128.size inb_S256x2304_S256x128_0_128, p1⟩, ⟨Rect.unit (s := S256x2304) ![0, 0] S256x128.size inb_S256x2304_S256x128_0_0, p0⟩]) = DXO D := by
  subst h0 h1 h2 h3 h4 h5 h6 h7 h8 h9 h10 h11 h12 h13 h14 h15 h16 h17
  refine funext fun y => View.read_writes_apply_of_pieces _ _ (DXO D) _ ?_ y ?_
  · refine List.forall_mem_cons.2 ⟨fun x => col_piece (DXO D) (fun k => k0_pay29 (rowsD D k)) (fun _ => rfl) 17 rfl inb_S256x2304_S256x128_0_2176 x, ?_⟩
    refine List.forall_mem_cons.2 ⟨fun x => col_piece (DXO D) (fun k => k0_pay29 (rowsD D k)) (fun _ => rfl) 16 rfl inb_S256x2304_S256x128_0_2048 x, ?_⟩
    refine List.forall_mem_cons.2 ⟨fun x => col_piece (DXO D) (fun k => k0_pay29 (rowsD D k)) (fun _ => rfl) 15 rfl inb_S256x2304_S256x128_0_1920 x, ?_⟩
    refine List.forall_mem_cons.2 ⟨fun x => col_piece (DXO D) (fun k => k0_pay29 (rowsD D k)) (fun _ => rfl) 14 rfl inb_S256x2304_S256x128_0_1792 x, ?_⟩
    refine List.forall_mem_cons.2 ⟨fun x => col_piece (DXO D) (fun k => k0_pay29 (rowsD D k)) (fun _ => rfl) 13 rfl inb_S256x2304_S256x128_0_1664 x, ?_⟩
    refine List.forall_mem_cons.2 ⟨fun x => col_piece (DXO D) (fun k => k0_pay29 (rowsD D k)) (fun _ => rfl) 12 rfl inb_S256x2304_S256x128_0_1536 x, ?_⟩
    refine List.forall_mem_cons.2 ⟨fun x => col_piece (DXO D) (fun k => k0_pay29 (rowsD D k)) (fun _ => rfl) 11 rfl inb_S256x2304_S256x128_0_1408 x, ?_⟩
    refine List.forall_mem_cons.2 ⟨fun x => col_piece (DXO D) (fun k => k0_pay29 (rowsD D k)) (fun _ => rfl) 10 rfl inb_S256x2304_S256x128_0_1280 x, ?_⟩
    refine List.forall_mem_cons.2 ⟨fun x => col_piece (DXO D) (fun k => k0_pay29 (rowsD D k)) (fun _ => rfl) 9 rfl inb_S256x2304_S256x128_0_1152 x, ?_⟩
    refine List.forall_mem_cons.2 ⟨fun x => col_piece (DXO D) (fun k => k0_pay29 (rowsD D k)) (fun _ => rfl) 8 rfl inb_S256x2304_S256x128_0_1024 x, ?_⟩
    refine List.forall_mem_cons.2 ⟨fun x => col_piece (DXO D) (fun k => k0_pay29 (rowsD D k)) (fun _ => rfl) 7 rfl inb_S256x2304_S256x128_0_896 x, ?_⟩
    refine List.forall_mem_cons.2 ⟨fun x => col_piece (DXO D) (fun k => k0_pay29 (rowsD D k)) (fun _ => rfl) 6 rfl inb_S256x2304_S256x128_0_768 x, ?_⟩
    refine List.forall_mem_cons.2 ⟨fun x => col_piece (DXO D) (fun k => k0_pay29 (rowsD D k)) (fun _ => rfl) 5 rfl inb_S256x2304_S256x128_0_640 x, ?_⟩
    refine List.forall_mem_cons.2 ⟨fun x => col_piece (DXO D) (fun k => k0_pay29 (rowsD D k)) (fun _ => rfl) 4 rfl inb_S256x2304_S256x128_0_512 x, ?_⟩
    refine List.forall_mem_cons.2 ⟨fun x => col_piece (DXO D) (fun k => k0_pay29 (rowsD D k)) (fun _ => rfl) 3 rfl inb_S256x2304_S256x128_0_384 x, ?_⟩
    refine List.forall_mem_cons.2 ⟨fun x => col_piece (DXO D) (fun k => k0_pay29 (rowsD D k)) (fun _ => rfl) 2 rfl inb_S256x2304_S256x128_0_256 x, ?_⟩
    refine List.forall_mem_cons.2 ⟨fun x => col_piece (DXO D) (fun k => k0_pay29 (rowsD D k)) (fun _ => rfl) 1 rfl inb_S256x2304_S256x128_0_128 x, ?_⟩
    refine List.forall_mem_cons.2 ⟨fun x => col_piece (DXO D) (fun k => k0_pay29 (rowsD D k)) (fun _ => rfl) 0 rfl inb_S256x2304_S256x128_0_0 x, ?_⟩
    exact fun p hp => absurd hp List.not_mem_nil
  · have h1 : (y 1).val < 2304 := (y 1).isLt
    rcases (by omega : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11 ∨ (y 1).val / 128 = 12 ∨ (y 1).val / 128 = 13 ∨ (y 1).val / 128 = 14 ∨ (y 1).val / 128 = 15 ∨ (y 1).val / 128 = 16 ∨ (y 1).val / 128 = 17) with h | h | h | h | h | h | h | h | h | h | h | h | h | h | h | h | h | h
    · exact ⟨_, (.tail _ (.tail _ (.tail _ (.tail _ (.tail _ (.tail _ (.tail _ (.tail _ (.tail _ (.tail _ (.tail _ (.tail _ (.tail _ (.tail _ (.tail _ (.tail _ (.tail _ (.head _)))))))))))))))))), col_mem y (by rw [h]) inb_S256x2304_S256x128_0_0⟩
    · exact ⟨_, (.tail _ (.tail _ (.tail _ (.tail _ (.tail _ (.tail _ (.tail _ (.tail _ (.tail _ (.tail _ (.tail _ (.tail _ (.tail _ (.tail _ (.tail _ (.tail _ (.head _))))))))))))))))), col_mem y (by rw [h]) inb_S256x2304_S256x128_0_128⟩
    · exact ⟨_, (.tail _ (.tail _ (.tail _ (.tail _ (.tail _ (.tail _ (.tail _ (.tail _ (.tail _ (.tail _ (.tail _ (.tail _ (.tail _ (.tail _ (.tail _ (.head _)))))))))))))))), col_mem y (by rw [h]) inb_S256x2304_S256x128_0_256⟩
    · exact ⟨_, (.tail _ (.tail _ (.tail _ (.tail _ (.tail _ (.tail _ (.tail _ (.tail _ (.tail _ (.tail _ (.tail _ (.tail _ (.tail _ (.tail _ (.head _))))))))))))))), col_mem y (by rw [h]) inb_S256x2304_S256x128_0_384⟩
    · exact ⟨_, (.tail _ (.tail _ (.tail _ (.tail _ (.tail _ (.tail _ (.tail _ (.tail _ (.tail _ (.tail _ (.tail _ (.tail _ (.tail _ (.head _)))))))))))))), col_mem y (by rw [h]) inb_S256x2304_S256x128_0_512⟩
    · exact ⟨_, (.tail _ (.tail _ (.tail _ (.tail _ (.tail _ (.tail _ (.tail _ (.tail _ (.tail _ (.tail _ (.tail _ (.tail _ (.head _))))))))))))), col_mem y (by rw [h]) inb_S256x2304_S256x128_0_640⟩
    · exact ⟨_, (.tail _ (.tail _ (.tail _ (.tail _ (.tail _ (.tail _ (.tail _ (.tail _ (.tail _ (.tail _ (.tail _ (.head _)))))))))))), col_mem y (by rw [h]) inb_S256x2304_S256x128_0_768⟩
    · exact ⟨_, (.tail _ (.tail _ (.tail _ (.tail _ (.tail _ (.tail _ (.tail _ (.tail _ (.tail _ (.tail _ (.head _))))))))))), col_mem y (by rw [h]) inb_S256x2304_S256x128_0_896⟩
    · exact ⟨_, (.tail _ (.tail _ (.tail _ (.tail _ (.tail _ (.tail _ (.tail _ (.tail _ (.tail _ (.head _)))))))))), col_mem y (by rw [h]) inb_S256x2304_S256x128_0_1024⟩
    · exact ⟨_, (.tail _ (.tail _ (.tail _ (.tail _ (.tail _ (.tail _ (.tail _ (.tail _ (.head _))))))))), col_mem y (by rw [h]) inb_S256x2304_S256x128_0_1152⟩
    · exact ⟨_, (.tail _ (.tail _ (.tail _ (.tail _ (.tail _ (.tail _ (.tail _ (.head _)))))))), col_mem y (by rw [h]) inb_S256x2304_S256x128_0_1280⟩
    · exact ⟨_, (.tail _ (.tail _ (.tail _ (.tail _ (.tail _ (.tail _ (.head _))))))), col_mem y (by rw [h]) inb_S256x2304_S256x128_0_1408⟩
    · exact ⟨_, (.tail _ (.tail _ (.tail _ (.tail _ (.tail _ (.head _)))))), col_mem y (by rw [h]) inb_S256x2304_S256x128_0_1536⟩
    · exact ⟨_, (.tail _ (.tail _ (.tail _ (.tail _ (.head _))))), col_mem y (by rw [h]) inb_S256x2304_S256x128_0_1664⟩
    · exact ⟨_, (.tail _ (.tail _ (.tail _ (.head _)))), col_mem y (by rw [h]) inb_S256x2304_S256x128_0_1792⟩
    · exact ⟨_, (.tail _ (.tail _ (.head _))), col_mem y (by rw [h]) inb_S256x2304_S256x128_0_1920⟩
    · exact ⟨_, (.tail _ (.head _)), col_mem y (by rw [h]) inb_S256x2304_S256x128_0_2048⟩
    · exact ⟨_, (.head _), col_mem y (by rw [h]) inb_S256x2304_S256x128_0_2176⟩

/-- The 18 column blocks stored make the codes. -/
theorem cod_all {sp : Space} (v : View sig .tc sp S256x2304 .fp8e5m2) (f : v.ty.Contents (Elt F)) (iv : Vec F S256x128 .f32) (D : Vec F S2304x256 .f32)
    (p0 p1 p2 p3 p4 p5 p6 p7 p8 p9 p10 p11 p12 p13 p14 p15 p16 p17 : Vec F S256x128 .fp8e5m2)
    (h0 : p0 = k0_pay36 iv (rowsD D 0))
    (h1 : p1 = k0_pay36 iv (rowsD D 1))
    (h2 : p2 = k0_pay36 iv (rowsD D 2))
    (h3 : p3 = k0_pay36 iv (rowsD D 3))
    (h4 : p4 = k0_pay36 iv (rowsD D 4))
    (h5 : p5 = k0_pay36 iv (rowsD D 5))
    (h6 : p6 = k0_pay36 iv (rowsD D 6))
    (h7 : p7 = k0_pay36 iv (rowsD D 7))
    (h8 : p8 = k0_pay36 iv (rowsD D 8))
    (h9 : p9 = k0_pay36 iv (rowsD D 9))
    (h10 : p10 = k0_pay36 iv (rowsD D 10))
    (h11 : p11 = k0_pay36 iv (rowsD D 11))
    (h12 : p12 = k0_pay36 iv (rowsD D 12))
    (h13 : p13 = k0_pay36 iv (rowsD D 13))
    (h14 : p14 = k0_pay36 iv (rowsD D 14))
    (h15 : p15 = k0_pay36 iv (rowsD D 15))
    (h16 : p16 = k0_pay36 iv (rowsD D 16))
    (h17 : p17 = k0_pay36 iv (rowsD D 17))
    : v.read (Elt F) (v.writes (Elt F) f [⟨Rect.unit (s := S256x2304) ![0, 2176] S256x128.size inb_S256x2304_S256x128_0_2176, p17⟩, ⟨Rect.unit (s := S256x2304) ![0, 2048] S256x128.size inb_S256x2304_S256x128_0_2048, p16⟩, ⟨Rect.unit (s := S256x2304) ![0, 1920] S256x128.size inb_S256x2304_S256x128_0_1920, p15⟩, ⟨Rect.unit (s := S256x2304) ![0, 1792] S256x128.size inb_S256x2304_S256x128_0_1792, p14⟩, ⟨Rect.unit (s := S256x2304) ![0, 1664] S256x128.size inb_S256x2304_S256x128_0_1664, p13⟩, ⟨Rect.unit (s := S256x2304) ![0, 1536] S256x128.size inb_S256x2304_S256x128_0_1536, p12⟩, ⟨Rect.unit (s := S256x2304) ![0, 1408] S256x128.size inb_S256x2304_S256x128_0_1408, p11⟩, ⟨Rect.unit (s := S256x2304) ![0, 1280] S256x128.size inb_S256x2304_S256x128_0_1280, p10⟩, ⟨Rect.unit (s := S256x2304) ![0, 1152] S256x128.size inb_S256x2304_S256x128_0_1152, p9⟩, ⟨Rect.unit (s := S256x2304) ![0, 1024] S256x128.size inb_S256x2304_S256x128_0_1024, p8⟩, ⟨Rect.unit (s := S256x2304) ![0, 896] S256x128.size inb_S256x2304_S256x128_0_896, p7⟩, ⟨Rect.unit (s := S256x2304) ![0, 768] S256x128.size inb_S256x2304_S256x128_0_768, p6⟩, ⟨Rect.unit (s := S256x2304) ![0, 640] S256x128.size inb_S256x2304_S256x128_0_640, p5⟩, ⟨Rect.unit (s := S256x2304) ![0, 512] S256x128.size inb_S256x2304_S256x128_0_512, p4⟩, ⟨Rect.unit (s := S256x2304) ![0, 384] S256x128.size inb_S256x2304_S256x128_0_384, p3⟩, ⟨Rect.unit (s := S256x2304) ![0, 256] S256x128.size inb_S256x2304_S256x128_0_256, p2⟩, ⟨Rect.unit (s := S256x2304) ![0, 128] S256x128.size inb_S256x2304_S256x128_0_128, p1⟩, ⟨Rect.unit (s := S256x2304) ![0, 0] S256x128.size inb_S256x2304_S256x128_0_0, p0⟩]) = COD iv D := by
  subst h0 h1 h2 h3 h4 h5 h6 h7 h8 h9 h10 h11 h12 h13 h14 h15 h16 h17
  refine funext fun y => View.read_writes_apply_of_pieces _ _ (COD iv D) _ ?_ y ?_
  · refine List.forall_mem_cons.2 ⟨fun x => col_piece (COD iv D) (fun k => k0_pay36 iv (rowsD D k)) (fun _ => rfl) 17 rfl inb_S256x2304_S256x128_0_2176 x, ?_⟩
    refine List.forall_mem_cons.2 ⟨fun x => col_piece (COD iv D) (fun k => k0_pay36 iv (rowsD D k)) (fun _ => rfl) 16 rfl inb_S256x2304_S256x128_0_2048 x, ?_⟩
    refine List.forall_mem_cons.2 ⟨fun x => col_piece (COD iv D) (fun k => k0_pay36 iv (rowsD D k)) (fun _ => rfl) 15 rfl inb_S256x2304_S256x128_0_1920 x, ?_⟩
    refine List.forall_mem_cons.2 ⟨fun x => col_piece (COD iv D) (fun k => k0_pay36 iv (rowsD D k)) (fun _ => rfl) 14 rfl inb_S256x2304_S256x128_0_1792 x, ?_⟩
    refine List.forall_mem_cons.2 ⟨fun x => col_piece (COD iv D) (fun k => k0_pay36 iv (rowsD D k)) (fun _ => rfl) 13 rfl inb_S256x2304_S256x128_0_1664 x, ?_⟩
    refine List.forall_mem_cons.2 ⟨fun x => col_piece (COD iv D) (fun k => k0_pay36 iv (rowsD D k)) (fun _ => rfl) 12 rfl inb_S256x2304_S256x128_0_1536 x, ?_⟩
    refine List.forall_mem_cons.2 ⟨fun x => col_piece (COD iv D) (fun k => k0_pay36 iv (rowsD D k)) (fun _ => rfl) 11 rfl inb_S256x2304_S256x128_0_1408 x, ?_⟩
    refine List.forall_mem_cons.2 ⟨fun x => col_piece (COD iv D) (fun k => k0_pay36 iv (rowsD D k)) (fun _ => rfl) 10 rfl inb_S256x2304_S256x128_0_1280 x, ?_⟩
    refine List.forall_mem_cons.2 ⟨fun x => col_piece (COD iv D) (fun k => k0_pay36 iv (rowsD D k)) (fun _ => rfl) 9 rfl inb_S256x2304_S256x128_0_1152 x, ?_⟩
    refine List.forall_mem_cons.2 ⟨fun x => col_piece (COD iv D) (fun k => k0_pay36 iv (rowsD D k)) (fun _ => rfl) 8 rfl inb_S256x2304_S256x128_0_1024 x, ?_⟩
    refine List.forall_mem_cons.2 ⟨fun x => col_piece (COD iv D) (fun k => k0_pay36 iv (rowsD D k)) (fun _ => rfl) 7 rfl inb_S256x2304_S256x128_0_896 x, ?_⟩
    refine List.forall_mem_cons.2 ⟨fun x => col_piece (COD iv D) (fun k => k0_pay36 iv (rowsD D k)) (fun _ => rfl) 6 rfl inb_S256x2304_S256x128_0_768 x, ?_⟩
    refine List.forall_mem_cons.2 ⟨fun x => col_piece (COD iv D) (fun k => k0_pay36 iv (rowsD D k)) (fun _ => rfl) 5 rfl inb_S256x2304_S256x128_0_640 x, ?_⟩
    refine List.forall_mem_cons.2 ⟨fun x => col_piece (COD iv D) (fun k => k0_pay36 iv (rowsD D k)) (fun _ => rfl) 4 rfl inb_S256x2304_S256x128_0_512 x, ?_⟩
    refine List.forall_mem_cons.2 ⟨fun x => col_piece (COD iv D) (fun k => k0_pay36 iv (rowsD D k)) (fun _ => rfl) 3 rfl inb_S256x2304_S256x128_0_384 x, ?_⟩
    refine List.forall_mem_cons.2 ⟨fun x => col_piece (COD iv D) (fun k => k0_pay36 iv (rowsD D k)) (fun _ => rfl) 2 rfl inb_S256x2304_S256x128_0_256 x, ?_⟩
    refine List.forall_mem_cons.2 ⟨fun x => col_piece (COD iv D) (fun k => k0_pay36 iv (rowsD D k)) (fun _ => rfl) 1 rfl inb_S256x2304_S256x128_0_128 x, ?_⟩
    refine List.forall_mem_cons.2 ⟨fun x => col_piece (COD iv D) (fun k => k0_pay36 iv (rowsD D k)) (fun _ => rfl) 0 rfl inb_S256x2304_S256x128_0_0 x, ?_⟩
    exact fun p hp => absurd hp List.not_mem_nil
  · have h1 : (y 1).val < 2304 := (y 1).isLt
    rcases (by omega : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11 ∨ (y 1).val / 128 = 12 ∨ (y 1).val / 128 = 13 ∨ (y 1).val / 128 = 14 ∨ (y 1).val / 128 = 15 ∨ (y 1).val / 128 = 16 ∨ (y 1).val / 128 = 17) with h | h | h | h | h | h | h | h | h | h | h | h | h | h | h | h | h | h
    · exact ⟨_, (.tail _ (.tail _ (.tail _ (.tail _ (.tail _ (.tail _ (.tail _ (.tail _ (.tail _ (.tail _ (.tail _ (.tail _ (.tail _ (.tail _ (.tail _ (.tail _ (.tail _ (.head _)))))))))))))))))), col_mem y (by rw [h]) inb_S256x2304_S256x128_0_0⟩
    · exact ⟨_, (.tail _ (.tail _ (.tail _ (.tail _ (.tail _ (.tail _ (.tail _ (.tail _ (.tail _ (.tail _ (.tail _ (.tail _ (.tail _ (.tail _ (.tail _ (.tail _ (.head _))))))))))))))))), col_mem y (by rw [h]) inb_S256x2304_S256x128_0_128⟩
    · exact ⟨_, (.tail _ (.tail _ (.tail _ (.tail _ (.tail _ (.tail _ (.tail _ (.tail _ (.tail _ (.tail _ (.tail _ (.tail _ (.tail _ (.tail _ (.tail _ (.head _)))))))))))))))), col_mem y (by rw [h]) inb_S256x2304_S256x128_0_256⟩
    · exact ⟨_, (.tail _ (.tail _ (.tail _ (.tail _ (.tail _ (.tail _ (.tail _ (.tail _ (.tail _ (.tail _ (.tail _ (.tail _ (.tail _ (.tail _ (.head _))))))))))))))), col_mem y (by rw [h]) inb_S256x2304_S256x128_0_384⟩
    · exact ⟨_, (.tail _ (.tail _ (.tail _ (.tail _ (.tail _ (.tail _ (.tail _ (.tail _ (.tail _ (.tail _ (.tail _ (.tail _ (.tail _ (.head _)))))))))))))), col_mem y (by rw [h]) inb_S256x2304_S256x128_0_512⟩
    · exact ⟨_, (.tail _ (.tail _ (.tail _ (.tail _ (.tail _ (.tail _ (.tail _ (.tail _ (.tail _ (.tail _ (.tail _ (.tail _ (.head _))))))))))))), col_mem y (by rw [h]) inb_S256x2304_S256x128_0_640⟩
    · exact ⟨_, (.tail _ (.tail _ (.tail _ (.tail _ (.tail _ (.tail _ (.tail _ (.tail _ (.tail _ (.tail _ (.tail _ (.head _)))))))))))), col_mem y (by rw [h]) inb_S256x2304_S256x128_0_768⟩
    · exact ⟨_, (.tail _ (.tail _ (.tail _ (.tail _ (.tail _ (.tail _ (.tail _ (.tail _ (.tail _ (.tail _ (.head _))))))))))), col_mem y (by rw [h]) inb_S256x2304_S256x128_0_896⟩
    · exact ⟨_, (.tail _ (.tail _ (.tail _ (.tail _ (.tail _ (.tail _ (.tail _ (.tail _ (.tail _ (.head _)))))))))), col_mem y (by rw [h]) inb_S256x2304_S256x128_0_1024⟩
    · exact ⟨_, (.tail _ (.tail _ (.tail _ (.tail _ (.tail _ (.tail _ (.tail _ (.tail _ (.head _))))))))), col_mem y (by rw [h]) inb_S256x2304_S256x128_0_1152⟩
    · exact ⟨_, (.tail _ (.tail _ (.tail _ (.tail _ (.tail _ (.tail _ (.tail _ (.head _)))))))), col_mem y (by rw [h]) inb_S256x2304_S256x128_0_1280⟩
    · exact ⟨_, (.tail _ (.tail _ (.tail _ (.tail _ (.tail _ (.tail _ (.head _))))))), col_mem y (by rw [h]) inb_S256x2304_S256x128_0_1408⟩
    · exact ⟨_, (.tail _ (.tail _ (.tail _ (.tail _ (.tail _ (.head _)))))), col_mem y (by rw [h]) inb_S256x2304_S256x128_0_1536⟩
    · exact ⟨_, (.tail _ (.tail _ (.tail _ (.tail _ (.head _))))), col_mem y (by rw [h]) inb_S256x2304_S256x128_0_1664⟩
    · exact ⟨_, (.tail _ (.tail _ (.tail _ (.head _)))), col_mem y (by rw [h]) inb_S256x2304_S256x128_0_1792⟩
    · exact ⟨_, (.tail _ (.tail _ (.head _))), col_mem y (by rw [h]) inb_S256x2304_S256x128_0_1920⟩
    · exact ⟨_, (.tail _ (.head _)), col_mem y (by rw [h]) inb_S256x2304_S256x128_0_2048⟩
    · exact ⟨_, (.head _), col_mem y (by rw [h]) inb_S256x2304_S256x128_0_2176⟩

end Cert.Kernel.Hand

end
-- ==== Proof.Kernel.BodyB.lean ====
/- The body at a grid point after the first: the converted weights and the two gradients carried, everything else computed
   from the point's blocks. -/
module

public import proofs.«01_k».proof.Proof.Kernel.Values

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem bodyB (c : Dev nD) (i : grid0.Coords) (arg1 : Memref sig .tc .vmem S256x2304 .fp8e4m3) (harg1 : arg1.IsWhole) (arg2 : Memref sig .tc .vmem S1x1x256 .f32) (harg2 : arg2.IsWhole) (arg3 : Memref sig .tc .vmem S256x9216 .fp8e5m2) (harg3 : arg3.IsWhole) (arg4 : Memref sig .tc .vmem S1x1x256 .f32) (harg4 : arg4.IsWhole) (arg6 : Memref sig .tc .vmem S1x9216 .f32) (harg6 : arg6.IsWhole) (arg7 : Memref sig .tc .vmem S2304x96 .bf16) (harg7 : arg7.IsWhole) (arg8 : Memref sig .tc .vmem S32x2304 .bf16) (harg8 : arg8.IsWhole) (arg9 : Memref sig .tc .vmem S32x9216 .bf16) (harg9 : arg9.IsWhole) (arg10 : Memref sig .tc .vmem S256x2304 .bf16) (harg10 : arg10.IsWhole) (arg11 : Memref sig .tc .vmem S32x2304 .f32) (harg11 : arg11.IsWhole) (arg12 : Memref sig .tc .vmem S32x9216 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x2304 .fp8e5m2) (harg15 : arg15.IsWhole) (arg16 : Memref sig .tc .vmem S1x1x256 .f32) (harg16 : arg16.IsWhole) (arg17 : Memref sig .tc .vmem S2304x9216 .bf16) (harg17 : arg17.IsWhole) (arg19 : Memref sig .tc .vmem S2304x256 .f32) (harg19 : arg19.IsWhole) (hc0 : ¬ cond0_0 i)
    (x0 : Vec F S256x2304 .fp8e4m3) (x1 : Vec F S1x1x256 .f32) (x2 : Vec F S256x9216 .fp8e5m2) (x3 : Vec F S1x1x256 .f32) (x4 : Vec F S1x9216 .f32) (x5 : Vec F S2304x96 .bf16) (x6 : Vec F S32x2304 .bf16) (x7 : Vec F S32x9216 .bf16)
    (a : Vec F S32x2304 .f32) (b : Vec F S32x9216 .f32) (w : Vec F S2304x9216 .bf16) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare a ∗ owns (c : Thread nD τ) arg12 fullShare b ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare w ∗ (∃ d, owns (c : Thread nD τ) arg19 fullShare d) ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (DXO (DD x2 x3 x5 x7 w)) ∗ owns (c : Thread nD τ) arg11 fullShare (DAT x0 x1 x2 x3 x7 a) ∗ owns (c : Thread nD τ) arg12 fullShare (DBT x0 x1 x2 x3 x6 b) ∗ owns (c : Thread nD τ) arg13 fullShare (TT x2 x3 x7) ∗ owns (c : Thread nD τ) arg14 fullShare (XX x0 x1 x6) ∗ owns (c : Thread nD τ) arg15 fullShare (COD (INV (MX x2 x3 x5 x7 w)) (DD x2 x3 x5 x7 w)) ∗ owns (c : Thread nD τ) arg16 fullShare (SCL (MX x2 x3 x5 x7 w)) ∗ owns (c : Thread nD τ) arg17 fullShare w ∗ (∃ d, owns (c : Thread nD τ) arg19 fullShare d) ∗ (∃ W, owes (c : Thread nD τ) 0 W)) -∗ K ⟨⟩))
      ⊢ wp frame (wpE (defs₀ (F := F)) Variants.none c none) Set.univ (cc0_lora_bwd i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3) K := by
  simp only [cc0_lora_bwd_eq_skeleton]; unfold cc0_lora_bwd_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%fs0, %hfs0, HS0⟩, ⟨%ds2, %fs2, %hfs2, HS2⟩, HW, Hk⟩
  obtain rfl := harg1.eq_unread hf0; obtain rfl := harg2.eq_unread hf1; obtain rfl := harg3.eq_unread hf2; obtain rfl := harg4.eq_unread hf3; obtain rfl := harg6.eq_unread hf4; obtain rfl := harg7.eq_unread hf5; obtain rfl := harg8.eq_unread hf6; obtain rfl := harg9.eq_unread hf7
  obtain rfl := harg11.eq_unread hf9; obtain rfl := harg12.eq_unread hf10; obtain rfl := harg17.eq_unread hfs0; obtain rfl := harg19.eq_unread hfs2
  sl_exec (disch := first | sl_exact hc0)
  have e9 : (View.readAt (Elt F) arg11.view (Rect.unit ![0, 0] S32x2304.size inb_S32x2304_S32x2304_0_0).toLoadRect (harg11.unread a)) = a := (View.readAt_full _ _ _).trans (harg11.read_unread a)
  have e10 : (View.readAt (Elt F) arg12.view (Rect.unit ![0, 0] S32x9216.size inb_S32x9216_S32x9216_0_0).toLoadRect (harg12.unread b)) = b := (View.readAt_full _ _ _).trans (harg12.read_unread b)
  have e0 : (View.readAt (Elt F) arg1.view (Rect.unit ![0, 0] S256x2304.size inb_S256x2304_S256x2304_0_0).toLoadRect (harg1.unread x0)) = x0 := (View.readAt_full _ _ _).trans (harg1.read_unread x0)
  have e1 : (View.readAt (Elt F) arg2.view (Rect.unit ![0, 0, 0] S1x1x256.size inb_S1x1x256_S1x1x256_0_0_0).toLoadRect (harg2.unread x1)) = x1 := (View.readAt_full _ _ _).trans (harg2.read_unread x1)
  have e2 : (View.readAt (Elt F) arg3.view (Rect.unit ![0, 0] S256x9216.size inb_S256x9216_S256x9216_0_0).toLoadRect (harg3.unread x2)) = x2 := (View.readAt_full _ _ _).trans (harg3.read_unread x2)
  have e3 : (View.readAt (Elt F) arg4.view (Rect.unit ![0, 0, 0] S1x1x256.size inb_S1x1x256_S1x1x256_0_0_0).toLoadRect (harg4.unread x3)) = x3 := (View.readAt_full _ _ _).trans (harg4.read_unread x3)
  have e6 : (View.readAt (Elt F) arg8.view (Rect.unit ![0, 0] S32x2304.size inb_S32x2304_S32x2304_0_0).toLoadRect (harg8.unread x6)) = x6 := (View.readAt_full _ _ _).trans (harg8.read_unread x6)
  have e7 : (View.readAt (Elt F) arg9.view (Rect.unit ![0, 0] S32x9216.size inb_S32x9216_S32x9216_0_0).toLoadRect (harg9.unread x7)) = x7 := (View.readAt_full _ _ _).trans (harg9.read_unread x7)
  have r0 := read_D arg19.view (harg19.unread (DD x2 x3 x5 x7 w)) _ (harg19.read_unread _) 0 (by decide) rfl inb_S2304x256_S128x256_0_0
  have r1 := read_D arg19.view (harg19.unread (DD x2 x3 x5 x7 w)) _ (harg19.read_unread _) 1 (by decide) rfl inb_S2304x256_S128x256_128_0
  have r2 := read_D arg19.view (harg19.unread (DD x2 x3 x5 x7 w)) _ (harg19.read_unread _) 2 (by decide) rfl inb_S2304x256_S128x256_256_0
  have r3 := read_D arg19.view (harg19.unread (DD x2 x3 x5 x7 w)) _ (harg19.read_unread _) 3 (by decide) rfl inb_S2304x256_S128x256_384_0
  have r4 := read_D arg19.view (harg19.unread (DD x2 x3 x5 x7 w)) _ (harg19.read_unread _) 4 (by decide) rfl inb_S2304x256_S128x256_512_0
  have r5 := read_D arg19.view (harg19.unread (DD x2 x3 x5 x7 w)) _ (harg19.read_unread _) 5 (by decide) rfl inb_S2304x256_S128x256_640_0
  have r6 := read_D arg19.view (harg19.unread (DD x2 x3 x5 x7 w)) _ (harg19.read_unread _) 6 (by decide) rfl inb_S2304x256_S128x256_768_0
  have r7 := read_D arg19.view (harg19.unread (DD x2 x3 x5 x7 w)) _ (harg19.read_unread _) 7 (by decide) rfl inb_S2304x256_S128x256_896_0
  have r8 := read_D arg19.view (harg19.unread (DD x2 x3 x5 x7 w)) _ (harg19.read_unread _) 8 (by decide) rfl inb_S2304x256_S128x256_1024_0
  have r9 := read_D arg19.view (harg19.unread (DD x2 x3 x5 x7 w)) _ (harg19.read_unread _) 9 (by decide) rfl inb_S2304x256_S128x256_1152_0
  have r10 := read_D arg19.view (harg19.unread (DD x2 x3 x5 x7 w)) _ (harg19.read_unread _) 10 (by decide) rfl inb_S2304x256_S128x256_1280_0
  have r11 := read_D arg19.view (harg19.unread (DD x2 x3 x5 x7 w)) _ (harg19.read_unread _) 11 (by decide) rfl inb_S2304x256_S128x256_1408_0
  have r12 := read_D arg19.view (harg19.unread (DD x2 x3 x5 x7 w)) _ (harg19.read_unread _) 12 (by decide) rfl inb_S2304x256_S128x256_1536_0
  have r13 := read_D arg19.view (harg19.unread (DD x2 x3 x5 x7 w)) _ (harg19.read_unread _) 13 (by decide) rfl inb_S2304x256_S128x256_1664_0
  have r14 := read_D arg19.view (harg19.unread (DD x2 x3 x5 x7 w)) _ (harg19.read_unread _) 14 (by decide) rfl inb_S2304x256_S128x256_1792_0
  have r15 := read_D arg19.view (harg19.unread (DD x2 x3 x5 x7 w)) _ (harg19.read_unread _) 15 (by decide) rfl inb_S2304x256_S128x256_1920_0
  have r16 := read_D arg19.view (harg19.unread (DD x2 x3 x5 x7 w)) _ (harg19.read_unread _) 16 (by decide) rfl inb_S2304x256_S128x256_2048_0
  have r17 := read_D arg19.view (harg19.unread (DD x2 x3 x5 x7 w)) _ (harg19.read_unread _) 17 (by decide) rfl inb_S2304x256_S128x256_2176_0
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine dx_all _ _ _ _ _ _ _ _ _ _ _ _ _ _ _ _ _ _ _ _ _ ?_ ?_ ?_ ?_ ?_ ?_ ?_ ?_ ?_ ?_ ?_ ?_ ?_ ?_ ?_ ?_ ?_ ?_
    · sl_unfold_words; rw [e2, e3, e7]; exact congrArg k0_pay29 r0
    · sl_unfold_words; rw [e2, e3, e7]; exact congrArg k0_pay32 r1
    · sl_unfold_words; rw [e2, e3, e7]; exact congrArg k0_pay35 r2
    · sl_unfold_words; rw [e2, e3, e7]; exact congrArg k0_pay38 r3
    · sl_unfold_words; rw [e2, e3, e7]; exact congrArg k0_pay41 r4
    · sl_unfold_words; rw [e2, e3, e7]; exact congrArg k0_pay44 r5
    · sl_unfold_words; rw [e2, e3, e7]; exact congrArg k0_pay47 r6
    · sl_unfold_words; rw [e2, e3, e7]; exact congrArg k0_pay50 r7
    · sl_unfold_words; rw [e2, e3, e7]; exact congrArg k0_pay53 r8
    · sl_unfold_words; rw [e2, e3, e7]; exact congrArg k0_pay56 r9
    · sl_unfold_words; rw [e2, e3, e7]; exact congrArg k0_pay59 r10
    · sl_unfold_words; rw [e2, e3, e7]; exact congrArg k0_pay62 r11
    · sl_unfold_words; rw [e2, e3, e7]; exact congrArg k0_pay65 r12
    · sl_unfold_words; rw [e2, e3, e7]; exact congrArg k0_pay70 r13
    · sl_unfold_words; rw [e2, e3, e7]; exact congrArg k0_pay73 r14
    · sl_unfold_words; rw [e2, e3, e7]; exact congrArg k0_pay76 r15
    · sl_unfold_words; rw [e2, e3, e7]; exact congrArg k0_pay80 r16
    · sl_unfold_words; rw [e2, e3, e7]; exact congrArg k0_pay83 r17
  isplitl [H9]
  · iexists _; isplitr; swap; · iexact H9
    ipureintro
    refine (View.read_writes_full _ _ _ _ _).trans ?_
    sl_unfold_words
    rw [e0, e1, e2, e3, e7, e9]
  isplitl [H10]
  · iexists _; isplitr; swap; · iexact H10
    ipureintro
    refine (View.read_writes_full _ _ _ _ _).trans ?_
    sl_unfold_words
    rw [e0, e1, e2, e3, e6, e10]
  isplitl [H11]
  · iexists _; isplitr; swap; · iexact H11
    ipureintro
    refine (View.read_writes_full _ _ _ _ _).trans ?_
    sl_unfold_words
    rw [e2, e3, e7]
  isplitl [H12]
  · iexists _; isplitr; swap; · iexact H12
    ipureintro
    refine (View.read_writes_full _ _ _ _ _).trans ?_
    sl_unfold_words
    rw [e0, e1, e6]
  isplitl [H13]
  · iexists _; isplitr; swap; · iexact H13
    ipureintro
    refine cod_all _ _ (INV (MX x2 x3 x5 x7 w)) _ _ _ _ _ _ _ _ _ _ _ _ _ _ _ _ _ _ _ ?_ ?_ ?_ ?_ ?_ ?_ ?_ ?_ ?_ ?_ ?_ ?_ ?_ ?_ ?_ ?_ ?_ ?_
    · sl_unfold_words; rw [e2, e3, e7]; exact congrArg (k0_pay36 (INV (MX x2 x3 x5 x7 w))) r0
    · sl_unfold_words; rw [e2, e3, e7]; exact congrArg (k0_pay36 (INV (MX x2 x3 x5 x7 w))) r1
    · sl_unfold_words; rw [e2, e3, e7]; exact congrArg (k0_pay36 (INV (MX x2 x3 x5 x7 w))) r2
    · sl_unfold_words; rw [e2, e3, e7]; exact congrArg (k0_pay36 (INV (MX x2 x3 x5 x7 w))) r3
    · sl_unfold_words; rw [e2, e3, e7]; exact congrArg (k0_pay36 (INV (MX x2 x3 x5 x7 w))) r4
    · sl_unfold_words; rw [e2, e3, e7]; exact congrArg (k0_pay36 (INV (MX x2 x3 x5 x7 w))) r5
    · sl_unfold_words; rw [e2, e3, e7]; exact congrArg (k0_pay36 (INV (MX x2 x3 x5 x7 w))) r6
    · sl_unfold_words; rw [e2, e3, e7]; exact congrArg (k0_pay36 (INV (MX x2 x3 x5 x7 w))) r7
    · sl_unfold_words; rw [e2, e3, e7]; exact congrArg (k0_pay36 (INV (MX x2 x3 x5 x7 w))) r8
    · sl_unfold_words; rw [e2, e3, e7]; exact congrArg (k0_pay36 (INV (MX x2 x3 x5 x7 w))) r9
    · sl_unfold_words; rw [e2, e3, e7]; exact congrArg (k0_pay36 (INV (MX x2 x3 x5 x7 w))) r10
    · sl_unfold_words; rw [e2, e3, e7]; exact congrArg (k0_pay36 (INV (MX x2 x3 x5 x7 w))) r11
    · sl_unfold_words; rw [e2, e3, e7]; exact congrArg (k0_pay36 (INV (MX x2 x3 x5 x7 w))) r12
    · sl_unfold_words; rw [e2, e3, e7]; exact congrArg (k0_pay36 (INV (MX x2 x3 x5 x7 w))) r13
    · sl_unfold_words; rw [e2, e3, e7]; exact congrArg (k0_pay36 (INV (MX x2 x3 x5 x7 w))) r14
    · sl_unfold_words; rw [e2, e3, e7]; exact congrArg (k0_pay36 (INV (MX x2 x3 x5 x7 w))) r15
    · sl_unfold_words; rw [e2, e3, e7]; exact congrArg (k0_pay36 (INV (MX x2 x3 x5 x7 w))) r16
    · sl_unfold_words; rw [e2, e3, e7]; exact congrArg (k0_pay36 (INV (MX x2 x3 x5 x7 w))) r17
  isplitl [H14]
  · iexists _; isplitr; swap; · iexact H14
    ipureintro
    refine (View.read_writes_full _ _ _ _ _).trans ?_
    sl_unfold_words
    rw [e2, e3, e7]; rfl
  isplitl [HS0]
  · iexists _; isplitr; swap; · iexact HS0
    ipureintro
    exact harg17.read_unread _
  isplitl [HS2]
  · iexists _, _; isplitr; swap; · iexact HS2
    ipureintro; rfl
  iexists _; iexact HW

end Cert.Kernel.Hand

end
-- ==== Proof.Kernel.Pieces.lean ====
/- The operand read in place as its 18 blocks, the staging buffer as its two slots, the transfer cells: taken apart before the
   first grid point's transfers and put together after them. -/
module

public import proofs.«01_k».proof.Proof.Kernel.Values

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev G18 (b : Fin 18) : Finset S2304x9216.Idx := (Rect.unit (s := S2304x9216) (grpOff b) S128x9216.size (grpOff_inb b)).set
abbrev S2s (s : Fin 2) : Finset S2x128x9216.Idx := (Rect.unit (s := S2x128x9216) (slotOff s) S1x128x9216.size (slotOff_inb s)).set

omit [FloatOps F] in
theorem grp_set (b : Fin 18) : (grp b : Memref sig .tc .hbm _ _).view.set = G18 b := View.set_slice_whole _ _
omit [FloatOps F] in
theorem rslot_set (s : Fin 2) : (rslot s : Memref sig .tc .vmem _ _).view.set = S2s s := (View.set_reshape _ _).trans (View.set_slice_whole _ _)

theorem mem_G18 (b : Fin 18) (y : S2304x9216.Idx) : y ∈ G18 b ↔ (y 0).val / 128 = b.val := by
  rw [Rect.mem_set_unit]
  have h1 : (y 1).val < 9216 := (y 1).isLt
  constructor
  · intro H; have a0 : 128 * b.val ≤ (y 0).val ∧ (y 0).val < 128 * b.val + 128 := H 0; omega
  · intro H i; fin_cases i
    · show 128 * b.val ≤ (y 0).val ∧ (y 0).val < 128 * b.val + 128; omega
    · show 0 ≤ (y 1).val ∧ (y 1).val < 0 + 9216; omega
theorem mem_S2s (s : Fin 2) (y : S2x128x9216.Idx) : y ∈ S2s s ↔ (y 0).val = s.val := by
  rw [Rect.mem_set_unit]
  have h1 : (y 1).val < 128 := (y 1).isLt
  have h2 : (y 2).val < 9216 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 9216; omega
theorem G18_disjoint : ∀ b b' : Fin 18, b ≠ b' → Disjoint (G18 b) (G18 b') := by
  intro b b' hne; rw [Finset.disjoint_left]; intro y hy hy'; rw [mem_G18] at hy hy'; exact hne (Fin.ext (hy.symm.trans hy'))
theorem G18_cover : (Finset.univ : Finset (Fin 18)).biUnion G18 = Finset.univ := by
  ext y; simp only [Finset.mem_biUnion, Finset.mem_univ, true_and, iff_true]
  have h0 : (y 0).val < 2304 := (y 0).isLt
  exact ⟨⟨(y 0).val / 128, by omega⟩, by rw [mem_G18]⟩
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
theorem S2s_cover : (Finset.univ : Finset (Fin 2)).biUnion S2s = Finset.univ := by
  ext y; simp only [Finset.mem_biUnion, Finset.mem_univ, true_and, iff_true]; exact ⟨(y 0).cast (by decide), by rw [mem_S2s]; rfl⟩

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The operand whole is its 18 blocks home. -/
theorem a_eq (c : Dev nD) (XA : Buf (Elt F) (aM.view.loc (c : Thread nD τ))) :
    (hbPt0 c hbM0_0 XA : sProp 𝕄) = bigSep Finset.univ (homeP c XA) := by
  show (((c : Thread nD τ).loc main_v2) ↦{fullShare} XA : sProp 𝕄) = _
  rw [Ring.pointsTo_blocks (ℓ := (c : Thread nD τ).loc main_v2) G18 G18_disjoint G18_cover]
  exact bigSep_congr fun b _ => by rw [← grp_set]; rfl

omit [FloatOps F] in
theorem slotP_eq (c : Dev nD) (s : Fin 2) (f) : slotP c s f = (((c : Thread nD τ).loc cc0_scratch1) ↦[S2s s]{fullShare} f : sProp 𝕄) :=
  congrArg (fun S => (_ ↦[S]{fullShare} f : sProp 𝕄)) (rslot_set s)
/-- The staging buffer whole is its two slots, and back. -/
theorem buf_split (c : Dev nD) :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch1) S2s S2s_disjoint S2s_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) S2s S2s_disjoint S2s_cover f0)
  irw [bigSep_fin2]
  isplitl [H0]
  · iexists f0; iapply (entails_of_eq (slotP_eq c 0 f0)); iexact H0
  · iexists f1; iapply (entails_of_eq (slotP_eq c 1 f1)); iexact H1

/-- What the first point's transfers own: the operand's blocks home, the slots at anything, the cells at zero. -/
def DMA (c : Dev nD) (XA : Buf (Elt F) (aM.view.loc (c : Thread nD τ))) : sProp 𝕄 :=
  iprop(bigSep Finset.univ (homeP c XA) ∗ ((∃ f, slotP c 0 f) ∗ ∃ f, slotP c 1 f) ∗ cellP c 0 ∗ cellP c 1)

theorem sl2_0 : Ring.sl 2 0 = 0 := Fin.ext (by rfl)
theorem sl2_1 : Ring.sl 2 (0 + 1) = 1 := Fin.ext (by rfl)
theorem bk18_0 : Ring.bk 18 0 = 0 := Fin.ext (by rfl)
theorem sl2_17 : Ring.sl 2 17 = 1 := Fin.ext (by rfl)
theorem sl2_18 : Ring.sl 2 (17 + 1) = 0 := Fin.ext (by rfl)

/-- The invariant's ring at the loop's entry. -/
theorem ring_zero (c : Dev nD) (XA : Buf (Elt F) (aM.view.loc (c : Thread nD τ))) :
    ring c XA 0 = iprop((∃ W, owes (c : Thread nD τ) 0 W) ∗ bigSep (HS 0) (homeP c XA)
      ∗ (∃ f, flightP c XA 0 0 f) ∗ (∃ f, slotP c 1 f) ∗ cellP c 1) := by
  rw [ring, if_pos (by decide), ringAt, sl2_0, sl2_1, bk18_0]
/-- And what it leaves. -/
theorem ring_end (c : Dev nD) (XA : Buf (Elt F) (aM.view.loc (c : Thread nD τ))) :
    ringEnd c XA ⊢ iprop((∃ W, owes (c : Thread nD τ) 0 W) ∗ DMA c XA) := by
  rw [ringEnd, sl2_17, sl2_18, DMA]
  iintro ⟨HW, Hh, ⟨Hs1, Hs0⟩, Hc1, Hc0⟩
  isplitl [HW]; · iexact HW
  isplitl [Hh]; · iexact Hh
  isplitl [Hs0 Hs1]
  · isplitl [Hs0]; · iexact Hs0
    iexact Hs1
  isplitl [Hc0]; · iexact Hc0
  iexact Hc1

end Cert.Kernel.Hand

end
-- ==== Proof.Kernel.BodyA.lean ====
/- The body at the first grid point: the weights converted block by block, the two gradients started from zero. -/
module

public import proofs.«01_k».proof.Proof.Kernel.BodyB
public import proofs.«01_k».proof.Proof.Kernel.Pieces

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] ring ringEnd

set_option maxHeartbeats 1000000 in
theorem bodyA (c : Dev nD) (i : grid0.Coords) (arg1 : Memref sig .tc .vmem S256x2304 .fp8e4m3) (harg1 : arg1.IsWhole) (arg2 : Memref sig .tc .vmem S1x1x256 .f32) (harg2 : arg2.IsWhole) (arg3 : Memref sig .tc .vmem S256x9216 .fp8e5m2) (harg3 : arg3.IsWhole) (arg4 : Memref sig .tc .vmem S1x1x256 .f32) (harg4 : arg4.IsWhole) (arg6 : Memref sig .tc .vmem S1x9216 .f32) (harg6 : arg6.IsWhole) (arg7 : Memref sig .tc .vmem S2304x96 .bf16) (harg7 : arg7.IsWhole) (arg8 : Memref sig .tc .vmem S32x2304 .bf16) (harg8 : arg8.IsWhole) (arg9 : Memref sig .tc .vmem S32x9216 .bf16) (harg9 : arg9.IsWhole) (arg10 : Memref sig .tc .vmem S256x2304 .bf16) (harg10 : arg10.IsWhole) (arg11 : Memref sig .tc .vmem S32x2304 .f32) (harg11 : arg11.IsWhole) (arg12 : Memref sig .tc .vmem S32x9216 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x2304 .fp8e5m2) (harg15 : arg15.IsWhole) (arg16 : Memref sig .tc .vmem S1x1x256 .f32) (harg16 : arg16.IsWhole) (arg17 : Memref sig .tc .vmem S2304x9216 .bf16) (harg17 : arg17.IsWhole) (arg19 : Memref sig .tc .vmem S2304x256 .f32) (harg19 : arg19.IsWhole) (hc0 : cond0_0 i) (XA : Buf (Elt F) (aM.view.loc (c : Thread nD τ)))
    (x0 : Vec F S256x2304 .fp8e4m3) (x1 : Vec F S1x1x256 .f32) (x2 : Vec F S256x9216 .fp8e5m2) (x3 : Vec F S1x1x256 .f32) (x4 : Vec F S1x9216 .f32) (x5 : Vec F S2304x96 .bf16) (x6 : Vec F S32x2304 .bf16) (x7 : Vec F S32x9216 .bf16)
    (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg19 fullShare d) ∗ DMA c XA ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (DXO (DD x2 x3 x5 x7 (WEFF c XA x4))) ∗ owns (c : Thread nD τ) arg11 fullShare (DAT x0 x1 x2 x3 x7 k0_pay2) ∗ owns (c : Thread nD τ) arg12 fullShare (DBT x0 x1 x2 x3 x6 k0_pay3) ∗ owns (c : Thread nD τ) arg13 fullShare (TT x2 x3 x7) ∗ owns (c : Thread nD τ) arg14 fullShare (XX x0 x1 x6) ∗ owns (c : Thread nD τ) arg15 fullShare (COD (INV (MX x2 x3 x5 x7 (WEFF c XA x4))) (DD x2 x3 x5 x7 (WEFF c XA x4))) ∗ owns (c : Thread nD τ) arg16 fullShare (SCL (MX x2 x3 x5 x7 (WEFF c XA x4))) ∗ owns (c : Thread nD τ) arg17 fullShare (WEFF c XA x4) ∗ (∃ d, owns (c : Thread nD τ) arg19 fullShare d) ∗ DMA c XA ∗ (∃ W, owes (c : Thread nD τ) 0 W)) -∗ K ⟨⟩))
      ⊢ wp frame (wpE (defs₀ (F := F)) Variants.none c none) Set.univ (cc0_lora_bwd i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3) K := by
  simp only [cc0_lora_bwd_eq_skeleton]; unfold cc0_lora_bwd_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  rw [DMA, homes_all c XA 0, bk18_0]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, %hfs0, HS0⟩, ⟨%ds2, %fs2, %hfs2, HS2⟩, ⟨⟨Hg0, Hgs⟩, ⟨⟨%b0, Hs0⟩, Hs1⟩, Hc0, Hc1⟩, HW, Hk⟩
  obtain rfl := harg1.eq_unread hf0; obtain rfl := harg2.eq_unread hf1; obtain rfl := harg3.eq_unread hf2; obtain rfl := harg4.eq_unread hf3; obtain rfl := harg6.eq_unread hf4; obtain rfl := harg7.eq_unread hf5; obtain rfl := harg8.eq_unread hf6; obtain rfl := harg9.eq_unread hf7
  obtain rfl := harg17.eq_unread hfs0; obtain rfl := harg19.eq_unread hfs2
  sl_exec (disch := first | sl_exact hc0)
  ihave HR : iprop(ring c XA 0) $$ [Hgs Hs1 Hc1 HW Hc0]
  · irw [ring_zero]
    isplitl [HW]; · iexists _; iexact HW
    isplitl [Hgs]; · iexact Hgs
    isplitl [Hc0]; · iexists b0; iexact Hc0
    isplitl [Hs1]; · iexact Hs1
    iexact Hc1
  ihave HS0 : iprop(wP c arg17 (harg17.unread (wrec c XA x4 ds0 0))) $$ [HS0]
  · iexact HS0
  sl_exec (disch := first | sl_exact hc0)
  have e0 : (View.readAt (Elt F) arg1.view (Rect.unit ![0, 0] S256x2304.size inb_S256x2304_S256x2304_0_0).toLoadRect (harg1.unread x0)) = x0 := (View.readAt_full _ _ _).trans (harg1.read_unread x0)
  have e1 : (View.readAt (Elt F) arg2.view (Rect.unit ![0, 0, 0] S1x1x256.size inb_S1x1x256_S1x1x256_0_0_0).toLoadRect (harg2.unread x1)) = x1 := (View.readAt_full _ _ _).trans (harg2.read_unread x1)
  have e2 : (View.readAt (Elt F) arg3.view (Rect.unit ![0, 0] S256x9216.size inb_S256x9216_S256x9216_0_0).toLoadRect (harg3.unread x2)) = x2 := (View.readAt_full _ _ _).trans (harg3.read_unread x2)
  have e3 : (View.readAt (Elt F) arg4.view (Rect.unit ![0, 0, 0] S1x1x256.size inb_S1x1x256_S1x1x256_0_0_0).toLoadRect (harg4.unread x3)) = x3 := (View.readAt_full _ _ _).trans (harg4.read_unread x3)
  have e6 : (View.readAt (Elt F) arg8.view (Rect.unit ![0, 0] S32x2304.size inb_S32x2304_S32x2304_0_0).toLoadRect (harg8.unread x6)) = x6 := (View.readAt_full _ _ _).trans (harg8.read_unread x6)
  have e7 : (View.readAt (Elt F) arg9.view (Rect.unit ![0, 0] S32x9216.size inb_S32x9216_S32x9216_0_0).toLoadRect (harg9.unread x7)) = x7 := (View.readAt_full _ _ _).trans (harg9.read_unread x7)
  have r0 := read_D arg19.view (harg19.unread (DD x2 x3 x5 x7 (WEFF c XA x4))) _ (harg19.read_unread _) 0 (by decide) rfl inb_S2304x256_S128x256_0_0
  have r1 := read_D arg19.view (harg19.unread (DD x2 x3 x5 x7 (WEFF c XA x4))) _ (harg19.read_unread _) 1 (by decide) rfl inb_S2304x256_S128x256_128_0
  have r2 := read_D arg19.view (harg19.unread (DD x2 x3 x5 x7 (WEFF c XA x4))) _ (harg19.read_unread _) 2 (by decide) rfl inb_S2304x256_S128x256_256_0
  have r3 := read_D arg19.view (harg19.unread (DD x2 x3 x5 x7 (WEFF c XA x4))) _ (harg19.read_unread _) 3 (by decide) rfl inb_S2304x256_S128x256_384_0
  have r4 := read_D arg19.view (harg19.unread (DD x2 x3 x5 x7 (WEFF c XA x4))) _ (harg19.read_unread _) 4 (by decide) rfl inb_S2304x256_S128x256_512_0
  have r5 := read_D arg19.view (harg19.unread (DD x2 x3 x5 x7 (WEFF c XA x4))) _ (harg19.read_unread _) 5 (by decide) rfl inb_S2304x256_S128x256_640_0
  have r6 := read_D arg19.view (harg19.unread (DD x2 x3 x5 x7 (WEFF c XA x4))) _ (harg19.read_unread _) 6 (by decide) rfl inb_S2304x256_S128x256_768_0
  have r7 := read_D arg19.view (harg19.unread (DD x2 x3 x5 x7 (WEFF c XA x4))) _ (harg19.read_unread _) 7 (by decide) rfl inb_S2304x256_S128x256_896_0
  have r8 := read_D arg19.view (harg19.unread (DD x2 x3 x5 x7 (WEFF c XA x4))) _ (harg19.read_unread _) 8 (by decide) rfl inb_S2304x256_S128x256_1024_0
  have r9 := read_D arg19.view (harg19.unread (DD x2 x3 x5 x7 (WEFF c XA x4))) _ (harg19.read_unread _) 9 (by decide) rfl inb_S2304x256_S128x256_1152_0
  have r10 := read_D arg19.view (harg19.unread (DD x2 x3 x5 x7 (WEFF c XA x4))) _ (harg19.read_unread _) 10 (by decide) rfl inb_S2304x256_S128x256_1280_0
  have r11 := read_D arg19.view (harg19.unread (DD x2 x3 x5 x7 (WEFF c XA x4))) _ (harg19.read_unread _) 11 (by decide) rfl inb_S2304x256_S128x256_1408_0
  have r12 := read_D arg19.view (harg19.unread (DD x2 x3 x5 x7 (WEFF c XA x4))) _ (harg19.read_unread _) 12 (by decide) rfl inb_S2304x256_S128x256_1536_0
  have r13 := read_D arg19.view (harg19.unread (DD x2 x3 x5 x7 (WEFF c XA x4))) _ (harg19.read_unread _) 13 (by decide) rfl inb_S2304x256_S128x256_1664_0
  have r14 := read_D arg19.view (harg19.unread (DD x2 x3 x5 x7 (WEFF c XA x4))) _ (harg19.read_unread _) 14 (by decide) rfl inb_S2304x256_S128x256_1792_0
  have r15 := read_D arg19.view (harg19.unread (DD x2 x3 x5 x7 (WEFF c XA x4))) _ (harg19.read_unread _) 15 (by decide) rfl inb_S2304x256_S128x256_1920_0
  have r16 := read_D arg19.view (harg19.unread (DD x2 x3 x5 x7 (WEFF c XA x4))) _ (harg19.read_unread _) 16 (by decide) rfl inb_S2304x256_S128x256_2048_0
  have r17 := read_D arg19.view (harg19.unread (DD x2 x3 x5 x7 (WEFF c XA x4))) _ (harg19.read_unread _) 17 (by decide) rfl inb_S2304x256_S128x256_2176_0
  sl_step
  ihave HE := (ring_end c XA) $$ HL2
  icases HE with ⟨HW, HD⟩
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HL0]
  · iexists _; isplitr; · ipureintro; exact harg6.read_unread _
    iexact HL0
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine dx_all _ _ _ _ _ _ _ _ _ _ _ _ _ _ _ _ _ _ _ _ _ ?_ ?_ ?_ ?_ ?_ ?_ ?_ ?_ ?_ ?_ ?_ ?_ ?_ ?_ ?_ ?_ ?_ ?_
    · sl_unfold_words; rw [e2, e3, e7]; exact congrArg k0_pay29 r0
    · sl_unfold_words; rw [e2, e3, e7]; exact congrArg k0_pay32 r1
    · sl_unfold_words; rw [e2, e3, e7]; exact congrArg k0_pay35 r2
    · sl_unfold_words; rw [e2, e3, e7]; exact congrArg k0_pay38 r3
    · sl_unfold_words; rw [e2, e3, e7]; exact congrArg k0_pay41 r4
    · sl_unfold_words; rw [e2, e3, e7]; exact congrArg k0_pay44 r5
    · sl_unfold_words; rw [e2, e3, e7]; exact congrArg k0_pay47 r6
    · sl_unfold_words; rw [e2, e3, e7]; exact congrArg k0_pay50 r7
    · sl_unfold_words; rw [e2, e3, e7]; exact congrArg k0_pay53 r8
    · sl_unfold_words; rw [e2, e3, e7]; exact congrArg k0_pay56 r9
    · sl_unfold_words; rw [e2, e3, e7]; exact congrArg k0_pay59 r10
    · sl_unfold_words; rw [e2, e3, e7]; exact congrArg k0_pay62 r11
    · sl_unfold_words; rw [e2, e3, e7]; exact congrArg k0_pay65 r12
    · sl_unfold_words; rw [e2, e3, e7]; exact congrArg k0_pay70 r13
    · sl_unfold_words; rw [e2, e3, e7]; exact congrArg k0_pay73 r14
    · sl_unfold_words; rw [e2, e3, e7]; exact congrArg k0_pay76 r15
    · sl_unfold_words; rw [e2, e3, e7]; exact congrArg k0_pay80 r16
    · sl_unfold_words; rw [e2, e3, e7]; exact congrArg k0_pay83 r17
  isplitl [H9]
  · iexists _; isplitr; swap; · iexact H9
    ipureintro
    sl_unfold_words
    refine (View.read_writes_full _ _ _ _ _).trans ?_
    rw [e0, e1, e2, e3, e7, View.readCov_full]
  isplitl [H10]
  · iexists _; isplitr; swap; · iexact H10
    ipureintro
    sl_unfold_words
    refine (View.read_writes_full _ _ _ _ _).trans ?_
    rw [e0, e1, e2, e3, e6, View.readCov_full]
  isplitl [H11]
  · iexists _; isplitr; swap; · iexact H11
    ipureintro
    sl_unfold_words
    refine (View.read_writes_full _ _ _ _ _).trans ?_
    rw [e2, e3, e7]
  isplitl [H12]
  · iexists _; isplitr; swap; · iexact H12
    ipureintro
    sl_unfold_words
    refine (View.read_writes_full _ _ _ _ _).trans ?_
    rw [e0, e1, e6]
  isplitl [H13]
  · iexists _; isplitr; swap; · iexact H13
    ipureintro
    refine cod_all _ _ (INV (MX x2 x3 x5 x7 (WEFF c XA x4))) _ _ _ _ _ _ _ _ _ _ _ _ _ _ _ _ _ _ _ ?_ ?_ ?_ ?_ ?_ ?_ ?_ ?_ ?_ ?_ ?_ ?_ ?_ ?_ ?_ ?_ ?_ ?_
    · sl_unfold_words; rw [e2, e3, e7]; exact congrArg (k0_pay36 (INV (MX x2 x3 x5 x7 (WEFF c XA x4)))) r0
    · sl_unfold_words; rw [e2, e3, e7]; exact congrArg (k0_pay36 (INV (MX x2 x3 x5 x7 (WEFF c XA x4)))) r1
    · sl_unfold_words; rw [e2, e3, e7]; exact congrArg (k0_pay36 (INV (MX x2 x3 x5 x7 (WEFF c XA x4)))) r2
    · sl_unfold_words; rw [e2, e3, e7]; exact congrArg (k0_pay36 (INV (MX x2 x3 x5 x7 (WEFF c XA x4)))) r3
    · sl_unfold_words; rw [e2, e3, e7]; exact congrArg (k0_pay36 (INV (MX x2 x3 x5 x7 (WEFF c XA x4)))) r4
    · sl_unfold_words; rw [e2, e3, e7]; exact congrArg (k0_pay36 (INV (MX x2 x3 x5 x7 (WEFF c XA x4)))) r5
    · sl_unfold_words; rw [e2, e3, e7]; exact congrArg (k0_pay36 (INV (MX x2 x3 x5 x7 (WEFF c XA x4)))) r6
    · sl_unfold_words; rw [e2, e3, e7]; exact congrArg (k0_pay36 (INV (MX x2 x3 x5 x7 (WEFF c XA x4)))) r7
    · sl_unfold_words; rw [e2, e3, e7]; exact congrArg (k0_pay36 (INV (MX x2 x3 x5 x7 (WEFF c XA x4)))) r8
    · sl_unfold_words; rw [e2, e3, e7]; exact congrArg (k0_pay36 (INV (MX x2 x3 x5 x7 (WEFF c XA x4)))) r9
    · sl_unfold_words; rw [e2, e3, e7]; exact congrArg (k0_pay36 (INV (MX x2 x3 x5 x7 (WEFF c XA x4)))) r10
    · sl_unfold_words; rw [e2, e3, e7]; exact congrArg (k0_pay36 (INV (MX x2 x3 x5 x7 (WEFF c XA x4)))) r11
    · sl_unfold_words; rw [e2, e3, e7]; exact congrArg (k0_pay36 (INV (MX x2 x3 x5 x7 (WEFF c XA x4)))) r12
    · sl_unfold_words; rw [e2, e3, e7]; exact congrArg (k0_pay36 (INV (MX x2 x3 x5 x7 (WEFF c XA x4)))) r13
    · sl_unfold_words; rw [e2, e3, e7]; exact congrArg (k0_pay36 (INV (MX x2 x3 x5 x7 (WEFF c XA x4)))) r14
    · sl_unfold_words; rw [e2, e3, e7]; exact congrArg (k0_pay36 (INV (MX x2 x3 x5 x7 (WEFF c XA x4)))) r15
    · sl_unfold_words; rw [e2, e3, e7]; exact congrArg (k0_pay36 (INV (MX x2 x3 x5 x7 (WEFF c XA x4)))) r16
    · sl_unfold_words; rw [e2, e3, e7]; exact congrArg (k0_pay36 (INV (MX x2 x3 x5 x7 (WEFF c XA x4)))) r17
  isplitl [H14]
  · iexists _; isplitr; swap; · iexact H14
    ipureintro
    sl_unfold_words
    refine (View.read_writes_full _ _ _ _ _).trans ?_
    rw [e2, e3, e7]; rfl
  isplitl [HL1]
  · iexists _; isplitr; swap; · iexact HL1
    ipureintro
    exact harg17.read_unread _
  isplitl [HS2]
  · iexists _, _; isplitr; swap; · iexact HS2
    ipureintro; rfl
  isplitl [HD]
  · irw [← bk18_0, ← homes_all c XA 0, ← DMA]; iexact HD
  iexact HW

end Cert.Kernel.Hand

end
-- ==== Proof.Kernel.Frame.lean ====
/- The run of the kernel's program: the region's proof data point by point, from the two triples of the body. -/
module

public import proofs.«01_k».proof.Proof.Kernel.BodyA
public import Idealize.ShloMosaic.Lib.Claim

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The converted weights, as every point reads them. -/
def Wf (c : Dev nD) : Vec F S2304x9216 .bf16 := WEFF c (V m c main_v2) (iblk m c 4 ⟨0, by decide⟩)
/-- The gradient of the down projection after the body at position `n`. -/
def accA (c : Dev nD) : (n : ℕ) → n < cfg0.N → Vec F S32x2304 .f32
  | 0, hn => DAT (iblk m c 0 ⟨0, hn⟩) (iblk m c 1 ⟨0, hn⟩) (iblk m c 2 ⟨0, hn⟩) (iblk m c 3 ⟨0, hn⟩) (iblk m c 7 ⟨0, hn⟩) k0_pay2
  | n + 1, hn => DAT (iblk m c 0 ⟨n + 1, hn⟩) (iblk m c 1 ⟨n + 1, hn⟩) (iblk m c 2 ⟨n + 1, hn⟩) (iblk m c 3 ⟨n + 1, hn⟩) (iblk m c 7 ⟨n + 1, hn⟩) (accA c n (Nat.lt_of_succ_lt hn))
/-- The gradient of the up projection after the body at position `n`. -/
def accB (c : Dev nD) : (n : ℕ) → n < cfg0.N → Vec F S32x9216 .f32
  | 0, hn => DBT (iblk m c 0 ⟨0, hn⟩) (iblk m c 1 ⟨0, hn⟩) (iblk m c 2 ⟨0, hn⟩) (iblk m c 3 ⟨0, hn⟩) (iblk m c 6 ⟨0, hn⟩) k0_pay3
  | n + 1, hn => DBT (iblk m c 0 ⟨n + 1, hn⟩) (iblk m c 1 ⟨n + 1, hn⟩) (iblk m c 2 ⟨n + 1, hn⟩) (iblk m c 3 ⟨n + 1, hn⟩) (iblk m c 6 ⟨n + 1, hn⟩) (accB c n (Nat.lt_of_succ_lt hn))
theorem accA_pos (c : Dev nD) (t : Fin cfg0.N) (h : t.val ≠ 0) : accA m c t.val t.isLt = DAT (iblk m c 0 t) (iblk m c 1 t) (iblk m c 2 t) (iblk m c 3 t) (iblk m c 7 t) (accA m c (t.val - 1) (Nat.lt_of_le_of_lt (Nat.sub_le _ _) t.isLt)) := by
  obtain ⟨n, hn⟩ := t
  cases n with
  | zero => exact absurd rfl h
  | succ n => rfl
theorem accB_pos (c : Dev nD) (t : Fin cfg0.N) (h : t.val ≠ 0) : accB m c t.val t.isLt = DBT (iblk m c 0 t) (iblk m c 1 t) (iblk m c 2 t) (iblk m c 3 t) (iblk m c 6 t) (accB m c (t.val - 1) (Nat.lt_of_le_of_lt (Nat.sub_le _ _) t.isLt)) := by
  obtain ⟨n, hn⟩ := t
  cases n with
  | zero => exact absurd rfl h
  | succ n => rfl
theorem accA_zero (c : Dev nD) (t : Fin cfg0.N) (h : t.val = 0) : accA m c t.val t.isLt = DAT (iblk m c 0 t) (iblk m c 1 t) (iblk m c 2 t) (iblk m c 3 t) (iblk m c 7 t) k0_pay2 := by
  obtain ⟨n, hn⟩ := t
  cases n with
  | zero => rfl
  | succ n => exact absurd h (Nat.succ_ne_zero n)
theorem accB_zero (c : Dev nD) (t : Fin cfg0.N) (h : t.val = 0) : accB m c t.val t.isLt = DBT (iblk m c 0 t) (iblk m c 1 t) (iblk m c 2 t) (iblk m c 3 t) (iblk m c 6 t) k0_pay3 := by
  obtain ⟨n, hn⟩ := t
  cases n with
  | zero => rfl
  | succ n => exact absurd h (Nat.succ_ne_zero n)
theorem Wf_zero (c : Dev nD) (t : Fin cfg0.N) (h : t.val = 0) : WEFF c (V m c main_v2) (iblk m c 4 t) = Wf m c := by
  have e : t = ⟨0, by decide⟩ := Fin.ext h
  rw [Wf, ← e]

/-- What the transfers own, out of the scratch, the cells and the operand; and back. -/
theorem dma_of (c : Dev nD) (XA : Buf (Elt F) (aM.view.loc (c : Thread nD τ))) :
    iprop((∃ d, owns (c : Thread nD τ) scM0_1 fullShare d) ∗ iprop(semVal ((c : Thread nD τ), SemLoc.dma 24) 0 ∗ semVal ((c : Thread nD τ), SemLoc.dma 25) 0) ∗ hbPt0 c hbM0_0 XA)
      ⊢ (DMA c XA : sProp 𝕄) := by
  rw [DMA, a_eq]
  simp only [scM0_1, owns_whole]
  iintro ⟨Hb, ⟨Hq0, Hq1⟩, Hh⟩
  isplitl [Hh]; · iexact Hh
  isplitl [Hb]; · iapply (buf_split c); iexact Hb
  isplitl [Hq0]; · iexact Hq0
  iexact Hq1
theorem of_dma (c : Dev nD) (XA : Buf (Elt F) (aM.view.loc (c : Thread nD τ))) :
    (DMA c XA : sProp 𝕄)
      ⊢ iprop((∃ d, owns (c : Thread nD τ) scM0_1 fullShare d) ∗ iprop(semVal ((c : Thread nD τ), SemLoc.dma 24) 0 ∗ semVal ((c : Thread nD τ), SemLoc.dma 25) 0) ∗ hbPt0 c hbM0_0 XA) := by
  rw [DMA, a_eq]
  simp only [scM0_1, owns_whole]
  iintro ⟨Hh, Hb, Hq0, Hq1⟩
  isplitl [Hb]; · iapply (buf_join c); iexact Hb
  isplitl [Hq0 Hq1]
  · isplitl [Hq0]; · iexact Hq0
    iexact Hq1
  iexact Hh

/-- The region invariant before position `n`: before the first point the launch's invariant; afterwards the same with the converted weights named. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (Wf m c) ∗ (∃ d, owns (c : Thread nD τ) scM0_1 fullShare d) ∗ (∃ d, owns (c : Thread nD τ) scM0_2 fullShare d)) ∗ (∃ r, prngReg c r) ∗ iprop(semVal ((c : Thread nD τ), SemLoc.dma 24) 0 ∗ semVal ((c : Thread nD τ), SemLoc.dma 25) 0) ∗ iprop(hbPt0 c hbM0_0 (V m c main_v2)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (Wf m c) ∗ (∃ d, owns (c : Thread nD τ) scM0_1 fullShare d) ∗ (∃ d, owns (c : Thread nD τ) scM0_2 fullShare d)) ∗ (∃ r, prngReg c r) ∗ iprop(semVal ((c : Thread nD τ), SemLoc.dma 24) 0 ∗ semVal ((c : Thread nD τ), SemLoc.dma 25) 0) ∗ iprop(hbPt0 c hbM0_0 (V m c main_v2))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (Wf m c) ∗ (∃ d, owns (c : Thread nD τ) scM0_1 fullShare d) ∗ (∃ d, owns (c : Thread nD τ) scM0_2 fullShare d)) ∗ (∃ r, prngReg c r) ∗ iprop(semVal ((c : Thread nD τ), SemLoc.dma 24) 0 ∗ semVal ((c : Thread nD τ), SemLoc.dma 25) 0) ∗ iprop(hbPt0 c hbM0_0 (V m c main_v2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => DXO (DD (iblk m c 2 t) (iblk m c 3 t) (iblk m c 5 t) (iblk m c 7 t) (Wf m c))
    | ⟨9, _⟩ => accA m c t.val t.isLt
    | ⟨10, _⟩ => accB m c t.val t.isLt
    | ⟨11, _⟩ => TT (iblk m c 2 t) (iblk m c 3 t) (iblk m c 7 t)
    | ⟨12, _⟩ => XX (iblk m c 0 t) (iblk m c 1 t) (iblk m c 6 t)
    | ⟨13, _⟩ => COD (INV (MX (iblk m c 2 t) (iblk m c 3 t) (iblk m c 5 t) (iblk m c 7 t) (Wf m c))) (DD (iblk m c 2 t) (iblk m c 3 t) (iblk m c 5 t) (iblk m c 7 t) (Wf m c))
    | ⟨14, _⟩ => SCL (MX (iblk m c 2 t) (iblk m c 3 t) (iblk m c 5 t) (iblk m c 7 t) (Wf m c))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = DXO (DD (iblk m c 2 t) (iblk m c 3 t) (iblk m c 5 t) (iblk m c 7 t) (Wf m c)) := by dsimp only [dats]
theorem after0_9 (c : Dev nD) (t : Fin cfg0.N) : (dats m 0 c).after 9 t = accA m c t.val t.isLt := by dsimp only [dats]
theorem after0_10 (c : Dev nD) (t : Fin cfg0.N) : (dats m 0 c).after 10 t = accB m c t.val t.isLt := by dsimp only [dats]
theorem after0_11 (c : Dev nD) (t : Fin cfg0.N) : (dats m 0 c).after 11 t = TT (iblk m c 2 t) (iblk m c 3 t) (iblk m c 7 t) := by dsimp only [dats]
theorem after0_12 (c : Dev nD) (t : Fin cfg0.N) : (dats m 0 c).after 12 t = XX (iblk m c 0 t) (iblk m c 1 t) (iblk m c 6 t) := by dsimp only [dats]
theorem after0_13 (c : Dev nD) (t : Fin cfg0.N) : (dats m 0 c).after 13 t = COD (INV (MX (iblk m c 2 t) (iblk m c 3 t) (iblk m c 5 t) (iblk m c 7 t) (Wf m c))) (DD (iblk m c 2 t) (iblk m c 3 t) (iblk m c 5 t) (iblk m c 7 t) (Wf m c)) := by dsimp only [dats]
theorem after0_14 (c : Dev nD) (t : Fin cfg0.N) : (dats m 0 c).after 14 t = SCL (MX (iblk m c 2 t) (iblk m c 3 t) (iblk m c 5 t) (iblk m c 7 t) (Wf m c)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 36 = 0) (d) :
    (dats m 0 c).before 9 t d = accA m c (t.val - 1) (Nat.lt_of_le_of_lt (Nat.sub_le _ _) t.isLt) := by
  have hN : t.val < 36 := lt_of_lt_of_eq t.isLt (show cfg0.N = 36 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 36 = 0) (d) :
    (dats m 0 c).before 10 t d = accB m c (t.val - 1) (Nat.lt_of_le_of_lt (Nat.sub_le _ _) t.isLt) := by
  have hN : t.val < 36 := lt_of_lt_of_eq t.isLt (show cfg0.N = 36 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 1000000 in
/-- The body at any point: its triple at the first point, or at a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14]
  unfold Dat.owesAt Pipeline.owesWithin
  rw [show (dats m 0 c).owed t.castSucc = 0 from rfl, show (dats m 0 c).owed t.succ = 0 from rfl]
  have hN : t.val < 36 := lt_of_lt_of_eq t.isLt (show cfg0.N = 36 from N_0)
  by_cases hz : t.val = 0
  · have h0 : t.val % 36 = 0 := by omega
    rw [PhiS_castSucc m c t, PhiS_zero m c _ _ hz, PhiD0_eq]
    rw [accA_zero m c t hz, accB_zero m c t hz, ← Wf_zero m c t hz]
    iintro ⟨⟨⟨HS0, HS1, HS2⟩, Hg, Hq, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    ihave HD := (dma_of c (V m c main_v2)) $$ [HS1 Hq Hh0]
    · isplitl [HS1]; · iexact HS1
      isplitl [Hq]; · iexact Hq
      iexact Hh0
    iapply (bodyA c (grid0.coords t) _ _ _ _ _ _ _ _ _ _ _ _ _ _ _ _ _ _ _ _ _ _ _ _ _ _ _ _ _ _ _ _ _ _ ((hcond0_0 t).mpr h0) (V m c main_v2) (iblk m c 0 t) (iblk m c 1 t) (iblk m c 2 t) (iblk m c 3 t) (iblk m c 4 t) (iblk m c 5 t) (iblk m c 6 t) (iblk m c 7 t) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS2]; · iexact HS2
    isplitl [HD]; · iexact HD
    isplitl [HW]; · iexact HW
    iintro ⟨H0, H1, H2, H3, H4, H5, H6, H7, H8, H9, H10, H11, H12, H13, H14, HS0, HS2, HD, ⟨%W', HW'⟩⟩
    ihave HE := (of_dma c (V m c main_v2)) $$ HD
    icases HE with ⟨HS1, Hq, Hh0⟩
    isplitl [HS0 HS1 HS2 Hg Hq Hh0]
    · isplitl [HS0 HS1 HS2]
      · isplitl [HS0]; · iexact HS0
        isplitl [HS1]; · iexact HS1
        iexact HS2
      isplitl [Hg]; · iexact Hg
      isplitl [Hq]; · iexact Hq
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have h0 : ¬ t.val % 36 = 0 := by omega
    rw [PhiS_castSucc m c t, PhiS_pos m c _ _ hz]
    rw [accA_pos m c t hz, accB_pos m c t hz]
    simp only [before0_9_B m c t h0, before0_10_B m c t h0]
    iintro ⟨⟨⟨HS0, HS1, HS2⟩, Hg, Hq, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (bodyB c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ (Wf m c) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexact HS0
    isplitl [HS2]; · iexact HS2
    isplitl [HW]; · iexact HW
    iintro ⟨H0, H1, H2, H3, H4, H5, H6, H7, H8, H9, H10, H11, H12, H13, H14, HS0, HS2, ⟨%W', HW'⟩⟩
    isplitl [HS0 HS1 HS2 Hg Hq Hh0]
    · isplitl [HS0 HS1 HS2]
      · isplitl [HS0]; · iexact HS0
        isplitl [HS1]; · iexact HS1
        iexact HS2
      isplitl [Hg]; · iexact Hg
      isplitl [Hq]; · iexact Hq
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1⟩, Hh0⟩
  isplitl [HS0 HS1 HS2]
  · isplitl [HS0]
    · iexists _; iexact HS0
    isplitl [HS1]
    · iexact HS1
    iexact HS2
  isplitl [Hg]; · iexact Hg
  isplitl [Hq0 Hq1]
  · isplitl [Hq0]; · iexact Hq0
    iexact Hq1
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 36 := N_0; omega)

/-! ## The run and the frame -/

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: every run ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.KernelIdeal.Ring.lean ====
/- The conversion loop of the first grid point: the blocks of `w0` in the operand's buffer, the two slots of the staging
   buffer, their transfer cells, and the offset chains in closed form. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

omit [FloatOps F] in
theorem entails_of_eq {P Q : sProp 𝕄} (e : P = Q) : P ⊢ Q := e ▸ .rfl

/-! ## Canonical names -/

/-- The operand `w0`, unstaged; -/
abbrev aM : Memref sig .tc .hbm S2304x9216 .fp8e4m3 := Memref.whole main_v2
/-- the staging buffer of two slots. -/
abbrev bufM : Memref sig .tc .vmem S2x128x9216 .fp8e4m3 := Memref.whole cc0_scratch1

abbrev grpOff (b : Fin 18) : Fin 2 → Nat := ![128 * b.val, 0]
theorem grpOff_inb (b : Fin 18) : ∀ a, grpOff b a + S128x9216.size a ≤ S2304x9216.size a := by
  have := b.isLt; intro a; fin_cases a
  · show 128 * b.val + 128 ≤ 2304; omega
  · show 0 + 9216 ≤ 9216; omega
abbrev slotOff (s : Fin 2) : Fin 3 → Nat := ![s.val, 0, 0]
theorem slotOff_inb (s : Fin 2) : ∀ a, slotOff s a + S1x128x9216.size a ≤ S2x128x9216.size a := by
  have := s.isLt; intro a; fin_cases a
  · show s.val + 1 ≤ 2; omega
  · show 0 + 128 ≤ 128; omega
  · show 0 + 9216 ≤ 9216; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` of `w0`: 128 of its rows. -/
def grp (b : Fin 18) : Memref sig .tc .hbm S128x9216 .fp8e4m3 :=
  aM.slice (Rect.unit (s := S2304x9216) (grpOff b) S128x9216.size (grpOff_inb b)) (fun _ => rfl)
/-- Slot `s` of the staging buffer. -/
def rslot (s : Fin 2) : Memref sig .tc .vmem S128x9216 .fp8e4m3 :=
  (bufM.slice (Rect.unit (s := S2x128x9216) (slotOff s) S1x128x9216.size (slotOff_inb s)) (fun _ => rfl)).squeeze S128x9216 squeezes_S1x128x9216_S128x9216
/-- Slot `s`'s transfer cell. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 18) : ClosedOff (grpOff b) := ⟨grpOff b, rfl⟩

/-! ## The offset chains in closed form -/

section Chain
open Affine

theorem trips1 : k0_t1_loop.trips = 18 := by decide
theorem trips2 : k0_t2_loop.trips = 3 := by decide

theorem iv1 (k : Fin k0_t1_loop.trips) : IsInt (Scf.iv 0#32 1#32 k.val) k.val := by
  have := Nat.lt_of_lt_of_eq k.isLt trips1
  exact iv (e := k.val) (ofNat (e := 0) 0 ⟨rfl, by decide⟩) (ofNat (e := 1) 1 ⟨rfl, by decide⟩) k.val ⟨by omega, by omega, by omega⟩
theorem rem1 (k : Fin k0_t1_loop.trips) : IsInt (Scalar.remsi (Scf.iv 0#32 1#32 k.val) 2#32) (k.val % 2 : Nat) :=
  remsi (e := (k.val % 2 : Nat)) (iv1 k) (ofNat (e := 2) 2 ⟨rfl, by decide⟩) ⟨by omega, by omega, by omega⟩
theorem orem1 (k : Fin k0_t1_loop.trips) : IsInt (Scalar.subi 1#32 (Scalar.remsi (Scf.iv 0#32 1#32 k.val) 2#32)) ((k.val + 1) % 2 : Nat) :=
  subi (e := ((k.val + 1) % 2 : Nat)) (ofNat (e := 1) 1 ⟨rfl, by decide⟩) (rem1 k) ⟨by omega, by omega, by omega⟩
theorem mul1 (k : Fin k0_t1_loop.trips) : IsInt (Scalar.muli (Scf.iv 0#32 1#32 k.val) 128#32) (128 * k.val : Nat) := by
  have := Nat.lt_of_lt_of_eq k.isLt trips1
  exact muli (e := (128 * k.val : Nat)) (iv1 k) (ofNat (e := 128) 128 ⟨rfl, by decide⟩) ⟨by push_cast; omega, by omega, by omega⟩
theorem mulS1 (k : Fin k0_t1_loop.trips) :
    IsInt (Scalar.muli (Scalar.addi (Scf.iv 0#32 1#32 k.val) 1#32) 128#32) (128 * (k.val + 1) : Nat) := by
  have := Nat.lt_of_lt_of_eq k.isLt trips1
  have h1 : IsInt (Scalar.addi (Scf.iv 0#32 1#32 k.val) 1#32) (k.val + 1 : Nat) :=
    addi (e := (k.val + 1 : Nat)) (iv1 k) (ofNat (e := 1) 1 ⟨rfl, by decide⟩) ⟨by push_cast; omega, by omega, by omega⟩
  exact muli (e := (128 * (k.val + 1) : Nat)) h1 (ofNat (e := 128) 128 ⟨rfl, by decide⟩) ⟨by push_cast; omega, by omega, by omega⟩

theorem off1_eq (k : Fin k0_t1_loop.trips) : k0_off1 k = semOff (Ring.sl 2 (k.val + 1)) :=
  vec_cons (orem1 k) (by simp [Ring.sl, Fin.ofNat]) vec_nil
theorem off2_eq (k : Fin k0_t1_loop.trips) : k0_off2 k = slotOff (Ring.sl 2 (k.val + 1)) :=
  vec_cons (orem1 k) (by simp [Ring.sl, Fin.ofNat]) rfl
theorem off3_eq (k : Fin k0_t1_loop.trips) (hk : k.val + 1 < 18) : k0_off3 k = grpOff (Ring.bk 18 (k.val + 1)) :=
  vec_cons (mulS1 k) (by rw [Ring.bk_val hk]) rfl
theorem off4_eq (k : Fin k0_t1_loop.trips) : k0_off4 k = semOff (Ring.sl 2 k.val) :=
  vec_cons (rem1 k) (by simp [Ring.sl, Fin.ofNat]) vec_nil
theorem off5_eq (k : Fin k0_t1_loop.trips) : k0_off5 k = slotOff (Ring.sl 2 k.val) :=
  vec_cons (rem1 k) (by simp [Ring.sl, Fin.ofNat]) rfl
theorem off6_eq (k : Fin k0_t1_loop.trips) : k0_off6 k = grpOff (Ring.bk 18 k.val) :=
  vec_cons (mul1 k) (by rw [Ring.bk_val (Nat.lt_of_lt_of_eq k.isLt trips1)]) rfl
theorem off7_eq (k : Fin k0_t1_loop.trips) : k0_off7 k = slotOff (Ring.sl 2 k.val) :=
  vec_cons (indexCast (rem1 k)) (by simp [Ring.sl, Fin.ofNat]) rfl
theorem off8_eq (k : Fin k0_t1_loop.trips) : k0_off8 k = grpOff (Ring.bk 18 k.val) :=
  vec_cons (indexCast (mul1 k)) (by rw [Ring.bk_val (Nat.lt_of_lt_of_eq k.isLt trips1)]) rfl

instance (k : Fin k0_t1_loop.trips) : ClosedOff (k0_off2 k) := ⟨slotOff (Ring.sl 2 (k.val + 1)), off2_eq k⟩
instance (k : Fin k0_t1_loop.trips) : ClosedOff (k0_off5 k) := ⟨slotOff (Ring.sl 2 k.val), off5_eq k⟩
instance (k : Fin k0_t1_loop.trips) : ClosedOff (k0_off7 k) := ⟨slotOff (Ring.sl 2 k.val), off7_eq k⟩

theorem cond2_iff (k : Fin k0_t1_loop.trips) : k0_cond2 k = 1#1 ↔ k.val + 1 < 18 := by
  revert k; decide +kernel

/-! The rows loop. -/
theorem iv2 (k : Fin k0_t2_loop.trips) : IsInt (Scf.iv 0#32 1#32 k.val) k.val := by
  have := Nat.lt_of_lt_of_eq k.isLt trips2
  exact iv (e := k.val) (ofNat (e := 0) 0 ⟨rfl, by decide⟩) (ofNat (e := 1) 1 ⟨rfl, by decide⟩) k.val ⟨by omega, by omega, by omega⟩
theorem mul2 (k : Fin k0_t2_loop.trips) : IsInt (Scalar.muli (Scf.iv 0#32 1#32 k.val) 768#32) (768 * k.val : Nat) := by
  have := Nat.lt_of_lt_of_eq k.isLt trips2
  exact muli (e := (768 * k.val : Nat)) (iv2 k) (ofNat (e := 768) 768 ⟨rfl, by decide⟩) ⟨by push_cast; omega, by omega, by omega⟩
theorem off9_eq (k : Fin k0_t2_loop.trips) : k0_off9 k = ![768 * k.val, 0] := vec_cons (indexCast (mul2 k)) rfl rfl
theorem off10_eq (k : Fin k0_t2_loop.trips) : k0_off10 k = ![768 * k.val, 0] := vec_cons (indexCast (mul2 k)) rfl rfl
theorem off11_eq (k : Fin k0_t2_loop.trips) : k0_off11 k = ![768 * k.val, 0] := vec_cons (indexCast (mul2 k)) rfl rfl

end Chain

/-! ### The body's slices are `csm`, `rslot`, `grp` -/

private theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x128x9216) off S1x128x9216.size hh) hs).squeeze S128x9216 squeezes_S1x128x9216_S128x9216 = rslot s :=
  congrArg (fun M : Memref sig .tc .vmem S1x128x9216 .fp8e4m3 => M.squeeze S128x9216 squeezes_S1x128x9216_S128x9216) (Memref.slice_unit_congr _ e _ _ _ _)
private theorem grp_congr {off : Fin 2 → Nat} {b : Fin 18} (e : off = grpOff b) (hh hs) :
    aM.slice (Rect.unit (s := S2304x9216) off S128x9216.size hh) hs = grp b :=
  Memref.slice_unit_congr _ e _ _ hs (fun _ => rfl)

@[sl_canon] theorem semL0 (hh) : (cc0_scratch3.slice (Rect.unit (s := S2) ![0] S1.size hh)).squeeze S_ squeezes_S1_S_ = csm 0 := csm_congr (by decide) _
@[sl_canon] theorem slotL0 (hh hs) : (bufM.slice (Rect.unit (s := S2x128x9216) ![0, 0, 0] S1x128x9216.size hh) hs).squeeze S128x9216 squeezes_S1x128x9216_S128x9216 = rslot 0 := rslot_congr (by decide) _ _
@[sl_canon] theorem grpL0 (hh hs) : aM.slice (Rect.unit (s := S2304x9216) ![0, 0] S128x9216.size hh) hs = grp 0 := grp_congr (by decide) _ _

@[sl_canon] theorem semI (k : Fin k0_t1_loop.trips) (hh) :
    (cc0_scratch3.slice (Rect.unit (s := S2) (k0_off1 k) S1.size hh)).squeeze S_ squeezes_S1_S_ = csm (Ring.sl 2 (k.val + 1)) := csm_congr (off1_eq k) _
@[sl_canon] theorem slotI (k : Fin k0_t1_loop.trips) (hh hs) :
    (bufM.slice (Rect.unit (s := S2x128x9216) (k0_off2 k) S1x128x9216.size hh) hs).squeeze S128x9216 squeezes_S1x128x9216_S128x9216 = rslot (Ring.sl 2 (k.val + 1)) := rslot_congr (off2_eq k) _ _
@[sl_canon] theorem grpI (k : Fin k0_t1_loop.trips) (hk : k.val + 1 < 18) (hh hs) :
    aM.slice (Rect.unit (s := S2304x9216) (k0_off3 k) S128x9216.size hh) hs = grp (Ring.bk 18 (k.val + 1)) := grp_congr (off3_eq k hk) _ _
@[sl_canon] theorem semK (k : Fin k0_t1_loop.trips) (hh) :
    (cc0_scratch3.slice (Rect.unit (s := S2) (k0_off4 k) S1.size hh)).squeeze S_ squeezes_S1_S_ = csm (Ring.sl 2 k.val) := csm_congr (off4_eq k) _
@[sl_canon] theorem slotK (k : Fin k0_t1_loop.trips) (hh hs) :
    (bufM.slice (Rect.unit (s := S2x128x9216) (k0_off5 k) S1x128x9216.size hh) hs).squeeze S128x9216 squeezes_S1x128x9216_S128x9216 = rslot (Ring.sl 2 k.val) := rslot_congr (off5_eq k) _ _
@[sl_canon] theorem grpK (k : Fin k0_t1_loop.trips) (hh hs) :
    aM.slice (Rect.unit (s := S2304x9216) (k0_off6 k) S128x9216.size hh) hs = grp (Ring.bk 18 k.val) := grp_congr (off6_eq k) _ _

/-! ## The pieces -/

section Pieces
variable (c : Dev nD) (XA : Buf (Elt F) (aM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Block `b` home: held on its elements at `w0`'s contents. -/
abbrev homeP (b : Fin 18) : sProp 𝕄 := (grp b).view.loc (c : Thread nD τ) ↦[(grp b).view.set]{fullShare} XA
/-- What block `b`'s transfer leaves in slot `s` over prior contents `f`. -/
abbrev landed (s : Fin 2) (b : Fin 18) (f : Buf (Elt F) ((rslot s).view.loc (c : Thread nD τ))) : Buf (Elt F) ((rslot s).view.loc (c : Thread nD τ)) :=
  (rslot s).view.writes (Elt F) f [⟨Rect.whole S128x9216, ReadAs.same.apply ((grp b).view.read (Elt F) XA)⟩]
/-- A block's transfer moves 36864 units on its cell. -/
abbrev NN : ℕ := 36864
/-- Slot `s` in flight with block `b`, issued over `f`. -/
abbrev flightP (s : Fin 2) (b : Fin 18) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

end Pieces

end Cert.KernelIdeal.Hand

end
-- ==== Proof.KernelIdeal.LoopW.lean ====
/- One trip of the conversion loop and the loop's invariant: before trip `k` the converted weights hold the first `128 * k`
   rows, block `k` is in flight into slot `k % 2` and the other slot is free. -/
module

public import proofs.«01_k».proof.Proof.KernelIdeal.Ring
public import Idealize.ShloMosaic.Lib.VecWindow
public import Idealize.ShloMosaic.Lib.WholeRead
public import Idealize.ShloMosaic.Lib.Pointwise

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Trip
variable (c : Dev nD) (XA : Buf (Elt F) (aM.view.loc (c : Thread nD τ))) (x4 : Vec F S1x9216 .f32)
  (i : grid0.Coords) (arg1 : Memref sig .tc .vmem S256x2304 .fp8e4m3) (harg1 : arg1.IsWhole) (arg2 : Memref sig .tc .vmem S1x1x256 .f32) (harg2 : arg2.IsWhole) (arg3 : Memref sig .tc .vmem S256x9216 .fp8e5m2) (harg3 : arg3.IsWhole) (arg4 : Memref sig .tc .vmem S1x1x256 .f32) (harg4 : arg4.IsWhole) (arg6 : Memref sig .tc .vmem S1x9216 .f32) (harg6 : arg6.IsWhole) (arg7 : Memref sig .tc .vmem S2304x96 .bf16) (harg7 : arg7.IsWhole) (arg8 : Memref sig .tc .vmem S32x2304 .bf16) (harg8 : arg8.IsWhole) (arg9 : Memref sig .tc .vmem S32x9216 .bf16) (harg9 : arg9.IsWhole) (arg10 : Memref sig .tc .vmem S256x2304 .bf16) (harg10 : arg10.IsWhole) (arg11 : Memref sig .tc .vmem S32x2304 .f32) (harg11 : arg11.IsWhole) (arg12 : Memref sig .tc .vmem S32x9216 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x2304 .fp8e5m2) (harg15 : arg15.IsWhole) (arg16 : Memref sig .tc .vmem S1x1x256 .f32) (harg16 : arg16.IsWhole) (arg17 : Memref sig .tc .vmem S2304x9216 .bf16) (harg17 : arg17.IsWhole) (arg19 : Memref sig .tc .vmem S2304x256 .f32) (harg19 : arg19.IsWhole) (k0_h1 : k0_cond1 i = 1#1)

/-- Block `b` of `w0`, as a slot of the staging buffer is read. -/
def wblk (b : Fin 18) : Vec F S1x128x9216 .fp8e4m3 := shapeCast S1x128x9216 ((grp b).view.read (Elt F) XA) (by decide)

/-- The converted weights before trip `k`, from `d` at the loop's entry. -/
def wrec (d : Vec F S2304x9216 .bf16) : ℕ → Vec F S2304x9216 .bf16
  | 0 => d
  | k + 1 => VecWindow.put (wrec d k) (grpOff (Ring.bk 18 k)) S128x9216.size (k0_pay1 (wblk c XA (Ring.bk 18 k)) x4)

/-- The converted weights: row `y` is row `y % 128` of block `y / 128`, converted. -/
def WEFF : Vec F S2304x9216 .bf16 := fun y =>
  k0_pay1 (wblk c XA (Ring.bk 18 ((y 0).val / 128))) x4 (ix2 ⟨(y 0).val % 128, Nat.mod_lt _ (by decide)⟩ (y 1))

theorem wrec_apply (d : Vec F S2304x9216 .bf16) (k : ℕ) (hk : k ≤ 18) (y : S2304x9216.Idx) :
    wrec c XA x4 d k y = if (y 0).val < 128 * k then WEFF c XA x4 y else d y := by
  induction k with
  | zero => simp [wrec]
  | succ k ih =>
    have hb : (Ring.bk 18 k).val = k := Ring.bk_val (show k < 18 by omega)
    have h1 : (y 1).val < 9216 := (y 1).isLt
    rw [wrec, VecWindow.put]
    split
    · rename_i h
      have h0 : 128 * (Ring.bk 18 k).val ≤ (y 0).val ∧ (y 0).val < 128 * (Ring.bk 18 k).val + 128 := h 0
      rw [if_pos (by omega), WEFF]
      have e : (y 0).val / 128 = k := by omega
      rw [e]
      congr 1
      funext a
      apply Fin.ext
      match a with
      | ⟨0, _⟩ => show (y 0).val - 128 * (Ring.bk 18 k).val = (y 0).val % 128; omega
      | ⟨1, _⟩ => show (y 1).val - 0 = (y 1).val; omega
    · rename_i h
      rw [ih (by omega)]
      by_cases h0 : (y 0).val < 128 * k
      · rw [if_pos h0, if_pos (by omega)]
      · rw [if_neg h0, if_neg]
        intro h2; apply h; intro a
        match a with
        | ⟨0, _⟩ => show 128 * (Ring.bk 18 k).val ≤ (y 0).val ∧ (y 0).val < 128 * (Ring.bk 18 k).val + 128; omega
        | ⟨1, _⟩ => show 0 ≤ (y 1).val ∧ (y 1).val < 0 + 9216; omega

theorem wrec_end (d : Vec F S2304x9216 .bf16) : wrec c XA x4 d 18 = WEFF c XA x4 := by
  funext y
  have h0 : (y 0).val < 2304 := (y 0).isLt
  rw [wrec_apply c XA x4 d 18 (le_refl _) y, if_pos (by omega)]

/-- A load of the staging buffer at slot `s`'s rectangle, after block `b` has landed there. -/
theorem read_slot {off : Fin 3 → ℕ} (s : Fin 2) (b : Fin 18) (e : off = slotOff s) (inb : ∀ a, off a + S1x128x9216.size a ≤ S2x128x9216.size a)
    (f : Buf (Elt F) ((rslot s).view.loc (c : Thread nD τ))) :
    View.readAt (Elt F) bufM.view (Rect.unit (s := S2x128x9216) off S1x128x9216.size inb).toLoadRect (landed c XA s b f) = wblk c XA b := by
  subst e
  have h : (rslot s).view.read (Elt F) (landed c XA s b f) = (grp b).view.read (Elt F) XA := View.read_writes_whole _ _ _
  funext j
  have h2 := congrFun h (Shape.reshapeEquiv (by decide : S1x128x9216.numel = S128x9216.numel) j)
  refine Eq.trans ?_ h2
  show bufM.view.read (Elt F) _ ((Rect.unit (s := S2x128x9216) (slotOff s) S1x128x9216.size inb).emb j)
    = bufM.view.read (Elt F) _ ((Rect.unit (s := S2x128x9216) (slotOff s) S1x128x9216.size (slotOff_inb s)).emb (Shape.reshapeEquiv _ (Shape.reshapeEquiv _ j)))
  rw [Shape.reshapeEquiv_reshapeEquiv, Shape.reshapeEquiv_self]

/-- The other blocks, home while block `k` is in flight. -/
abbrev HS (k : ℕ) : Finset (Fin 18) := Finset.univ.erase (Ring.bk 18 k)

theorem homes_here (k : ℕ) (hk : k + 1 < 18) :
    bigSep (HS k) (homeP c XA) = iprop(homeP c XA (Ring.bk 18 (k + 1)) ∗ bigSep ((HS k).erase (Ring.bk 18 (k + 1))) (homeP c XA)) := by
  have h : Ring.bk 18 (k + 1) ∈ HS k := by
    rw [Finset.mem_erase]; refine ⟨?_, Finset.mem_univ _⟩
    rw [Ne, Fin.ext_iff, Ring.bk_val hk, Ring.bk_val (show k < 18 by omega)]; omega
  conv_lhs => rw [← Finset.insert_erase h, bigSep_insert (Finset.notMem_erase _ _)]
  rfl
theorem homes_next (k : ℕ) (hk : k + 1 < 18) :
    bigSep (HS (k + 1)) (homeP c XA) = iprop(homeP c XA (Ring.bk 18 k) ∗ bigSep ((HS k).erase (Ring.bk 18 (k + 1))) (homeP c XA)) := by
  have h : Ring.bk 18 k ∈ HS (k + 1) := by
    rw [Finset.mem_erase]; refine ⟨?_, Finset.mem_univ _⟩
    rw [Ne, Fin.ext_iff, Ring.bk_val hk, Ring.bk_val (show k < 18 by omega)]; omega
  conv_lhs => rw [← Finset.insert_erase h, bigSep_insert (Finset.notMem_erase _ _), Finset.erase_right_comm]
  rfl
theorem homes_all (k : ℕ) :
    bigSep Finset.univ (homeP c XA) = iprop(homeP c XA (Ring.bk 18 k) ∗ bigSep (HS k) (homeP c XA)) := by
  conv_lhs => rw [← Finset.insert_erase (Finset.mem_univ (Ring.bk 18 k)), bigSep_insert (Finset.notMem_erase _ _)]
  rfl

theorem sl2_add2 (k : ℕ) : Ring.sl 2 (k + 1 + 1) = Ring.sl 2 k := by rw [show k + 1 + 1 = k + 2 from rfl, Ring.sl_add]

abbrev wP (f : Buf (Elt F) (arg17.view.loc (c : Thread nD τ))) : sProp 𝕄 := arg17.view.loc (c : Thread nD τ) ↦[arg17.view.set]{fullShare} f
abbrev sP : sProp 𝕄 := arg6.view.loc (c : Thread nD τ) ↦[arg6.view.set]{fullShare} harg6.unread x4

/-- The ring before trip `k < 18`. -/
def ringAt (k : ℕ) : sProp 𝕄 :=
  iprop((∃ W, owes (c : Thread nD τ) 0 W) ∗ bigSep (HS k) (homeP c XA)
    ∗ (∃ f, flightP c XA (Ring.sl 2 k) (Ring.bk 18 k) f) ∗ (∃ f, slotP c (Ring.sl 2 (k + 1)) f) ∗ cellP c (Ring.sl 2 (k + 1)))
/-- The ring after the last trip. -/
def ringEnd : sProp 𝕄 :=
  iprop((∃ W, owes (c : Thread nD τ) 0 W) ∗ bigSep Finset.univ (homeP c XA)
    ∗ ((∃ f, slotP c (Ring.sl 2 17) f) ∗ (∃ f, slotP c (Ring.sl 2 (17 + 1)) f)) ∗ cellP c (Ring.sl 2 17) ∗ cellP c (Ring.sl 2 (17 + 1)))

abbrev tripG (k : Fin k0_t1_loop.trips) : Prog (TpuEff nD τ sig (Elt F) Λ₀ .tc) Unit :=
  k0_t1_body (F := F) i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3 k0_h1 k ()

abbrev R8 (k : Fin k0_t1_loop.trips) : Rect S2304x9216 := Rect.unit (s := S2304x9216) (k0_off8 k) S128x9216.size (k0_off8_inb i k k0_h1)

theorem tripRun (k : Fin k0_t1_loop.trips) (hk : k.val + 1 < 18) (f : Buf (Elt F) (arg17.view.loc (c : Thread nD τ))) :
  iprop(sP c x4 arg6 harg6 ∗ wP c arg17 f ∗ ringAt c XA k) ⊢ wp frame (wpE (defs₀ (F := F)) Variants.none (c : Thread nD τ) none) Set.univ
      (tripG i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k0_h1 k)
      (fun _ => iprop(sP c x4 arg6 harg6 ∗ wP c arg17 (arg17.view.writes (Elt F) f [⟨R8 i k0_h1 k, k0_pay1 (wblk c XA (Ring.bk 18 k.val)) x4⟩]) ∗ ringAt c XA (k.val + 1))) := by
  have hc : k0_cond2 k = 1#1 := (cond2_iff k).2 hk
  unfold ringAt
  rw [homes_here c XA k.val hk, homes_next c XA k.val hk, sl2_add2]
  iintro ⟨H6, HO, ⟨%W, HW⟩, ⟨Hg, Hrest⟩, ⟨%f0, HF0⟩, ⟨%f1, HS1⟩, Hc1⟩
  dsimp only [tripG]
  sl_unfold [k0_t1_body]
  sl_exec (disch := first | sl_exact hc)
  sl_step
  isplitl [H6]; · iexact H6
  have e5 : tripRun.sl.v405 c XA i k0_h1 k = wblk c XA (Ring.bk 18 k.val) := read_slot c XA _ _ (off7_eq k) _ _
  have e6 : View.readAt (Elt F) arg6.view (Rect.unit ![0, 0] S1x9216.size inb_S1x9216_S1x9216_0_0).toLoadRect (harg6.unread x4) = x4 :=
    (View.readAt_full _ _ _).trans (harg6.read_unread x4)
  isplitl [HO]
  · iapply (entails_of_eq (congrArg (fun w => wP c arg17 (arg17.view.writes (Elt F) f [⟨R8 i k0_h1 k, w⟩])) (congrArg₂ k0_pay1 e5 e6)))
    iexact HO
  isplitl [HW]; · iexists _; iexact HW
  isplitl [HF0_src Hrest]
  · isplitl [HF0_src]; · iexact HF0_src
    iexact Hrest
  isplitl [Hc1]; · iexists f1; iexact Hc1
  isplitl [HF0_dst]; · iexists _; iexact HF0_dst
  iexact HF0

theorem tripLast (k : Fin k0_t1_loop.trips) (hk : k.val = 17) (f : Buf (Elt F) (arg17.view.loc (c : Thread nD τ))) :
  iprop(sP c x4 arg6 harg6 ∗ wP c arg17 f ∗ ringAt c XA k) ⊢ wp frame (wpE (defs₀ (F := F)) Variants.none (c : Thread nD τ) none) Set.univ
      (tripG i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k0_h1 k)
      (fun _ => iprop(sP c x4 arg6 harg6 ∗ wP c arg17 (arg17.view.writes (Elt F) f [⟨R8 i k0_h1 k, k0_pay1 (wblk c XA (Ring.bk 18 k.val)) x4⟩]) ∗ ringEnd c XA)) := by
  have hc : ¬ k0_cond2 k = 1#1 := fun h => by have := (cond2_iff k).1 h; omega
  unfold ringAt ringEnd
  rw [homes_all c XA k.val]
  iintro ⟨H6, HO, ⟨%W, HW⟩, Hrest, ⟨%f0, HF0⟩, ⟨%f1, HS1⟩, Hc1⟩
  dsimp only [tripG]
  sl_unfold [k0_t1_body]
  sl_exec (disch := first | sl_exact hc)
  sl_step
  isplitl [H6]; · iexact H6
  have e5 : tripLast.sl.v405 c XA i k0_h1 k = wblk c XA (Ring.bk 18 k.val) := read_slot c XA _ _ (off7_eq k) _ _
  have e6 : View.readAt (Elt F) arg6.view (Rect.unit ![0, 0] S1x9216.size inb_S1x9216_S1x9216_0_0).toLoadRect (harg6.unread x4) = x4 :=
    (View.readAt_full _ _ _).trans (harg6.read_unread x4)
  isplitl [HO]
  · iapply (entails_of_eq (congrArg (fun w => wP c arg17 (arg17.view.writes (Elt F) f [⟨R8 i k0_h1 k, w⟩])) (congrArg₂ k0_pay1 e5 e6)))
    iexact HO
  isplitl [HW]; · iexists _; iexact HW
  isplitl [HF0_src Hrest]
  · isplitl [HF0_src]; · iexact HF0_src
    iexact Hrest
  irw [← hk]
  isplitl [HF0_dst HS1]
  · isplitl [HF0_dst]; · iexists _; iexact HF0_dst
    iexists f1; iexact HS1
  isplitl [HF0]; · iexact HF0
  iexact Hc1

/-- The ring before trip `k`, for every `k`. -/
def ring (k : ℕ) : sProp 𝕄 := if k < 18 then ringAt c XA k else ringEnd c XA

theorem unread_put (k : Fin k0_t1_loop.trips) (d : Vec F S2304x9216 .bf16) :
    arg17.view.writes (Elt F) (harg17.unread (wrec c XA x4 d k.val)) [⟨R8 i k0_h1 k, k0_pay1 (wblk c XA (Ring.bk 18 k.val)) x4⟩]
      = harg17.unread (wrec c XA x4 d (k.val + 1)) := by
  refine harg17.eq_unread ?_
  rw [View.read_writes_cons_put _ _ _ _ _ (off8_eq k), View.writes_nil, harg17.read_unread]
  rfl

set_option warn.classDefReducibility false in
/-- THE LOOP'S INVARIANT. -/
@[sl_loop] def loopInv1 (d : Vec F S2304x9216 .bf16) :
    LoopInvTy_k0_t1 (F := F) Unit ℕ (Pipeline.UD sig nD τ) ℕ Variants.none c none Set.univ i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3 k0_h1 where
  inv k _ := iprop(sP c x4 arg6 harg6 ∗ wP c arg17 (harg17.unread (wrec c XA x4 d k)) ∗ ring c XA k)
  step k _ := by
    have hk := Nat.lt_of_lt_of_eq k.isLt trips1
    rw [← unread_put c XA x4 i arg17 harg17 k0_h1 k d]
    unfold ring
    rw [if_pos hk]
    by_cases h : k.val + 1 < 18
    · rw [if_pos h]; exact tripRun c XA x4 i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k0_h1 k h _
    · rw [if_neg h]; exact tripLast c XA x4 i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k0_h1 k (by omega) _

/-- What the loop leaves: the weights converted, everything home. -/
instance (d : Vec F S2304x9216 .bf16) : LoopExit (loopInv1 c XA x4 i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k0_h1 d) where
  post acc := iprop(sP c x4 arg6 harg6 ∗ wP c arg17 (harg17.unread (WEFF c XA x4)) ∗ ringEnd c XA)
  exit acc := by
    show iprop(sP c x4 arg6 harg6 ∗ wP c arg17 (harg17.unread (wrec c XA x4 d k0_t1_loop.trips)) ∗ ring c XA k0_t1_loop.trips) ⊢ _
    rw [trips1, wrec_end, ring, if_neg (by decide)]

end Trip
end Cert.KernelIdeal.Hand

end
-- ==== Proof.KernelIdeal.LoopR.lean ====
/- The rows loop: three trips, each a block of 768 rows of the transposed gradient and its part of the running maximum; the
   loop's invariant states both as functions of what the loop reads. -/
module

public import proofs.«01_k».proof.Proof.KernelIdeal.LoopW

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Trip
variable (v6 : FVec F S1x256 .f32) (v73 : FVec F S32x256 .f32) (v74 : FVec F S32x256 .bf16)
  (w : Vec F S2304x9216 .bf16) (x2 : Vec F S256x9216 .fp8e5m2) (x5 : Vec F S2304x96 .bf16)

/-- Rows `768 k` to `768 k + 767` of the converted weights; -/
def rowsW (k : ℕ) : Vec F S768x9216 .bf16 := fun j =>
  w (ix2 ⟨(768 * k + (j 0).val) % 2304, Nat.mod_lt _ (by decide)⟩ (j 1))
/-- of the split `a` factor. -/
def rowsA (k : ℕ) : Vec F S768x96 .bf16 := fun j =>
  x5 (ix2 ⟨(768 * k + (j 0).val) % 2304, Nat.mod_lt _ (by decide)⟩ (j 1))

/-- The transposed gradient: row `y` is row `y % 768` of trip `y / 768`'s block. -/
def DXT : Vec F S2304x256 .f32 := fun y =>
  k0_pay18 v6 v73 v74 (rowsW w ((y 0).val / 768)) x2 (rowsA x5 ((y 0).val / 768)) (ix2 ⟨(y 0).val % 768, Nat.mod_lt _ (by decide)⟩ (y 1))
/-- The running maximum before trip `k`. -/
def AMAX (init : FVec F S1x256 .f32) : ℕ → FVec F S1x256 .f32
  | 0 => init
  | k + 1 => k0_pay19 v6 v73 v74 (AMAX init k) (rowsW w k) x2 (rowsA x5 k)

/-- The transposed gradient's buffer before trip `k`, from `d` at the loop's entry. -/
def drec (d : Vec F S2304x256 .f32) : ℕ → Vec F S2304x256 .f32
  | 0 => d
  | k + 1 => VecWindow.put (drec d k) ![768 * k, 0] S768x256.size (k0_pay18 v6 v73 v74 (rowsW w k) x2 (rowsA x5 k))

theorem drec_apply (d : Vec F S2304x256 .f32) (k : ℕ) (hk : k ≤ 3) (y : S2304x256.Idx) :
    drec v6 v73 v74 w x2 x5 d k y = if (y 0).val < 768 * k then DXT v6 v73 v74 w x2 x5 y else d y := by
  induction k with
  | zero => simp [drec]
  | succ k ih =>
    have h1 : (y 1).val < 256 := (y 1).isLt
    rw [drec, VecWindow.put]
    split
    · rename_i h
      have h0 : 768 * k ≤ (y 0).val ∧ (y 0).val < 768 * k + 768 := h 0
      rw [if_pos (by omega), DXT]
      have e : (y 0).val / 768 = k := by omega
      rw [e]
      congr 1
      funext a
      apply Fin.ext
      match a with
      | ⟨0, _⟩ => show (y 0).val - 768 * k = (y 0).val % 768; omega
      | ⟨1, _⟩ => show (y 1).val - 0 = (y 1).val; omega
    · rename_i h
      rw [ih (by omega)]
      by_cases h0 : (y 0).val < 768 * k
      · rw [if_pos h0, if_pos (by omega)]
      · rw [if_neg h0, if_neg]
        intro h2; apply h; intro a
        match a with
        | ⟨0, _⟩ => show 768 * k ≤ (y 0).val ∧ (y 0).val < 768 * k + 768; omega
        | ⟨1, _⟩ => show 0 ≤ (y 1).val ∧ (y 1).val < 0 + 256; omega

theorem drec_end (d : Vec F S2304x256 .f32) : drec v6 v73 v74 w x2 x5 d 3 = DXT v6 v73 v74 w x2 x5 := by
  funext y
  have h0 : (y 0).val < 2304 := (y 0).isLt
  rw [drec_apply v6 v73 v74 w x2 x5 d 3 (le_refl _) y, if_pos (by omega)]

variable (c : Dev nD) (i : grid0.Coords) (arg1 : Memref sig .tc .vmem S256x2304 .fp8e4m3) (harg1 : arg1.IsWhole) (arg2 : Memref sig .tc .vmem S1x1x256 .f32) (harg2 : arg2.IsWhole) (arg3 : Memref sig .tc .vmem S256x9216 .fp8e5m2) (harg3 : arg3.IsWhole) (arg4 : Memref sig .tc .vmem S1x1x256 .f32) (harg4 : arg4.IsWhole) (arg6 : Memref sig .tc .vmem S1x9216 .f32) (harg6 : arg6.IsWhole) (arg7 : Memref sig .tc .vmem S2304x96 .bf16) (harg7 : arg7.IsWhole) (arg8 : Memref sig .tc .vmem S32x2304 .bf16) (harg8 : arg8.IsWhole) (arg9 : Memref sig .tc .vmem S32x9216 .bf16) (harg9 : arg9.IsWhole) (arg10 : Memref sig .tc .vmem S256x2304 .bf16) (harg10 : arg10.IsWhole) (arg11 : Memref sig .tc .vmem S32x2304 .f32) (harg11 : arg11.IsWhole) (arg12 : Memref sig .tc .vmem S32x9216 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x2304 .fp8e5m2) (harg15 : arg15.IsWhole) (arg16 : Memref sig .tc .vmem S1x1x256 .f32) (harg16 : arg16.IsWhole) (arg17 : Memref sig .tc .vmem S2304x9216 .bf16) (harg17 : arg17.IsWhole) (arg19 : Memref sig .tc .vmem S2304x256 .f32) (harg19 : arg19.IsWhole)

theorem read_W (k : Fin k0_t2_loop.trips) :
    View.readAt (Elt F) arg17.view (Rect.unit (s := S2304x9216) (k0_off9 k) S768x9216.size (k0_off9_inb k)).toLoadRect (harg17.unread w) = rowsW w k.val := by
  have hk := Nat.lt_of_lt_of_eq k.isLt trips2
  funext j
  have h0 : (j 0).val < 768 := (j 0).isLt
  rw [harg17.readAt_unread, rowsW]
  congr 1
  funext a; apply Fin.ext
  match a with
  | ⟨0, _⟩ => show (k0_off9 k) 0 + 1 * (j 0).val = (768 * k.val + (j 0).val) % 2304; have e : k0_off9 k 0 = 768 * k.val := congrFun (off9_eq k) 0; omega
  | ⟨1, _⟩ => show (k0_off9 k) 1 + 1 * (j 1).val = (j 1).val; have e : k0_off9 k 1 = 0 := congrFun (off9_eq k) 1; omega
theorem read_A (k : Fin k0_t2_loop.trips) :
    View.readAt (Elt F) arg7.view (Rect.unit (s := S2304x96) (k0_off10 k) S768x96.size (k0_off10_inb k)).toLoadRect (harg7.unread x5) = rowsA x5 k.val := by
  have hk := Nat.lt_of_lt_of_eq k.isLt trips2
  funext j
  have h0 : (j 0).val < 768 := (j 0).isLt
  rw [harg7.readAt_unread, rowsA]
  congr 1
  funext a; apply Fin.ext
  match a with
  | ⟨0, _⟩ => show (k0_off10 k) 0 + 1 * (j 0).val = (768 * k.val + (j 0).val) % 2304; have e : k0_off10 k 0 = 768 * k.val := congrFun (off10_eq k) 0; omega
  | ⟨1, _⟩ => show (k0_off10 k) 1 + 1 * (j 1).val = (j 1).val; have e : k0_off10 k 1 = 0 := congrFun (off10_eq k) 1; omega

abbrev RD : sProp 𝕄 :=
  iprop((arg17.view.loc (c : Thread nD τ) ↦[arg17.view.set]{fullShare} harg17.unread w) ∗ (arg3.view.loc (c : Thread nD τ) ↦[arg3.view.set]{fullShare} harg3.unread x2)
    ∗ (arg7.view.loc (c : Thread nD τ) ↦[arg7.view.set]{fullShare} harg7.unread x5))
abbrev GP (f : Buf (Elt F) (arg19.view.loc (c : Thread nD τ))) : sProp 𝕄 := arg19.view.loc (c : Thread nD τ) ↦[arg19.view.set]{fullShare} f

abbrev R11 (k : Fin k0_t2_loop.trips) : Rect S2304x256 := Rect.unit (s := S2304x256) (k0_off11 k) S768x256.size (k0_off11_inb k)

theorem tripRows (k : Fin k0_t2_loop.trips) (acc : FVec F S1x256 .f32) (f : Buf (Elt F) (arg19.view.loc (c : Thread nD τ))) :
    iprop(RD w x2 x5 c arg3 harg3 arg7 harg7 arg17 harg17 ∗ GP c arg19 f) ⊢ wp frame (wpE (defs₀ (F := F)) Variants.none (c : Thread nD τ) none) Set.univ
      (k0_t2_body (F := F) i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3 v6 v73 v74 k acc)
      (fun y => iprop(RD w x2 x5 c arg3 harg3 arg7 harg7 arg17 harg17
        ∗ GP c arg19 (arg19.view.writes (Elt F) f [⟨R11 k, k0_pay18 v6 v73 v74 (rowsW w k.val) x2 (rowsA x5 k.val)⟩])
        ∗ ⌜y = k0_pay19 v6 v73 v74 acc (rowsW w k.val) x2 (rowsA x5 k.val)⌝)) := by
  have hk := Nat.lt_of_lt_of_eq k.isLt trips2
  iintro ⟨⟨H17, H3, H7⟩, HG⟩
  sl_unfold [k0_t2_body]
  sl_exec
  sl_step
  have e17 := read_W w arg17 harg17 k
  have e7 := read_A x5 arg7 harg7 k
  have e3 : View.readAt (Elt F) arg3.view (Rect.unit ![0, 0] S256x9216.size inb_S256x9216_S256x9216_0_0).toLoadRect (harg3.unread x2) = x2 :=
    (View.readAt_full _ _ _).trans (harg3.read_unread x2)
  isplitl [H17 H3 H7]
  · isplitl [H17]; · iexact H17
    isplitl [H3]; · iexact H3
    iexact H7
  have e18 : k0_pay18 v6 v73 v74 (View.readAt (Elt F) arg17.view (Rect.unit (s := S2304x9216) (k0_off9 k) S768x9216.size (k0_off9_inb k)).toLoadRect (harg17.unread w))
      (View.readAt (Elt F) arg3.view (Rect.unit ![0, 0] S256x9216.size inb_S256x9216_S256x9216_0_0).toLoadRect (harg3.unread x2))
      (View.readAt (Elt F) arg7.view (Rect.unit (s := S2304x96) (k0_off10 k) S768x96.size (k0_off10_inb k)).toLoadRect (harg7.unread x5))
        = k0_pay18 v6 v73 v74 (rowsW w k.val) x2 (rowsA x5 k.val) := by rw [e17, e3, e7]
  isplitl [HG]
  · iapply (entails_of_eq (congrArg (fun p => GP c arg19 (arg19.view.writes (Elt F) f [⟨R11 k, p⟩])) e18))
    iexact HG
  ipureintro
  rw [e17, e3, e7]

theorem unread_put2 (k : Fin k0_t2_loop.trips) (d : Vec F S2304x256 .f32) :
    arg19.view.writes (Elt F) (harg19.unread (drec v6 v73 v74 w x2 x5 d k.val)) [⟨R11 k, k0_pay18 v6 v73 v74 (rowsW w k.val) x2 (rowsA x5 k.val)⟩]
      = harg19.unread (drec v6 v73 v74 w x2 x5 d (k.val + 1)) := by
  refine harg19.eq_unread ?_
  rw [View.read_writes_cons_put _ _ _ _ _ (off11_eq k), View.writes_nil, harg19.read_unread]
  rfl

set_option warn.classDefReducibility false in
/-- THE LOOP'S INVARIANT. -/
@[sl_loop] def loopInv2 (init : FVec F S1x256 .f32) (d : Vec F S2304x256 .f32) :
    LoopInvTy_k0_t2 (F := F) Unit ℕ (Pipeline.UD sig nD τ) ℕ Variants.none c none Set.univ i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3 v6 v73 v74 init where
  inv k acc := iprop(RD w x2 x5 c arg3 harg3 arg7 harg7 arg17 harg17 ∗ GP c arg19 (harg19.unread (drec v6 v73 v74 w x2 x5 d k)) ∗ ⌜acc = AMAX v6 v73 v74 w x2 x5 init k⌝)
  step k acc := by
    rw [← unread_put2 v6 v73 v74 w x2 x5 arg19 harg19 k d]
    iintro ⟨HR, HG, %ha⟩
    subst ha
    iapply (wp_wand_r Idealize.ShloMosaic.frame (wpE (defs₀ (F := F)) Variants.none (c : Thread nD τ) none) Set.univ)
    isplitl [HR HG]
    · iapply (tripRows v6 v73 v74 w x2 x5 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 k (AMAX v6 v73 v74 w x2 x5 init k.val) _)
      isplitl [HR]; · iexact HR
      iexact HG
    · iintro %y ⟨HR, HG, %hy⟩
      isplitl [HR]; · iexact HR
      isplitl [HG]; · iexact HG
      ipureintro; exact hy

/-- What the loop leaves. -/
instance (init : FVec F S1x256 .f32) (d : Vec F S2304x256 .f32) : LoopExit (loopInv2 v6 v73 v74 w x2 x5 c i arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg19 harg19 init d) where
  post acc := iprop(RD w x2 x5 c arg3 harg3 arg7 harg7 arg17 harg17 ∗ GP c arg19 (harg19.unread (DXT v6 v73 v74 w x2 x5)) ∗ ⌜acc = AMAX v6 v73 v74 w x2 x5 init 3⌝)
  exit acc := by
    show iprop(RD w x2 x5 c arg3 harg3 arg7 harg7 arg17 harg17 ∗ GP c arg19 (harg19.unread (drec v6 v73 v74 w x2 x5 d k0_t2_loop.trips)) ∗ ⌜acc = AMAX v6 v73 v74 w x2 x5 init k0_t2_loop.trips⌝) ⊢ _
    rw [trips2, drec_end]

end Trip
end Cert.KernelIdeal.Hand

end
-- ==== Proof.KernelIdeal.Runs.lean ====
/- What the body's triple and the frame share: the run of the host lines around the region, the windows' staging memrefs, the
   body's scratch operands, its transfer cells and the operand it reads in place. -/
module

public import proofs.«01_k».proof.Proof.KernelIdeal.LoopR
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      ((h c).1 7).trans (((dats 0 c).arrAt_in 7 rfl _).trans ((hA c 7).trans (V_main_arg7 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-- Each window's current staging memref at point `t`, spelled as the pipeline passes it (`bodyAt0`), and its wholeness. -/
abbrev ms0_0 (t : Fin cfg0.N) : Memref sig .tc .vmem S256x2304 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x9216 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x9216 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2304x96 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x2304 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x9216 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2304 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x2304 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x9216 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x32 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x2304 .fp8e5m2 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x256 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S2304x9216 .bf16 := Memref.whole cc0_scratch0
abbrev scM0_1 : Memref sig .tc .vmem S2x128x9216 .fp8e4m3 := Memref.whole cc0_scratch1
abbrev scM0_2 : Memref sig .tc .vmem S2304x256 .f32 := Memref.whole cc0_scratch2
/-- The scratch `arg17` the kernel carries between points, as a view: what it holds is stated through it. -/
abbrev VS0_0 : View sig .tc .vmem S2304x9216 .bf16 := scM0_0.view
/-- The operands left in HBM that the body copies into scratch itself, whole. -/
abbrev hbM0_0 : Memref sig .tc .hbm S2304x9216 .fp8e4m3 := Memref.whole main_v2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 24, SemLoc.dma 25] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 24) 0 ∗ semVal ((c : Thread nD τ), SemLoc.dma 25) 0) := by
  rw [Pipeline.ownSems0_eq_of_list c osem0 [0, 1] (by decide) (by decide)]; rfl
/-- The HBM operands the body moves, as references: unscoped, no window's array (`Pipeline.restRefs`). -/
def H0 : Finset (Ref sig .tc) := {main_v2}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v2)) := by
  rw [BI.bigSep_eq_bigSepL_of_eq [main_v2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 24) 0 ∗ semVal ((c : Thread nD τ), SemLoc.dma 25) 0) ∗ iprop(hbPt0 c hbM0_0 (V m c main_v2))) := by
  rw [Pipeline.ΦD_eq, scopedRest0_eq, ownSems00_eq, hbmPts0_eq]; simp only [scM0_0, scM0_1, scM0_2, owns_whole]; try rfl

end Cert.KernelIdeal.Hand

end
-- ==== Proof.KernelIdeal.Values.lean ====
/- What one grid point computes, as functions of the blocks it reads: every payload of the body at its operands. -/
module

public import proofs.«01_k».proof.Proof.KernelIdeal.Runs
public import Idealize.ShloMosaic.Lib.Pointwise

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Values
variable (x0 : Vec F S256x2304 .fp8e4m3) (x1 : Vec F S1x1x256 .f32) (x2 : Vec F S256x9216 .fp8e5m2) (x3 : Vec F S1x1x256 .f32)
  (x5 : Vec F S2304x96 .bf16) (x6 : Vec F S32x2304 .bf16) (x7 : Vec F S32x9216 .bf16) (w : Vec F S2304x9216 .bf16)

/-- `t` and `xa` of the point's tokens; -/
abbrev TT : Vec F S256x32 .f32 := k0_pay8 x3 x7 x2
abbrev XX : Vec F S256x32 .f32 := k0_pay10 x1 x6 x0
/-- the two gradients, from `a` and `b` before the point; -/
abbrev DAT (a : Vec F S32x2304 .f32) : Vec F S32x2304 .f32 := k0_pay12 (k0_pay11 x1 x3 x7 x2) x0 a
abbrev DBT (b : Vec F S32x9216 .f32) : Vec F S32x9216 .f32 := k0_pay13 (k0_pay5 x3) (k0_pay9 x1 x6 x0) x2 b
/-- the transposed gradient of the point's tokens and its rows' maximum; -/
abbrev DD : Vec F S2304x256 .f32 := DXT (k0_pay5 x3) (k0_pay14 (k0_pay6 x7 x2)) (k0_pay15 (k0_pay6 x7 x2)) w x2 x5
abbrev MX : Vec F S1x256 .f32 := AMAX (k0_pay5 x3) (k0_pay14 (k0_pay6 x7 x2)) (k0_pay15 (k0_pay6 x7 x2)) w x2 x5 k0_pay16 3
/-- the exponent field, whether it is zero, the scale and its inverse in columns. -/
def EXPO (mx : Vec F S1x256 .f32) : IVec S1x256 32 := k0_pay23 (k0_pay20 mx) (k0_pay21 mx) (k0_pay22 mx) 23#32
def EZ (mx : Vec F S1x256 .f32) : IVec S1x256 1 := k0_pay24 (k0_pay20 mx) (k0_pay21 mx) (k0_pay22 mx) 23#32
def SCL (mx : Vec F S1x256 .f32) : Vec F S1x1x256 .f32 := k0_pay26 (EXPO mx) (EZ mx) 255#32
def INV (mx : Vec F S1x256 .f32) : Vec F S256x128 .f32 := k0_pay27 (EXPO mx) (EZ mx) 255#32

/-- Rows `128 k` to `128 k + 127` of the transposed gradient, -/
def rowsD (D : Vec F S2304x256 .f32) (k : ℕ) : Vec F S128x256 .f32 := fun j =>
  D (ix2 ⟨(128 * k + (j 0).val) % 2304, Nat.mod_lt _ (by decide)⟩ (j 1))
/-- the gradient: columns `128 k` to `128 k + 127` are those rows transposed and rounded; -/
def DXO (D : Vec F S2304x256 .f32) : Vec F S256x2304 .bf16 := fun y =>
  k0_pay29 (rowsD D ((y 1).val / 128)) (ix2 (y 0) ⟨(y 1).val % 128, Nat.mod_lt _ (by decide)⟩)
/-- and its codes. -/
def COD (iv : Vec F S256x128 .f32) (D : Vec F S2304x256 .f32) : Vec F S256x2304 .fp8e5m2 := fun y =>
  k0_pay36 iv (rowsD D ((y 1).val / 128)) (ix2 (y 0) ⟨(y 1).val % 128, Nat.mod_lt _ (by decide)⟩)

end Values

/-! Reading a row block, and a row of column blocks written. -/

theorem read_D {sp : Space} (v : View sig .tc sp S2304x256 .f32) (f : v.ty.Contents (Elt F)) (D : Vec F S2304x256 .f32) (hD : v.read (Elt F) f = D)
    (k : ℕ) (hk : k < 18) {off : Fin 2 → ℕ} (ho : off = ![128 * k, 0]) (inb) :
    v.readAt (Elt F) (Rect.unit (s := S2304x256) off S128x256.size inb).toLoadRect f = rowsD D k := by
  subst ho
  funext j
  rw [View.readAt_apply, hD]
  have h0 : (j 0).val < 128 := (j 0).isLt
  unfold rowsD
  refine congrArg D (funext fun a => Fin.ext ?_)
  exact match a with
  | ⟨0, _⟩ => show 128 * k + 1 * (j 0).val = (128 * k + (j 0).val) % 2304 by omega
  | ⟨1, _⟩ => show 0 + 1 * (j 1).val = (j 1).val by omega

/-- Column block `k` of what `G` names is what the piece at that block must hold. -/
theorem col_piece {e : EltTy} (G : Vec F S256x2304 e) (P : ℕ → Vec F S256x128 e)
    (hG : ∀ y : S256x2304.Idx, G y = P ((y 1).val / 128) (ix2 (y 0) ⟨(y 1).val % 128, Nat.mod_lt _ (by decide)⟩))
    (k : ℕ) {off : Fin 2 → ℕ} (ho : off = ![0, 128 * k]) (inb) (x : (Rect.unit (s := S256x2304) off S256x128.size inb).shape.Idx) :
    P k x = G ((Rect.unit (s := S256x2304) off S256x128.size inb).emb x) := by
  subst ho
  have h1 : (x 1).val < 128 := (x 1).isLt
  rw [hG]
  have e1 : (((Rect.unit (s := S256x2304) ![0, 128 * k] S256x128.size inb).emb x) 1).val = 128 * k + 1 * (x 1).val := rfl
  have e0 : (((Rect.unit (s := S256x2304) ![0, 128 * k] S256x128.size inb).emb x) 0).val = 0 + 1 * (x 0).val := rfl
  have ek : (((Rect.unit (s := S256x2304) ![0, 128 * k] S256x128.size inb).emb x) 1).val / 128 = k := by rw [e1]; omega
  rw [ek]
  refine congrArg (P k) (funext fun a => Fin.ext ?_)
  exact match a with
  | ⟨0, _⟩ => show (x 0).val = (((Rect.unit (s := S256x2304) ![0, 128 * k] S256x128.size inb).emb x) 0).val by rw [e0]; omega
  | ⟨1, _⟩ => show (x 1).val = (((Rect.unit (s := S256x2304) ![0, 128 * k] S256x128.size inb).emb x) 1).val % 128 by rw [e1]; omega

/-- Every column lies in one of the blocks. -/
theorem col_mem (y : S256x2304.Idx) {off : Fin 2 → ℕ} (ho : off = ![0, 128 * ((y 1).val / 128)]) (inb) :
    y ∈ (Rect.unit (s := S256x2304) off S256x128.size inb).set := by
  subst ho
  rw [Rect.mem_set_unit]
  intro a
  have h0 : (y 0).val < 256 := (y 0).isLt
  exact match a with
  | ⟨0, _⟩ => show 0 ≤ (y 0).val ∧ (y 0).val < 0 + 256 by omega
  | ⟨1, _⟩ => show 128 * ((y 1).val / 128) ≤ (y 1).val ∧ (y 1).val < 128 * ((y 1).val / 128) + 128 by omega

/-- The 18 column blocks stored make the gradient. -/
theorem dx_all {sp : Space} (v : View sig .tc sp S256x2304 .bf16) (f : v.ty.Contents (Elt F)) (D : Vec F S2304x256 .f32)
    (p0 p1 p2 p3 p4 p5 p6 p7 p8 p9 p10 p11 p12 p13 p14 p15 p16 p17 : Vec F S256x128 .bf16)
    (h0 : p0 = k0_pay29 (rowsD D 0))
    (h1 : p1 = k0_pay29 (rowsD D 1))
    (h2 : p2 = k0_pay29 (rowsD D 2))
    (h3 : p3 = k0_pay29 (rowsD D 3))
    (h4 : p4 = k0_pay29 (rowsD D 4))
    (h5 : p5 = k0_pay29 (rowsD D 5))
    (h6 : p6 = k0_pay29 (rowsD D 6))
    (h7 : p7 = k0_pay29 (rowsD D 7))
    (h8 : p8 = k0_pay29 (rowsD D 8))
    (h9 : p9 = k0_pay29 (rowsD D 9))
    (h10 : p10 = k0_pay29 (rowsD D 10))
    (h11 : p11 = k0_pay29 (rowsD D 11))
    (h12 : p12 = k0_pay29 (rowsD D 12))
    (h13 : p13 = k0_pay29 (rowsD D 13))
    (h14 : p14 = k0_pay29 (rowsD D 14))
    (h15 : p15 = k0_pay29 (rowsD D 15))
    (h16 : p16 = k0_pay29 (rowsD D 16))
    (h17 : p17 = k0_pay29 (rowsD D 17))
    : v.read (Elt F) (v.writes (Elt F) f [⟨Rect.unit (s := S256x2304) ![0, 2176] S256x128.size inb_S256x2304_S256x128_0_2176, p17⟩, ⟨Rect.unit (s := S256x2304) ![0, 2048] S256x128.size inb_S256x2304_S256x128_0_2048, p16⟩, ⟨Rect.unit (s := S256x2304) ![0, 1920] S256x128.size inb_S256x2304_S256x128_0_1920, p15⟩, ⟨Rect.unit (s := S256x2304) ![0, 1792] S256x128.size inb_S256x2304_S256x128_0_1792, p14⟩, ⟨Rect.unit (s := S256x2304) ![0, 1664] S256x128.size inb_S256x2304_S256x128_0_1664, p13⟩, ⟨Rect.unit (s := S256x2304) ![0, 1536] S256x128.size inb_S256x2304_S256x128_0_1536, p12⟩, ⟨Rect.unit (s := S256x2304) ![0, 1408] S256x128.size inb_S256x2304_S256x128_0_1408, p11⟩, ⟨Rect.unit (s := S256x2304) ![0, 1280] S256x128.size inb_S256x2304_S256x128_0_1280, p10⟩, ⟨Rect.unit (s := S256x2304) ![0, 1152] S256x128.size inb_S256x2304_S256x128_0_1152, p9⟩, ⟨Rect.unit (s := S256x2304) ![0, 1024] S256x128.size inb_S256x2304_S256x128_0_1024, p8⟩, ⟨Rect.unit (s := S256x2304) ![0, 896] S256x128.size inb_S256x2304_S256x128_0_896, p7⟩, ⟨Rect.unit (s := S256x2304) ![0, 768] S256x128.size inb_S256x2304_S256x128_0_768, p6⟩, ⟨Rect.unit (s := S256x2304) ![0, 640] S256x128.size inb_S256x2304_S256x128_0_640, p5⟩, ⟨Rect.unit (s := S256x2304) ![0, 512] S256x128.size inb_S256x2304_S256x128_0_512, p4⟩, ⟨Rect.unit (s := S256x2304) ![0, 384] S256x128.size inb_S256x2304_S256x128_0_384, p3⟩, ⟨Rect.unit (s := S256x2304) ![0, 256] S256x128.size inb_S256x2304_S256x128_0_256, p2⟩, ⟨Rect.unit (s := S256x2304) ![0, 128] S256x128.size inb_S256x2304_S256x128_0_128, p1⟩, ⟨Rect.unit (s := S256x2304) ![0, 0] S256x128.size inb_S256x2304_S256x128_0_0, p0⟩]) = DXO D := by
  subst h0 h1 h2 h3 h4 h5 h6 h7 h8 h9 h10 h11 h12 h13 h14 h15 h16 h17
  refine funext fun y => View.read_writes_apply_of_pieces _ _ (DXO D) _ ?_ y ?_
  · refine List.forall_mem_cons.2 ⟨fun x => col_piece (DXO D) (fun k => k0_pay29 (rowsD D k)) (fun _ => rfl) 17 rfl inb_S256x2304_S256x128_0_2176 x, ?_⟩
    refine List.forall_mem_cons.2 ⟨fun x => col_piece (DXO D) (fun k => k0_pay29 (rowsD D k)) (fun _ => rfl) 16 rfl inb_S256x2304_S256x128_0_2048 x, ?_⟩
    refine List.forall_mem_cons.2 ⟨fun x => col_piece (DXO D) (fun k => k0_pay29 (rowsD D k)) (fun _ => rfl) 15 rfl inb_S256x2304_S256x128_0_1920 x, ?_⟩
    refine List.forall_mem_cons.2 ⟨fun x => col_piece (DXO D) (fun k => k0_pay29 (rowsD D k)) (fun _ => rfl) 14 rfl inb_S256x2304_S256x128_0_1792 x, ?_⟩
    refine List.forall_mem_cons.2 ⟨fun x => col_piece (DXO D) (fun k => k0_pay29 (rowsD D k)) (fun _ => rfl) 13 rfl inb_S256x2304_S256x128_0_1664 x, ?_⟩
    refine List.forall_mem_cons.2 ⟨fun x => col_piece (DXO D) (fun k => k0_pay29 (rowsD D k)) (fun _ => rfl) 12 rfl inb_S256x2304_S256x128_0_1536 x, ?_⟩
    refine List.forall_mem_cons.2 ⟨fun x => col_piece (DXO D) (fun k => k0_pay29 (rowsD D k)) (fun _ => rfl) 11 rfl inb_S256x2304_S256x128_0_1408 x, ?_⟩
    refine List.forall_mem_cons.2 ⟨fun x => col_piece (DXO D) (fun k => k0_pay29 (rowsD D k)) (fun _ => rfl) 10 rfl inb_S256x2304_S256x128_0_1280 x, ?_⟩
    refine List.forall_mem_cons.2 ⟨fun x => col_piece (DXO D) (fun k => k0_pay29 (rowsD D k)) (fun _ => rfl) 9 rfl inb_S256x2304_S256x128_0_1152 x, ?_⟩
    refine List.forall_mem_cons.2 ⟨fun x => col_piece (DXO D) (fun k => k0_pay29 (rowsD D k)) (fun _ => rfl) 8 rfl inb_S256x2304_S256x128_0_1024 x, ?_⟩
    refine List.forall_mem_cons.2 ⟨fun x => col_piece (DXO D) (fun k => k0_pay29 (rowsD D k)) (fun _ => rfl) 7 rfl inb_S256x2304_S256x128_0_896 x, ?_⟩
    refine List.forall_mem_cons.2 ⟨fun x => col_piece (DXO D) (fun k => k0_pay29 (rowsD D k)) (fun _ => rfl) 6 rfl inb_S256x2304_S256x128_0_768 x, ?_⟩
    refine List.forall_mem_cons.2 ⟨fun x => col_piece (DXO D) (fun k => k0_pay29 (rowsD D k)) (fun _ => rfl) 5 rfl inb_S256x2304_S256x128_0_640 x, ?_⟩
    refine List.forall_mem_cons.2 ⟨fun x => col_piece (DXO D) (fun k => k0_pay29 (rowsD D k)) (fun _ => rfl) 4 rfl inb_S256x2304_S256x128_0_512 x, ?_⟩
    refine List.forall_mem_cons.2 ⟨fun x => col_piece (DXO D) (fun k => k0_pay29 (rowsD D k)) (fun _ => rfl) 3 rfl inb_S256x2304_S256x128_0_384 x, ?_⟩
    refine List.forall_mem_cons.2 ⟨fun x => col_piece (DXO D) (fun k => k0_pay29 (rowsD D k)) (fun _ => rfl) 2 rfl inb_S256x2304_S256x128_0_256 x, ?_⟩
    refine List.forall_mem_cons.2 ⟨fun x => col_piece (DXO D) (fun k => k0_pay29 (rowsD D k)) (fun _ => rfl) 1 rfl inb_S256x2304_S256x128_0_128 x, ?_⟩
    refine List.forall_mem_cons.2 ⟨fun x => col_piece (DXO D) (fun k => k0_pay29 (rowsD D k)) (fun _ => rfl) 0 rfl inb_S256x2304_S256x128_0_0 x, ?_⟩
    exact fun p hp => absurd hp List.not_mem_nil
  · have h1 : (y 1).val < 2304 := (y 1).isLt
    rcases (by omega : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11 ∨ (y 1).val / 128 = 12 ∨ (y 1).val / 128 = 13 ∨ (y 1).val / 128 = 14 ∨ (y 1).val / 128 = 15 ∨ (y 1).val / 128 = 16 ∨ (y 1).val / 128 = 17) with h | h | h | h | h | h | h | h | h | h | h | h | h | h | h | h | h | h
    · exact ⟨_, (.tail _ (.tail _ (.tail _ (.tail _ (.tail _ (.tail _ (.tail _ (.tail _ (.tail _ (.tail _ (.tail _ (.tail _ (.tail _ (.tail _ (.tail _ (.tail _ (.tail _ (.head _)))))))))))))))))), col_mem y (by rw [h]) inb_S256x2304_S256x128_0_0⟩
    · exact ⟨_, (.tail _ (.tail _ (.tail _ (.tail _ (.tail _ (.tail _ (.tail _ (.tail _ (.tail _ (.tail _ (.tail _ (.tail _ (.tail _ (.tail _ (.tail _ (.tail _ (.head _))))))))))))))))), col_mem y (by rw [h]) inb_S256x2304_S256x128_0_128⟩
    · exact ⟨_, (.tail _ (.tail _ (.tail _ (.tail _ (.tail _ (.tail _ (.tail _ (.tail _ (.tail _ (.tail _ (.tail _ (.tail _ (.tail _ (.tail _ (.tail _ (.head _)))))))))))))))), col_mem y (by rw [h]) inb_S256x2304_S256x128_0_256⟩
    · exact ⟨_, (.tail _ (.tail _ (.tail _ (.tail _ (.tail _ (.tail _ (.tail _ (.tail _ (.tail _ (.tail _ (.tail _ (.tail _ (.tail _ (.tail _ (.head _))))))))))))))), col_mem y (by rw [h]) inb_S256x2304_S256x128_0_384⟩
    · exact ⟨_, (.tail _ (.tail _ (.tail _ (.tail _ (.tail _ (.tail _ (.tail _ (.tail _ (.tail _ (.tail _ (.tail _ (.tail _ (.tail _ (.head _)))))))))))))), col_mem y (by rw [h]) inb_S256x2304_S256x128_0_512⟩
    · exact ⟨_, (.tail _ (.tail _ (.tail _ (.tail _ (.tail _ (.tail _ (.tail _ (.tail _ (.tail _ (.tail _ (.tail _ (.tail _ (.head _))))))))))))), col_mem y (by rw [h]) inb_S256x2304_S256x128_0_640⟩
    · exact ⟨_, (.tail _ (.tail _ (.tail _ (.tail _ (.tail _ (.tail _ (.tail _ (.tail _ (.tail _ (.tail _ (.tail _ (.head _)))))))))))), col_mem y (by rw [h]) inb_S256x2304_S256x128_0_768⟩
    · exact ⟨_, (.tail _ (.tail _ (.tail _ (.tail _ (.tail _ (.tail _ (.tail _ (.tail _ (.tail _ (.tail _ (.head _))))))))))), col_mem y (by rw [h]) inb_S256x2304_S256x128_0_896⟩
    · exact ⟨_, (.tail _ (.tail _ (.tail _ (.tail _ (.tail _ (.tail _ (.tail _ (.tail _ (.tail _ (.head _)))))))))), col_mem y (by rw [h]) inb_S256x2304_S256x128_0_1024⟩
    · exact ⟨_, (.tail _ (.tail _ (.tail _ (.tail _ (.tail _ (.tail _ (.tail _ (.tail _ (.head _))))))))), col_mem y (by rw [h]) inb_S256x2304_S256x128_0_1152⟩
    · exact ⟨_, (.tail _ (.tail _ (.tail _ (.tail _ (.tail _ (.tail _ (.tail _ (.head _)))))))), col_mem y (by rw [h]) inb_S256x2304_S256x128_0_1280⟩
    · exact ⟨_, (.tail _ (.tail _ (.tail _ (.tail _ (.tail _ (.tail _ (.head _))))))), col_mem y (by rw [h]) inb_S256x2304_S256x128_0_1408⟩
    · exact ⟨_, (.tail _ (.tail _ (.tail _ (.tail _ (.tail _ (.head _)))))), col_mem y (by rw [h]) inb_S256x2304_S256x128_0_1536⟩
    · exact ⟨_, (.tail _ (.tail _ (.tail _ (.tail _ (.head _))))), col_mem y (by rw [h]) inb_S256x2304_S256x128_0_1664⟩
    · exact ⟨_, (.tail _ (.tail _ (.tail _ (.head _)))), col_mem y (by rw [h]) inb_S256x2304_S256x128_0_1792⟩
    · exact ⟨_, (.tail _ (.tail _ (.head _))), col_mem y (by rw [h]) inb_S256x2304_S256x128_0_1920⟩
    · exact ⟨_, (.tail _ (.head _)), col_mem y (by rw [h]) inb_S256x2304_S256x128_0_2048⟩
    · exact ⟨_, (.head _), col_mem y (by rw [h]) inb_S256x2304_S256x128_0_2176⟩

/-- The 18 column blocks stored make the codes. -/
theorem cod_all {sp : Space} (v : View sig .tc sp S256x2304 .fp8e5m2) (f : v.ty.Contents (Elt F)) (iv : Vec F S256x128 .f32) (D : Vec F S2304x256 .f32)
    (p0 p1 p2 p3 p4 p5 p6 p7 p8 p9 p10 p11 p12 p13 p14 p15 p16 p17 : Vec F S256x128 .fp8e5m2)
    (h0 : p0 = k0_pay36 iv (rowsD D 0))
    (h1 : p1 = k0_pay36 iv (rowsD D 1))
    (h2 : p2 = k0_pay36 iv (rowsD D 2))
    (h3 : p3 = k0_pay36 iv (rowsD D 3))
    (h4 : p4 = k0_pay36 iv (rowsD D 4))
    (h5 : p5 = k0_pay36 iv (rowsD D 5))
    (h6 : p6 = k0_pay36 iv (rowsD D 6))
    (h7 : p7 = k0_pay36 iv (rowsD D 7))
    (h8 : p8 = k0_pay36 iv (rowsD D 8))
    (h9 : p9 = k0_pay36 iv (rowsD D 9))
    (h10 : p10 = k0_pay36 iv (rowsD D 10))
    (h11 : p11 = k0_pay36 iv (rowsD D 11))
    (h12 : p12 = k0_pay36 iv (rowsD D 12))
    (h13 : p13 = k0_pay36 iv (rowsD D 13))
    (h14 : p14 = k0_pay36 iv (rowsD D 14))
    (h15 : p15 = k0_pay36 iv (rowsD D 15))
    (h16 : p16 = k0_pay36 iv (rowsD D 16))
    (h17 : p17 = k0_pay36 iv (rowsD D 17))
    : v.read (Elt F) (v.writes (Elt F) f [⟨Rect.unit (s := S256x2304) ![0, 2176] S256x128.size inb_S256x2304_S256x128_0_2176, p17⟩, ⟨Rect.unit (s := S256x2304) ![0, 2048] S256x128.size inb_S256x2304_S256x128_0_2048, p16⟩, ⟨Rect.unit (s := S256x2304) ![0, 1920] S256x128.size inb_S256x2304_S256x128_0_1920, p15⟩, ⟨Rect.unit (s := S256x2304) ![0, 1792] S256x128.size inb_S256x2304_S256x128_0_1792, p14⟩, ⟨Rect.unit (s := S256x2304) ![0, 1664] S256x128.size inb_S256x2304_S256x128_0_1664, p13⟩, ⟨Rect.unit (s := S256x2304) ![0, 1536] S256x128.size inb_S256x2304_S256x128_0_1536, p12⟩, ⟨Rect.unit (s := S256x2304) ![0, 1408] S256x128.size inb_S256x2304_S256x128_0_1408, p11⟩, ⟨Rect.unit (s := S256x2304) ![0, 1280] S256x128.size inb_S256x2304_S256x128_0_1280, p10⟩, ⟨Rect.unit (s := S256x2304) ![0, 1152] S256x128.size inb_S256x2304_S256x128_0_1152, p9⟩, ⟨Rect.unit (s := S256x2304) ![0, 1024] S256x128.size inb_S256x2304_S256x128_0_1024, p8⟩, ⟨Rect.unit (s := S256x2304) ![0, 896] S256x128.size inb_S256x2304_S256x128_0_896, p7⟩, ⟨Rect.unit (s := S256x2304) ![0, 768] S256x128.size inb_S256x2304_S256x128_0_768, p6⟩, ⟨Rect.unit (s := S256x2304) ![0, 640] S256x128.size inb_S256x2304_S256x128_0_640, p5⟩, ⟨Rect.unit (s := S256x2304) ![0, 512] S256x128.size inb_S256x2304_S256x128_0_512, p4⟩, ⟨Rect.unit (s := S256x2304) ![0, 384] S256x128.size inb_S256x2304_S256x128_0_384, p3⟩, ⟨Rect.unit (s := S256x2304) ![0, 256] S256x128.size inb_S256x2304_S256x128_0_256, p2⟩, ⟨Rect.unit (s := S256x2304) ![0, 128] S256x128.size inb_S256x2304_S256x128_0_128, p1⟩, ⟨Rect.unit (s := S256x2304) ![0, 0] S256x128.size inb_S256x2304_S256x128_0_0, p0⟩]) = COD iv D := by
  subst h0 h1 h2 h3 h4 h5 h6 h7 h8 h9 h10 h11 h12 h13 h14 h15 h16 h17
  refine funext fun y => View.read_writes_apply_of_pieces _ _ (COD iv D) _ ?_ y ?_
  · refine List.forall_mem_cons.2 ⟨fun x => col_piece (COD iv D) (fun k => k0_pay36 iv (rowsD D k)) (fun _ => rfl) 17 rfl inb_S256x2304_S256x128_0_2176 x, ?_⟩
    refine List.forall_mem_cons.2 ⟨fun x => col_piece (COD iv D) (fun k => k0_pay36 iv (rowsD D k)) (fun _ => rfl) 16 rfl inb_S256x2304_S256x128_0_2048 x, ?_⟩
    refine List.forall_mem_cons.2 ⟨fun x => col_piece (COD iv D) (fun k => k0_pay36 iv (rowsD D k)) (fun _ => rfl) 15 rfl inb_S256x2304_S256x128_0_1920 x, ?_⟩
    refine List.forall_mem_cons.2 ⟨fun x => col_piece (COD iv D) (fun k => k0_pay36 iv (rowsD D k)) (fun _ => rfl) 14 rfl inb_S256x2304_S256x128_0_1792 x, ?_⟩
    refine List.forall_mem_cons.2 ⟨fun x => col_piece (COD iv D) (fun k => k0_pay36 iv (rowsD D k)) (fun _ => rfl) 13 rfl inb_S256x2304_S256x128_0_1664 x, ?_⟩
    refine List.forall_mem_cons.2 ⟨fun x => col_piece (COD iv D) (fun k => k0_pay36 iv (rowsD D k)) (fun _ => rfl) 12 rfl inb_S256x2304_S256x128_0_1536 x, ?_⟩
    refine List.forall_mem_cons.2 ⟨fun x => col_piece (COD iv D) (fun k => k0_pay36 iv (rowsD D k)) (fun _ => rfl) 11 rfl inb_S256x2304_S256x128_0_1408 x, ?_⟩
    refine List.forall_mem_cons.2 ⟨fun x => col_piece (COD iv D) (fun k => k0_pay36 iv (rowsD D k)) (fun _ => rfl) 10 rfl inb_S256x2304_S256x128_0_1280 x, ?_⟩
    refine List.forall_mem_cons.2 ⟨fun x => col_piece (COD iv D) (fun k => k0_pay36 iv (rowsD D k)) (fun _ => rfl) 9 rfl inb_S256x2304_S256x128_0_1152 x, ?_⟩
    refine List.forall_mem_cons.2 ⟨fun x => col_piece (COD iv D) (fun k => k0_pay36 iv (rowsD D k)) (fun _ => rfl) 8 rfl inb_S256x2304_S256x128_0_1024 x, ?_⟩
    refine List.forall_mem_cons.2 ⟨fun x => col_piece (COD iv D) (fun k => k0_pay36 iv (rowsD D k)) (fun _ => rfl) 7 rfl inb_S256x2304_S256x128_0_896 x, ?_⟩
    refine List.forall_mem_cons.2 ⟨fun x => col_piece (COD iv D) (fun k => k0_pay36 iv (rowsD D k)) (fun _ => rfl) 6 rfl inb_S256x2304_S256x128_0_768 x, ?_⟩
    refine List.forall_mem_cons.2 ⟨fun x => col_piece (COD iv D) (fun k => k0_pay36 iv (rowsD D k)) (fun _ => rfl) 5 rfl inb_S256x2304_S256x128_0_640 x, ?_⟩
    refine List.forall_mem_cons.2 ⟨fun x => col_piece (COD iv D) (fun k => k0_pay36 iv (rowsD D k)) (fun _ => rfl) 4 rfl inb_S256x2304_S256x128_0_512 x, ?_⟩
    refine List.forall_mem_cons.2 ⟨fun x => col_piece (COD iv D) (fun k => k0_pay36 iv (rowsD D k)) (fun _ => rfl) 3 rfl inb_S256x2304_S256x128_0_384 x, ?_⟩
    refine List.forall_mem_cons.2 ⟨fun x => col_piece (COD iv D) (fun k => k0_pay36 iv (rowsD D k)) (fun _ => rfl) 2 rfl inb_S256x2304_S256x128_0_256 x, ?_⟩
    refine List.forall_mem_cons.2 ⟨fun x => col_piece (COD iv D) (fun k => k0_pay36 iv (rowsD D k)) (fun _ => rfl) 1 rfl inb_S256x2304_S256x128_0_128 x, ?_⟩
    refine List.forall_mem_cons.2 ⟨fun x => col_piece (COD iv D) (fun k => k0_pay36 iv (rowsD D k)) (fun _ => rfl) 0 rfl inb_S256x2304_S256x128_0_0 x, ?_⟩
    exact fun p hp => absurd hp List.not_mem_nil
  · have h1 : (y 1).val < 2304 := (y 1).isLt
    rcases (by omega : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11 ∨ (y 1).val / 128 = 12 ∨ (y 1).val / 128 = 13 ∨ (y 1).val / 128 = 14 ∨ (y 1).val / 128 = 15 ∨ (y 1).val / 128 = 16 ∨ (y 1).val / 128 = 17) with h | h | h | h | h | h | h | h | h | h | h | h | h | h | h | h | h | h
    · exact ⟨_, (.tail _ (.tail _ (.tail _ (.tail _ (.tail _ (.tail _ (.tail _ (.tail _ (.tail _ (.tail _ (.tail _ (.tail _ (.tail _ (.tail _ (.tail _ (.tail _ (.tail _ (.head _)))))))))))))))))), col_mem y (by rw [h]) inb_S256x2304_S256x128_0_0⟩
    · exact ⟨_, (.tail _ (.tail _ (.tail _ (.tail _ (.tail _ (.tail _ (.tail _ (.tail _ (.tail _ (.tail _ (.tail _ (.tail _ (.tail _ (.tail _ (.tail _ (.tail _ (.head _))))))))))))))))), col_mem y (by rw [h]) inb_S256x2304_S256x128_0_128⟩
    · exact ⟨_, (.tail _ (.tail _ (.tail _ (.tail _ (.tail _ (.tail _ (.tail _ (.tail _ (.tail _ (.tail _ (.tail _ (.tail _ (.tail _ (.tail _ (.tail _ (.head _)))))))))))))))), col_mem y (by rw [h]) inb_S256x2304_S256x128_0_256⟩
    · exact ⟨_, (.tail _ (.tail _ (.tail _ (.tail _ (.tail _ (.tail _ (.tail _ (.tail _ (.tail _ (.tail _ (.tail _ (.tail _ (.tail _ (.tail _ (.head _))))))))))))))), col_mem y (by rw [h]) inb_S256x2304_S256x128_0_384⟩
    · exact ⟨_, (.tail _ (.tail _ (.tail _ (.tail _ (.tail _ (.tail _ (.tail _ (.tail _ (.tail _ (.tail _ (.tail _ (.tail _ (.tail _ (.head _)))))))))))))), col_mem y (by rw [h]) inb_S256x2304_S256x128_0_512⟩
    · exact ⟨_, (.tail _ (.tail _ (.tail _ (.tail _ (.tail _ (.tail _ (.tail _ (.tail _ (.tail _ (.tail _ (.tail _ (.tail _ (.head _))))))))))))), col_mem y (by rw [h]) inb_S256x2304_S256x128_0_640⟩
    · exact ⟨_, (.tail _ (.tail _ (.tail _ (.tail _ (.tail _ (.tail _ (.tail _ (.tail _ (.tail _ (.tail _ (.tail _ (.head _)))))))))))), col_mem y (by rw [h]) inb_S256x2304_S256x128_0_768⟩
    · exact ⟨_, (.tail _ (.tail _ (.tail _ (.tail _ (.tail _ (.tail _ (.tail _ (.tail _ (.tail _ (.tail _ (.head _))))))))))), col_mem y (by rw [h]) inb_S256x2304_S256x128_0_896⟩
    · exact ⟨_, (.tail _ (.tail _ (.tail _ (.tail _ (.tail _ (.tail _ (.tail _ (.tail _ (.tail _ (.head _)))))))))), col_mem y (by rw [h]) inb_S256x2304_S256x128_0_1024⟩
    · exact ⟨_, (.tail _ (.tail _ (.tail _ (.tail _ (.tail _ (.tail _ (.tail _ (.tail _ (.head _))))))))), col_mem y (by rw [h]) inb_S256x2304_S256x128_0_1152⟩
    · exact ⟨_, (.tail _ (.tail _ (.tail _ (.tail _ (.tail _ (.tail _ (.tail _ (.head _)))))))), col_mem y (by rw [h]) inb_S256x2304_S256x128_0_1280⟩
    · exact ⟨_, (.tail _ (.tail _ (.tail _ (.tail _ (.tail _ (.tail _ (.head _))))))), col_mem y (by rw [h]) inb_S256x2304_S256x128_0_1408⟩
    · exact ⟨_, (.tail _ (.tail _ (.tail _ (.tail _ (.tail _ (.head _)))))), col_mem y (by rw [h]) inb_S256x2304_S256x128_0_1536⟩
    · exact ⟨_, (.tail _ (.tail _ (.tail _ (.tail _ (.head _))))), col_mem y (by rw [h]) inb_S256x2304_S256x128_0_1664⟩
    · exact ⟨_, (.tail _ (.tail _ (.tail _ (.head _)))), col_mem y (by rw [h]) inb_S256x2304_S256x128_0_1792⟩
    · exact ⟨_, (.tail _ (.tail _ (.head _))), col_mem y (by rw [h]) inb_S256x2304_S256x128_0_1920⟩
    · exact ⟨_, (.tail _ (.head _)), col_mem y (by rw [h]) inb_S256x2304_S256x128_0_2048⟩
    · exact ⟨_, (.head _), col_mem y (by rw [h]) inb_S256x2304_S256x128_0_2176⟩

end Cert.KernelIdeal.Hand

end
-- ==== Proof.KernelIdeal.BodyB.lean ====
/- The body at a grid point after the first: the converted weights and the two gradients carried, everything else computed
   from the point's blocks. -/
module

public import proofs.«01_k».proof.Proof.KernelIdeal.Values

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem bodyB (c : Dev nD) (i : grid0.Coords) (arg1 : Memref sig .tc .vmem S256x2304 .fp8e4m3) (harg1 : arg1.IsWhole) (arg2 : Memref sig .tc .vmem S1x1x256 .f32) (harg2 : arg2.IsWhole) (arg3 : Memref sig .tc .vmem S256x9216 .fp8e5m2) (harg3 : arg3.IsWhole) (arg4 : Memref sig .tc .vmem S1x1x256 .f32) (harg4 : arg4.IsWhole) (arg6 : Memref sig .tc .vmem S1x9216 .f32) (harg6 : arg6.IsWhole) (arg7 : Memref sig .tc .vmem S2304x96 .bf16) (harg7 : arg7.IsWhole) (arg8 : Memref sig .tc .vmem S32x2304 .bf16) (harg8 : arg8.IsWhole) (arg9 : Memref sig .tc .vmem S32x9216 .bf16) (harg9 : arg9.IsWhole) (arg10 : Memref sig .tc .vmem S256x2304 .bf16) (harg10 : arg10.IsWhole) (arg11 : Memref sig .tc .vmem S32x2304 .f32) (harg11 : arg11.IsWhole) (arg12 : Memref sig .tc .vmem S32x9216 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x2304 .fp8e5m2) (harg15 : arg15.IsWhole) (arg16 : Memref sig .tc .vmem S1x1x256 .f32) (harg16 : arg16.IsWhole) (arg17 : Memref sig .tc .vmem S2304x9216 .bf16) (harg17 : arg17.IsWhole) (arg19 : Memref sig .tc .vmem S2304x256 .f32) (harg19 : arg19.IsWhole) (hc0 : ¬ cond0_0 i)
    (x0 : Vec F S256x2304 .fp8e4m3) (x1 : Vec F S1x1x256 .f32) (x2 : Vec F S256x9216 .fp8e5m2) (x3 : Vec F S1x1x256 .f32) (x4 : Vec F S1x9216 .f32) (x5 : Vec F S2304x96 .bf16) (x6 : Vec F S32x2304 .bf16) (x7 : Vec F S32x9216 .bf16)
    (a : Vec F S32x2304 .f32) (b : Vec F S32x9216 .f32) (w : Vec F S2304x9216 .bf16) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare a ∗ owns (c : Thread nD τ) arg12 fullShare b ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare w ∗ (∃ d, owns (c : Thread nD τ) arg19 fullShare d) ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (DXO (DD x2 x3 x5 x7 w)) ∗ owns (c : Thread nD τ) arg11 fullShare (DAT x0 x1 x2 x3 x7 a) ∗ owns (c : Thread nD τ) arg12 fullShare (DBT x0 x1 x2 x3 x6 b) ∗ owns (c : Thread nD τ) arg13 fullShare (TT x2 x3 x7) ∗ owns (c : Thread nD τ) arg14 fullShare (XX x0 x1 x6) ∗ owns (c : Thread nD τ) arg15 fullShare (COD (INV (MX x2 x3 x5 x7 w)) (DD x2 x3 x5 x7 w)) ∗ owns (c : Thread nD τ) arg16 fullShare (SCL (MX x2 x3 x5 x7 w)) ∗ owns (c : Thread nD τ) arg17 fullShare w ∗ (∃ d, owns (c : Thread nD τ) arg19 fullShare d) ∗ (∃ W, owes (c : Thread nD τ) 0 W)) -∗ K ⟨⟩))
      ⊢ wp frame (wpE (defs₀ (F := F)) Variants.none c none) Set.univ (cc0_lora_bwd i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3) K := by
  simp only [cc0_lora_bwd_eq_skeleton]; unfold cc0_lora_bwd_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%fs0, %hfs0, HS0⟩, ⟨%ds2, %fs2, %hfs2, HS2⟩, HW, Hk⟩
  obtain rfl := harg1.eq_unread hf0; obtain rfl := harg2.eq_unread hf1; obtain rfl := harg3.eq_unread hf2; obtain rfl := harg4.eq_unread hf3; obtain rfl := harg6.eq_unread hf4; obtain rfl := harg7.eq_unread hf5; obtain rfl := harg8.eq_unread hf6; obtain rfl := harg9.eq_unread hf7
  obtain rfl := harg11.eq_unread hf9; obtain rfl := harg12.eq_unread hf10; obtain rfl := harg17.eq_unread hfs0; obtain rfl := harg19.eq_unread hfs2
  sl_exec (disch := first | sl_exact hc0)
  have e9 : (View.readAt (Elt F) arg11.view (Rect.unit ![0, 0] S32x2304.size inb_S32x2304_S32x2304_0_0).toLoadRect (harg11.unread a)) = a := (View.readAt_full _ _ _).trans (harg11.read_unread a)
  have e10 : (View.readAt (Elt F) arg12.view (Rect.unit ![0, 0] S32x9216.size inb_S32x9216_S32x9216_0_0).toLoadRect (harg12.unread b)) = b := (View.readAt_full _ _ _).trans (harg12.read_unread b)
  have e0 : (View.readAt (Elt F) arg1.view (Rect.unit ![0, 0] S256x2304.size inb_S256x2304_S256x2304_0_0).toLoadRect (harg1.unread x0)) = x0 := (View.readAt_full _ _ _).trans (harg1.read_unread x0)
  have e1 : (View.readAt (Elt F) arg2.view (Rect.unit ![0, 0, 0] S1x1x256.size inb_S1x1x256_S1x1x256_0_0_0).toLoadRect (harg2.unread x1)) = x1 := (View.readAt_full _ _ _).trans (harg2.read_unread x1)
  have e2 : (View.readAt (Elt F) arg3.view (Rect.unit ![0, 0] S256x9216.size inb_S256x9216_S256x9216_0_0).toLoadRect (harg3.unread x2)) = x2 := (View.readAt_full _ _ _).trans (harg3.read_unread x2)
  have e3 : (View.readAt (Elt F) arg4.view (Rect.unit ![0, 0, 0] S1x1x256.size inb_S1x1x256_S1x1x256_0_0_0).toLoadRect (harg4.unread x3)) = x3 := (View.readAt_full _ _ _).trans (harg4.read_unread x3)
  have e6 : (View.readAt (Elt F) arg8.view (Rect.unit ![0, 0] S32x2304.size inb_S32x2304_S32x2304_0_0).toLoadRect (harg8.unread x6)) = x6 := (View.readAt_full _ _ _).trans (harg8.read_unread x6)
  have e7 : (View.readAt (Elt F) arg9.view (Rect.unit ![0, 0] S32x9216.size inb_S32x9216_S32x9216_0_0).toLoadRect (harg9.unread x7)) = x7 := (View.readAt_full _ _ _).trans (harg9.read_unread x7)
  have r0 := read_D arg19.view (harg19.unread (DD x2 x3 x5 x7 w)) _ (harg19.read_unread _) 0 (by decide) rfl inb_S2304x256_S128x256_0_0
  have r1 := read_D arg19.view (harg19.unread (DD x2 x3 x5 x7 w)) _ (harg19.read_unread _) 1 (by decide) rfl inb_S2304x256_S128x256_128_0
  have r2 := read_D arg19.view (harg19.unread (DD x2 x3 x5 x7 w)) _ (harg19.read_unread _) 2 (by decide) rfl inb_S2304x256_S128x256_256_0
  have r3 := read_D arg19.view (harg19.unread (DD x2 x3 x5 x7 w)) _ (harg19.read_unread _) 3 (by decide) rfl inb_S2304x256_S128x256_384_0
  have r4 := read_D arg19.view (harg19.unread (DD x2 x3 x5 x7 w)) _ (harg19.read_unread _) 4 (by decide) rfl inb_S2304x256_S128x256_512_0
  have r5 := read_D arg19.view (harg19.unread (DD x2 x3 x5 x7 w)) _ (harg19.read_unread _) 5 (by decide) rfl inb_S2304x256_S128x256_640_0
  have r6 := read_D arg19.view (harg19.unread (DD x2 x3 x5 x7 w)) _ (harg19.read_unread _) 6 (by decide) rfl inb_S2304x256_S128x256_768_0
  have r7 := read_D arg19.view (harg19.unread (DD x2 x3 x5 x7 w)) _ (harg19.read_unread _) 7 (by decide) rfl inb_S2304x256_S128x256_896_0
  have r8 := read_D arg19.view (harg19.unread (DD x2 x3 x5 x7 w)) _ (harg19.read_unread _) 8 (by decide) rfl inb_S2304x256_S128x256_1024_0
  have r9 := read_D arg19.view (harg19.unread (DD x2 x3 x5 x7 w)) _ (harg19.read_unread _) 9 (by decide) rfl inb_S2304x256_S128x256_1152_0
  have r10 := read_D arg19.view (harg19.unread (DD x2 x3 x5 x7 w)) _ (harg19.read_unread _) 10 (by decide) rfl inb_S2304x256_S128x256_1280_0
  have r11 := read_D arg19.view (harg19.unread (DD x2 x3 x5 x7 w)) _ (harg19.read_unread _) 11 (by decide) rfl inb_S2304x256_S128x256_1408_0
  have r12 := read_D arg19.view (harg19.unread (DD x2 x3 x5 x7 w)) _ (harg19.read_unread _) 12 (by decide) rfl inb_S2304x256_S128x256_1536_0
  have r13 := read_D arg19.view (harg19.unread (DD x2 x3 x5 x7 w)) _ (harg19.read_unread _) 13 (by decide) rfl inb_S2304x256_S128x256_1664_0
  have r14 := read_D arg19.view (harg19.unread (DD x2 x3 x5 x7 w)) _ (harg19.read_unread _) 14 (by decide) rfl inb_S2304x256_S128x256_1792_0
  have r15 := read_D arg19.view (harg19.unread (DD x2 x3 x5 x7 w)) _ (harg19.read_unread _) 15 (by decide) rfl inb_S2304x256_S128x256_1920_0
  have r16 := read_D arg19.view (harg19.unread (DD x2 x3 x5 x7 w)) _ (harg19.read_unread _) 16 (by decide) rfl inb_S2304x256_S128x256_2048_0
  have r17 := read_D arg19.view (harg19.unread (DD x2 x3 x5 x7 w)) _ (harg19.read_unread _) 17 (by decide) rfl inb_S2304x256_S128x256_2176_0
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine dx_all _ _ _ _ _ _ _ _ _ _ _ _ _ _ _ _ _ _ _ _ _ ?_ ?_ ?_ ?_ ?_ ?_ ?_ ?_ ?_ ?_ ?_ ?_ ?_ ?_ ?_ ?_ ?_ ?_
    · sl_unfold_words; rw [e2, e3, e7]; exact congrArg k0_pay29 r0
    · sl_unfold_words; rw [e2, e3, e7]; exact congrArg k0_pay32 r1
    · sl_unfold_words; rw [e2, e3, e7]; exact congrArg k0_pay35 r2
    · sl_unfold_words; rw [e2, e3, e7]; exact congrArg k0_pay38 r3
    · sl_unfold_words; rw [e2, e3, e7]; exact congrArg k0_pay41 r4
    · sl_unfold_words; rw [e2, e3, e7]; exact congrArg k0_pay44 r5
    · sl_unfold_words; rw [e2, e3, e7]; exact congrArg k0_pay47 r6
    · sl_unfold_words; rw [e2, e3, e7]; exact congrArg k0_pay50 r7
    · sl_unfold_words; rw [e2, e3, e7]; exact congrArg k0_pay53 r8
    · sl_unfold_words; rw [e2, e3, e7]; exact congrArg k0_pay56 r9
    · sl_unfold_words; rw [e2, e3, e7]; exact congrArg k0_pay59 r10
    · sl_unfold_words; rw [e2, e3, e7]; exact congrArg k0_pay62 r11
    · sl_unfold_words; rw [e2, e3, e7]; exact congrArg k0_pay65 r12
    · sl_unfold_words; rw [e2, e3, e7]; exact congrArg k0_pay70 r13
    · sl_unfold_words; rw [e2, e3, e7]; exact congrArg k0_pay73 r14
    · sl_unfold_words; rw [e2, e3, e7]; exact congrArg k0_pay76 r15
    · sl_unfold_words; rw [e2, e3, e7]; exact congrArg k0_pay80 r16
    · sl_unfold_words; rw [e2, e3, e7]; exact congrArg k0_pay83 r17
  isplitl [H9]
  · iexists _; isplitr; swap; · iexact H9
    ipureintro
    refine (View.read_writes_full _ _ _ _ _).trans ?_
    sl_unfold_words
    rw [e0, e1, e2, e3, e7, e9]
  isplitl [H10]
  · iexists _; isplitr; swap; · iexact H10
    ipureintro
    refine (View.read_writes_full _ _ _ _ _).trans ?_
    sl_unfold_words
    rw [e0, e1, e2, e3, e6, e10]
  isplitl [H11]
  · iexists _; isplitr; swap; · iexact H11
    ipureintro
    refine (View.read_writes_full _ _ _ _ _).trans ?_
    sl_unfold_words
    rw [e2, e3, e7]
  isplitl [H12]
  · iexists _; isplitr; swap; · iexact H12
    ipureintro
    refine (View.read_writes_full _ _ _ _ _).trans ?_
    sl_unfold_words
    rw [e0, e1, e6]
  isplitl [H13]
  · iexists _; isplitr; swap; · iexact H13
    ipureintro
    refine cod_all _ _ (INV (MX x2 x3 x5 x7 w)) _ _ _ _ _ _ _ _ _ _ _ _ _ _ _ _ _ _ _ ?_ ?_ ?_ ?_ ?_ ?_ ?_ ?_ ?_ ?_ ?_ ?_ ?_ ?_ ?_ ?_ ?_ ?_
    · sl_unfold_words; rw [e2, e3, e7]; exact congrArg (k0_pay36 (INV (MX x2 x3 x5 x7 w))) r0
    · sl_unfold_words; rw [e2, e3, e7]; exact congrArg (k0_pay36 (INV (MX x2 x3 x5 x7 w))) r1
    · sl_unfold_words; rw [e2, e3, e7]; exact congrArg (k0_pay36 (INV (MX x2 x3 x5 x7 w))) r2
    · sl_unfold_words; rw [e2, e3, e7]; exact congrArg (k0_pay36 (INV (MX x2 x3 x5 x7 w))) r3
    · sl_unfold_words; rw [e2, e3, e7]; exact congrArg (k0_pay36 (INV (MX x2 x3 x5 x7 w))) r4
    · sl_unfold_words; rw [e2, e3, e7]; exact congrArg (k0_pay36 (INV (MX x2 x3 x5 x7 w))) r5
    · sl_unfold_words; rw [e2, e3, e7]; exact congrArg (k0_pay36 (INV (MX x2 x3 x5 x7 w))) r6
    · sl_unfold_words; rw [e2, e3, e7]; exact congrArg (k0_pay36 (INV (MX x2 x3 x5 x7 w))) r7
    · sl_unfold_words; rw [e2, e3, e7]; exact congrArg (k0_pay36 (INV (MX x2 x3 x5 x7 w))) r8
    · sl_unfold_words; rw [e2, e3, e7]; exact congrArg (k0_pay36 (INV (MX x2 x3 x5 x7 w))) r9
    · sl_unfold_words; rw [e2, e3, e7]; exact congrArg (k0_pay36 (INV (MX x2 x3 x5 x7 w))) r10
    · sl_unfold_words; rw [e2, e3, e7]; exact congrArg (k0_pay36 (INV (MX x2 x3 x5 x7 w))) r11
    · sl_unfold_words; rw [e2, e3, e7]; exact congrArg (k0_pay36 (INV (MX x2 x3 x5 x7 w))) r12
    · sl_unfold_words; rw [e2, e3, e7]; exact congrArg (k0_pay36 (INV (MX x2 x3 x5 x7 w))) r13
    · sl_unfold_words; rw [e2, e3, e7]; exact congrArg (k0_pay36 (INV (MX x2 x3 x5 x7 w))) r14
    · sl_unfold_words; rw [e2, e3, e7]; exact congrArg (k0_pay36 (INV (MX x2 x3 x5 x7 w))) r15
    · sl_unfold_words; rw [e2, e3, e7]; exact congrArg (k0_pay36 (INV (MX x2 x3 x5 x7 w))) r16
    · sl_unfold_words; rw [e2, e3, e7]; exact congrArg (k0_pay36 (INV (MX x2 x3 x5 x7 w))) r17
  isplitl [H14]
  · iexists _; isplitr; swap; · iexact H14
    ipureintro
    refine (View.read_writes_full _ _ _ _ _).trans ?_
    sl_unfold_words
    rw [e2, e3, e7]; rfl
  isplitl [HS0]
  · iexists _; isplitr; swap; · iexact HS0
    ipureintro
    exact harg17.read_unread _
  isplitl [HS2]
  · iexists _, _; isplitr; swap; · iexact HS2
    ipureintro; rfl
  iexists _; iexact HW

end Cert.KernelIdeal.Hand

end
-- ==== Proof.KernelIdeal.Pieces.lean ====
/- The operand read in place as its 18 blocks, the staging buffer as its two slots, the transfer cells: taken apart before the
   first grid point's transfers and put together after them. -/
module

public import proofs.«01_k».proof.Proof.KernelIdeal.Values

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev G18 (b : Fin 18) : Finset S2304x9216.Idx := (Rect.unit (s := S2304x9216) (grpOff b) S128x9216.size (grpOff_inb b)).set
abbrev S2s (s : Fin 2) : Finset S2x128x9216.Idx := (Rect.unit (s := S2x128x9216) (slotOff s) S1x128x9216.size (slotOff_inb s)).set

omit [FloatOps F] in
theorem grp_set (b : Fin 18) : (grp b : Memref sig .tc .hbm _ _).view.set = G18 b := View.set_slice_whole _ _
omit [FloatOps F] in
theorem rslot_set (s : Fin 2) : (rslot s : Memref sig .tc .vmem _ _).view.set = S2s s := (View.set_reshape _ _).trans (View.set_slice_whole _ _)

theorem mem_G18 (b : Fin 18) (y : S2304x9216.Idx) : y ∈ G18 b ↔ (y 0).val / 128 = b.val := by
  rw [Rect.mem_set_unit]
  have h1 : (y 1).val < 9216 := (y 1).isLt
  constructor
  · intro H; have a0 : 128 * b.val ≤ (y 0).val ∧ (y 0).val < 128 * b.val + 128 := H 0; omega
  · intro H i; fin_cases i
    · show 128 * b.val ≤ (y 0).val ∧ (y 0).val < 128 * b.val + 128; omega
    · show 0 ≤ (y 1).val ∧ (y 1).val < 0 + 9216; omega
theorem mem_S2s (s : Fin 2) (y : S2x128x9216.Idx) : y ∈ S2s s ↔ (y 0).val = s.val := by
  rw [Rect.mem_set_unit]
  have h1 : (y 1).val < 128 := (y 1).isLt
  have h2 : (y 2).val < 9216 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 9216; omega
theorem G18_disjoint : ∀ b b' : Fin 18, b ≠ b' → Disjoint (G18 b) (G18 b') := by
  intro b b' hne; rw [Finset.disjoint_left]; intro y hy hy'; rw [mem_G18] at hy hy'; exact hne (Fin.ext (hy.symm.trans hy'))
theorem G18_cover : (Finset.univ : Finset (Fin 18)).biUnion G18 = Finset.univ := by
  ext y; simp only [Finset.mem_biUnion, Finset.mem_univ, true_and, iff_true]
  have h0 : (y 0).val < 2304 := (y 0).isLt
  exact ⟨⟨(y 0).val / 128, by omega⟩, by rw [mem_G18]⟩
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
theorem S2s_cover : (Finset.univ : Finset (Fin 2)).biUnion S2s = Finset.univ := by
  ext y; simp only [Finset.mem_biUnion, Finset.mem_univ, true_and, iff_true]; exact ⟨(y 0).cast (by decide), by rw [mem_S2s]; rfl⟩

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The operand whole is its 18 blocks home. -/
theorem a_eq (c : Dev nD) (XA : Buf (Elt F) (aM.view.loc (c : Thread nD τ))) :
    (hbPt0 c hbM0_0 XA : sProp 𝕄) = bigSep Finset.univ (homeP c XA) := by
  show (((c : Thread nD τ).loc main_v2) ↦{fullShare} XA : sProp 𝕄) = _
  rw [Ring.pointsTo_blocks (ℓ := (c : Thread nD τ).loc main_v2) G18 G18_disjoint G18_cover]
  exact bigSep_congr fun b _ => by rw [← grp_set]; rfl

omit [FloatOps F] in
theorem slotP_eq (c : Dev nD) (s : Fin 2) (f) : slotP c s f = (((c : Thread nD τ).loc cc0_scratch1) ↦[S2s s]{fullShare} f : sProp 𝕄) :=
  congrArg (fun S => (_ ↦[S]{fullShare} f : sProp 𝕄)) (rslot_set s)
/-- The staging buffer whole is its two slots, and back. -/
theorem buf_split (c : Dev nD) :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch1) S2s S2s_disjoint S2s_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) S2s S2s_disjoint S2s_cover f0)
  irw [bigSep_fin2]
  isplitl [H0]
  · iexists f0; iapply (entails_of_eq (slotP_eq c 0 f0)); iexact H0
  · iexists f1; iapply (entails_of_eq (slotP_eq c 1 f1)); iexact H1

/-- What the first point's transfers own: the operand's blocks home, the slots at anything, the cells at zero. -/
def DMA (c : Dev nD) (XA : Buf (Elt F) (aM.view.loc (c : Thread nD τ))) : sProp 𝕄 :=
  iprop(bigSep Finset.univ (homeP c XA) ∗ ((∃ f, slotP c 0 f) ∗ ∃ f, slotP c 1 f) ∗ cellP c 0 ∗ cellP c 1)

theorem sl2_0 : Ring.sl 2 0 = 0 := Fin.ext (by rfl)
theorem sl2_1 : Ring.sl 2 (0 + 1) = 1 := Fin.ext (by rfl)
theorem bk18_0 : Ring.bk 18 0 = 0 := Fin.ext (by rfl)
theorem sl2_17 : Ring.sl 2 17 = 1 := Fin.ext (by rfl)
theorem sl2_18 : Ring.sl 2 (17 + 1) = 0 := Fin.ext (by rfl)

/-- The invariant's ring at the loop's entry. -/
theorem ring_zero (c : Dev nD) (XA : Buf (Elt F) (aM.view.loc (c : Thread nD τ))) :
    ring c XA 0 = iprop((∃ W, owes (c : Thread nD τ) 0 W) ∗ bigSep (HS 0) (homeP c XA)
      ∗ (∃ f, flightP c XA 0 0 f) ∗ (∃ f, slotP c 1 f) ∗ cellP c 1) := by
  rw [ring, if_pos (by decide), ringAt, sl2_0, sl2_1, bk18_0]
/-- And what it leaves. -/
theorem ring_end (c : Dev nD) (XA : Buf (Elt F) (aM.view.loc (c : Thread nD τ))) :
    ringEnd c XA ⊢ iprop((∃ W, owes (c : Thread nD τ) 0 W) ∗ DMA c XA) := by
  rw [ringEnd, sl2_17, sl2_18, DMA]
  iintro ⟨HW, Hh, ⟨Hs1, Hs0⟩, Hc1, Hc0⟩
  isplitl [HW]; · iexact HW
  isplitl [Hh]; · iexact Hh
  isplitl [Hs0 Hs1]
  · isplitl [Hs0]; · iexact Hs0
    iexact Hs1
  isplitl [Hc0]; · iexact Hc0
  iexact Hc1

end Cert.KernelIdeal.Hand

end
-- ==== Proof.KernelIdeal.BodyA.lean ====
/- The body at the first grid point: the weights converted block by block, the two gradients started from zero. -/
module

public import proofs.«01_k».proof.Proof.KernelIdeal.BodyB
public import proofs.«01_k».proof.Proof.KernelIdeal.Pieces

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] ring ringEnd

set_option maxHeartbeats 1000000 in
theorem bodyA (c : Dev nD) (i : grid0.Coords) (arg1 : Memref sig .tc .vmem S256x2304 .fp8e4m3) (harg1 : arg1.IsWhole) (arg2 : Memref sig .tc .vmem S1x1x256 .f32) (harg2 : arg2.IsWhole) (arg3 : Memref sig .tc .vmem S256x9216 .fp8e5m2) (harg3 : arg3.IsWhole) (arg4 : Memref sig .tc .vmem S1x1x256 .f32) (harg4 : arg4.IsWhole) (arg6 : Memref sig .tc .vmem S1x9216 .f32) (harg6 : arg6.IsWhole) (arg7 : Memref sig .tc .vmem S2304x96 .bf16) (harg7 : arg7.IsWhole) (arg8 : Memref sig .tc .vmem S32x2304 .bf16) (harg8 : arg8.IsWhole) (arg9 : Memref sig .tc .vmem S32x9216 .bf16) (harg9 : arg9.IsWhole) (arg10 : Memref sig .tc .vmem S256x2304 .bf16) (harg10 : arg10.IsWhole) (arg11 : Memref sig .tc .vmem S32x2304 .f32) (harg11 : arg11.IsWhole) (arg12 : Memref sig .tc .vmem S32x9216 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x2304 .fp8e5m2) (harg15 : arg15.IsWhole) (arg16 : Memref sig .tc .vmem S1x1x256 .f32) (harg16 : arg16.IsWhole) (arg17 : Memref sig .tc .vmem S2304x9216 .bf16) (harg17 : arg17.IsWhole) (arg19 : Memref sig .tc .vmem S2304x256 .f32) (harg19 : arg19.IsWhole) (hc0 : cond0_0 i) (XA : Buf (Elt F) (aM.view.loc (c : Thread nD τ)))
    (x0 : Vec F S256x2304 .fp8e4m3) (x1 : Vec F S1x1x256 .f32) (x2 : Vec F S256x9216 .fp8e5m2) (x3 : Vec F S1x1x256 .f32) (x4 : Vec F S1x9216 .f32) (x5 : Vec F S2304x96 .bf16) (x6 : Vec F S32x2304 .bf16) (x7 : Vec F S32x9216 .bf16)
    (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg19 fullShare d) ∗ DMA c XA ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (DXO (DD x2 x3 x5 x7 (WEFF c XA x4))) ∗ owns (c : Thread nD τ) arg11 fullShare (DAT x0 x1 x2 x3 x7 k0_pay2) ∗ owns (c : Thread nD τ) arg12 fullShare (DBT x0 x1 x2 x3 x6 k0_pay3) ∗ owns (c : Thread nD τ) arg13 fullShare (TT x2 x3 x7) ∗ owns (c : Thread nD τ) arg14 fullShare (XX x0 x1 x6) ∗ owns (c : Thread nD τ) arg15 fullShare (COD (INV (MX x2 x3 x5 x7 (WEFF c XA x4))) (DD x2 x3 x5 x7 (WEFF c XA x4))) ∗ owns (c : Thread nD τ) arg16 fullShare (SCL (MX x2 x3 x5 x7 (WEFF c XA x4))) ∗ owns (c : Thread nD τ) arg17 fullShare (WEFF c XA x4) ∗ (∃ d, owns (c : Thread nD τ) arg19 fullShare d) ∗ DMA c XA ∗ (∃ W, owes (c : Thread nD τ) 0 W)) -∗ K ⟨⟩))
      ⊢ wp frame (wpE (defs₀ (F := F)) Variants.none c none) Set.univ (cc0_lora_bwd i arg1 harg1 arg2 harg2 arg3 harg3 arg4 harg4 aM (Memref.isWhole_whole _) arg6 harg6 arg7 harg7 arg8 harg8 arg9 harg9 arg10 harg10 arg11 harg11 arg12 harg12 arg13 harg13 arg14 harg14 arg15 harg15 arg16 harg16 arg17 harg17 bufM (Memref.isWhole_whole _) arg19 harg19 cc0_scratch3) K := by
  simp only [cc0_lora_bwd_eq_skeleton]; unfold cc0_lora_bwd_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  rw [DMA, homes_all c XA 0, bk18_0]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, %hfs0, HS0⟩, ⟨%ds2, %fs2, %hfs2, HS2⟩, ⟨⟨Hg0, Hgs⟩, ⟨⟨%b0, Hs0⟩, Hs1⟩, Hc0, Hc1⟩, HW, Hk⟩
  obtain rfl := harg1.eq_unread hf0; obtain rfl := harg2.eq_unread hf1; obtain rfl := harg3.eq_unread hf2; obtain rfl := harg4.eq_unread hf3; obtain rfl := harg6.eq_unread hf4; obtain rfl := harg7.eq_unread hf5; obtain rfl := harg8.eq_unread hf6; obtain rfl := harg9.eq_unread hf7
  obtain rfl := harg17.eq_unread hfs0; obtain rfl := harg19.eq_unread hfs2
  sl_exec (disch := first | sl_exact hc0)
  ihave HR : iprop(ring c XA 0) $$ [Hgs Hs1 Hc1 HW Hc0]
  · irw [ring_zero]
    isplitl [HW]; · iexists _; iexact HW
    isplitl [Hgs]; · iexact Hgs
    isplitl [Hc0]; · iexists b0; iexact Hc0
    isplitl [Hs1]; · iexact Hs1
    iexact Hc1
  ihave HS0 : iprop(wP c arg17 (harg17.unread (wrec c XA x4 ds0 0))) $$ [HS0]
  · iexact HS0
  sl_exec (disch := first | sl_exact hc0)
  have e0 : (View.readAt (Elt F) arg1.view (Rect.unit ![0, 0] S256x2304.size inb_S256x2304_S256x2304_0_0).toLoadRect (harg1.unread x0)) = x0 := (View.readAt_full _ _ _).trans (harg1.read_unread x0)
  have e1 : (View.readAt (Elt F) arg2.view (Rect.unit ![0, 0, 0] S1x1x256.size inb_S1x1x256_S1x1x256_0_0_0).toLoadRect (harg2.unread x1)) = x1 := (View.readAt_full _ _ _).trans (harg2.read_unread x1)
  have e2 : (View.readAt (Elt F) arg3.view (Rect.unit ![0, 0] S256x9216.size inb_S256x9216_S256x9216_0_0).toLoadRect (harg3.unread x2)) = x2 := (View.readAt_full _ _ _).trans (harg3.read_unread x2)
  have e3 : (View.readAt (Elt F) arg4.view (Rect.unit ![0, 0, 0] S1x1x256.size inb_S1x1x256_S1x1x256_0_0_0).toLoadRect (harg4.unread x3)) = x3 := (View.readAt_full _ _ _).trans (harg4.read_unread x3)
  have e6 : (View.readAt (Elt F) arg8.view (Rect.unit ![0, 0] S32x2304.size inb_S32x2304_S32x2304_0_0).toLoadRect (harg8.unread x6)) = x6 := (View.readAt_full _ _ _).trans (harg8.read_unread x6)
  have e7 : (View.readAt (Elt F) arg9.view (Rect.unit ![0, 0] S32x9216.size inb_S32x9216_S32x9216_0_0).toLoadRect (harg9.unread x7)) = x7 := (View.readAt_full _ _ _).trans (harg9.read_unread x7)
  have r0 := read_D arg19.view (harg19.unread (DD x2 x3 x5 x7 (WEFF c XA x4))) _ (harg19.read_unread _) 0 (by decide) rfl inb_S2304x256_S128x256_0_0
  have r1 := read_D arg19.view (harg19.unread (DD x2 x3 x5 x7 (WEFF c XA x4))) _ (harg19.read_unread _) 1 (by decide) rfl inb_S2304x256_S128x256_128_0
  have r2 := read_D arg19.view (harg19.unread (DD x2 x3 x5 x7 (WEFF c XA x4))) _ (harg19.read_unread _) 2 (by decide) rfl inb_S2304x256_S128x256_256_0
  have r3 := read_D arg19.view (harg19.unread (DD x2 x3 x5 x7 (WEFF c XA x4))) _ (harg19.read_unread _) 3 (by decide) rfl inb_S2304x256_S128x256_384_0
  have r4 := read_D arg19.view (harg19.unread (DD x2 x3 x5 x7 (WEFF c XA x4))) _ (harg19.read_unread _) 4 (by decide) rfl inb_S2304x256_S128x256_512_0
  have r5 := read_D arg19.view (harg19.unread (DD x2 x3 x5 x7 (WEFF c XA x4))) _ (harg19.read_unread _) 5 (by decide) rfl inb_S2304x256_S128x256_640_0
  have r6 := read_D arg19.view (harg19.unread (DD x2 x3 x5 x7 (WEFF c XA x4))) _ (harg19.read_unread _) 6 (by decide) rfl inb_S2304x256_S128x256_768_0
  have r7 := read_D arg19.view (harg19.unread (DD x2 x3 x5 x7 (WEFF c XA x4))) _ (harg19.read_unread _) 7 (by decide) rfl inb_S2304x256_S128x256_896_0
  have r8 := read_D arg19.view (harg19.unread (DD x2 x3 x5 x7 (WEFF c XA x4))) _ (harg19.read_unread _) 8 (by decide) rfl inb_S2304x256_S128x256_1024_0
  have r9 := read_D arg19.view (harg19.unread (DD x2 x3 x5 x7 (WEFF c XA x4))) _ (harg19.read_unread _) 9 (by decide) rfl inb_S2304x256_S128x256_1152_0
  have r10 := read_D arg19.view (harg19.unread (DD x2 x3 x5 x7 (WEFF c XA x4))) _ (harg19.read_unread _) 10 (by decide) rfl inb_S2304x256_S128x256_1280_0
  have r11 := read_D arg19.view (harg19.unread (DD x2 x3 x5 x7 (WEFF c XA x4))) _ (harg19.read_unread _) 11 (by decide) rfl inb_S2304x256_S128x256_1408_0
  have r12 := read_D arg19.view (harg19.unread (DD x2 x3 x5 x7 (WEFF c XA x4))) _ (harg19.read_unread _) 12 (by decide) rfl inb_S2304x256_S128x256_1536_0
  have r13 := read_D arg19.view (harg19.unread (DD x2 x3 x5 x7 (WEFF c XA x4))) _ (harg19.read_unread _) 13 (by decide) rfl inb_S2304x256_S128x256_1664_0
  have r14 := read_D arg19.view (harg19.unread (DD x2 x3 x5 x7 (WEFF c XA x4))) _ (harg19.read_unread _) 14 (by decide) rfl inb_S2304x256_S128x256_1792_0
  have r15 := read_D arg19.view (harg19.unread (DD x2 x3 x5 x7 (WEFF c XA x4))) _ (harg19.read_unread _) 15 (by decide) rfl inb_S2304x256_S128x256_1920_0
  have r16 := read_D arg19.view (harg19.unread (DD x2 x3 x5 x7 (WEFF c XA x4))) _ (harg19.read_unread _) 16 (by decide) rfl inb_S2304x256_S128x256_2048_0
  have r17 := read_D arg19.view (harg19.unread (DD x2 x3 x5 x7 (WEFF c XA x4))) _ (harg19.read_unread _) 17 (by decide) rfl inb_S2304x256_S128x256_2176_0
  sl_step
  ihave HE := (ring_end c XA) $$ HL2
  icases HE with ⟨HW, HD⟩
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HL0]
  · iexists _; isplitr; · ipureintro; exact harg6.read_unread _
    iexact HL0
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine dx_all _ _ _ _ _ _ _ _ _ _ _ _ _ _ _ _ _ _ _ _ _ ?_ ?_ ?_ ?_ ?_ ?_ ?_ ?_ ?_ ?_ ?_ ?_ ?_ ?_ ?_ ?_ ?_ ?_
    · sl_unfold_words; rw [e2, e3, e7]; exact congrArg k0_pay29 r0
    · sl_unfold_words; rw [e2, e3, e7]; exact congrArg k0_pay32 r1
    · sl_unfold_words; rw [e2, e3, e7]; exact congrArg k0_pay35 r2
    · sl_unfold_words; rw [e2, e3, e7]; exact congrArg k0_pay38 r3
    · sl_unfold_words; rw [e2, e3, e7]; exact congrArg k0_pay41 r4
    · sl_unfold_words; rw [e2, e3, e7]; exact congrArg k0_pay44 r5
    · sl_unfold_words; rw [e2, e3, e7]; exact congrArg k0_pay47 r6
    · sl_unfold_words; rw [e2, e3, e7]; exact congrArg k0_pay50 r7
    · sl_unfold_words; rw [e2, e3, e7]; exact congrArg k0_pay53 r8
    · sl_unfold_words; rw [e2, e3, e7]; exact congrArg k0_pay56 r9
    · sl_unfold_words; rw [e2, e3, e7]; exact congrArg k0_pay59 r10
    · sl_unfold_words; rw [e2, e3, e7]; exact congrArg k0_pay62 r11
    · sl_unfold_words; rw [e2, e3, e7]; exact congrArg k0_pay65 r12
    · sl_unfold_words; rw [e2, e3, e7]; exact congrArg k0_pay70 r13
    · sl_unfold_words; rw [e2, e3, e7]; exact congrArg k0_pay73 r14
    · sl_unfold_words; rw [e2, e3, e7]; exact congrArg k0_pay76 r15
    · sl_unfold_words; rw [e2, e3, e7]; exact congrArg k0_pay80 r16
    · sl_unfold_words; rw [e2, e3, e7]; exact congrArg k0_pay83 r17
  isplitl [H9]
  · iexists _; isplitr; swap; · iexact H9
    ipureintro
    sl_unfold_words
    refine (View.read_writes_full _ _ _ _ _).trans ?_
    rw [e0, e1, e2, e3, e7, View.readCov_full]
  isplitl [H10]
  · iexists _; isplitr; swap; · iexact H10
    ipureintro
    sl_unfold_words
    refine (View.read_writes_full _ _ _ _ _).trans ?_
    rw [e0, e1, e2, e3, e6, View.readCov_full]
  isplitl [H11]
  · iexists _; isplitr; swap; · iexact H11
    ipureintro
    sl_unfold_words
    refine (View.read_writes_full _ _ _ _ _).trans ?_
    rw [e2, e3, e7]
  isplitl [H12]
  · iexists _; isplitr; swap; · iexact H12
    ipureintro
    sl_unfold_words
    refine (View.read_writes_full _ _ _ _ _).trans ?_
    rw [e0, e1, e6]
  isplitl [H13]
  · iexists _; isplitr; swap; · iexact H13
    ipureintro
    refine cod_all _ _ (INV (MX x2 x3 x5 x7 (WEFF c XA x4))) _ _ _ _ _ _ _ _ _ _ _ _ _ _ _ _ _ _ _ ?_ ?_ ?_ ?_ ?_ ?_ ?_ ?_ ?_ ?_ ?_ ?_ ?_ ?_ ?_ ?_ ?_ ?_
    · sl_unfold_words; rw [e2, e3, e7]; exact congrArg (k0_pay36 (INV (MX x2 x3 x5 x7 (WEFF c XA x4)))) r0
    · sl_unfold_words; rw [e2, e3, e7]; exact congrArg (k0_pay36 (INV (MX x2 x3 x5 x7 (WEFF c XA x4)))) r1
    · sl_unfold_words; rw [e2, e3, e7]; exact congrArg (k0_pay36 (INV (MX x2 x3 x5 x7 (WEFF c XA x4)))) r2
    · sl_unfold_words; rw [e2, e3, e7]; exact congrArg (k0_pay36 (INV (MX x2 x3 x5 x7 (WEFF c XA x4)))) r3
    · sl_unfold_words; rw [e2, e3, e7]; exact congrArg (k0_pay36 (INV (MX x2 x3 x5 x7 (WEFF c XA x4)))) r4
    · sl_unfold_words; rw [e2, e3, e7]; exact congrArg (k0_pay36 (INV (MX x2 x3 x5 x7 (WEFF c XA x4)))) r5
    · sl_unfold_words; rw [e2, e3, e7]; exact congrArg (k0_pay36 (INV (MX x2 x3 x5 x7 (WEFF c XA x4)))) r6
    · sl_unfold_words; rw [e2, e3, e7]; exact congrArg (k0_pay36 (INV (MX x2 x3 x5 x7 (WEFF c XA x4)))) r7
    · sl_unfold_words; rw [e2, e3, e7]; exact congrArg (k0_pay36 (INV (MX x2 x3 x5 x7 (WEFF c XA x4)))) r8
    · sl_unfold_words; rw [e2, e3, e7]; exact congrArg (k0_pay36 (INV (MX x2 x3 x5 x7 (WEFF c XA x4)))) r9
    · sl_unfold_words; rw [e2, e3, e7]; exact congrArg (k0_pay36 (INV (MX x2 x3 x5 x7 (WEFF c XA x4)))) r10
    · sl_unfold_words; rw [e2, e3, e7]; exact congrArg (k0_pay36 (INV (MX x2 x3 x5 x7 (WEFF c XA x4)))) r11
    · sl_unfold_words; rw [e2, e3, e7]; exact congrArg (k0_pay36 (INV (MX x2 x3 x5 x7 (WEFF c XA x4)))) r12
    · sl_unfold_words; rw [e2, e3, e7]; exact congrArg (k0_pay36 (INV (MX x2 x3 x5 x7 (WEFF c XA x4)))) r13
    · sl_unfold_words; rw [e2, e3, e7]; exact congrArg (k0_pay36 (INV (MX x2 x3 x5 x7 (WEFF c XA x4)))) r14
    · sl_unfold_words; rw [e2, e3, e7]; exact congrArg (k0_pay36 (INV (MX x2 x3 x5 x7 (WEFF c XA x4)))) r15
    · sl_unfold_words; rw [e2, e3, e7]; exact congrArg (k0_pay36 (INV (MX x2 x3 x5 x7 (WEFF c XA x4)))) r16
    · sl_unfold_words; rw [e2, e3, e7]; exact congrArg (k0_pay36 (INV (MX x2 x3 x5 x7 (WEFF c XA x4)))) r17
  isplitl [H14]
  · iexists _; isplitr; swap; · iexact H14
    ipureintro
    sl_unfold_words
    refine (View.read_writes_full _ _ _ _ _).trans ?_
    rw [e2, e3, e7]; rfl
  isplitl [HL1]
  · iexists _; isplitr; swap; · iexact HL1
    ipureintro
    exact harg17.read_unread _
  isplitl [HS2]
  · iexists _, _; isplitr; swap; · iexact HS2
    ipureintro; rfl
  isplitl [HD]
  · irw [← bk18_0, ← homes_all c XA 0, ← DMA]; iexact HD
  iexact HW

end Cert.KernelIdeal.Hand

end
-- ==== Proof.KernelIdeal.Frame.lean ====
/- The run of the kernel's program: the region's proof data point by point, from the two triples of the body. -/
module

public import proofs.«01_k».proof.Proof.KernelIdeal.BodyA
public import Idealize.ShloMosaic.Lib.Claim

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The converted weights, as every point reads them. -/
def Wf (c : Dev nD) : Vec F S2304x9216 .bf16 := WEFF c (V m c main_v2) (iblk m c 4 ⟨0, by decide⟩)
/-- The gradient of the down projection after the body at position `n`. -/
def accA (c : Dev nD) : (n : ℕ) → n < cfg0.N → Vec F S32x2304 .f32
  | 0, hn => DAT (iblk m c 0 ⟨0, hn⟩) (iblk m c 1 ⟨0, hn⟩) (iblk m c 2 ⟨0, hn⟩) (iblk m c 3 ⟨0, hn⟩) (iblk m c 7 ⟨0, hn⟩) k0_pay2
  | n + 1, hn => DAT (iblk m c 0 ⟨n + 1, hn⟩) (iblk m c 1 ⟨n + 1, hn⟩) (iblk m c 2 ⟨n + 1, hn⟩) (iblk m c 3 ⟨n + 1, hn⟩) (iblk m c 7 ⟨n + 1, hn⟩) (accA c n (Nat.lt_of_succ_lt hn))
/-- The gradient of the up projection after the body at position `n`. -/
def accB (c : Dev nD) : (n : ℕ) → n < cfg0.N → Vec F S32x9216 .f32
  | 0, hn => DBT (iblk m c 0 ⟨0, hn⟩) (iblk m c 1 ⟨0, hn⟩) (iblk m c 2 ⟨0, hn⟩) (iblk m c 3 ⟨0, hn⟩) (iblk m c 6 ⟨0, hn⟩) k0_pay3
  | n + 1, hn => DBT (iblk m c 0 ⟨n + 1, hn⟩) (iblk m c 1 ⟨n + 1, hn⟩) (iblk m c 2 ⟨n + 1, hn⟩) (iblk m c 3 ⟨n + 1, hn⟩) (iblk m c 6 ⟨n + 1, hn⟩) (accB c n (Nat.lt_of_succ_lt hn))
theorem accA_pos (c : Dev nD) (t : Fin cfg0.N) (h : t.val ≠ 0) : accA m c t.val t.isLt = DAT (iblk m c 0 t) (iblk m c 1 t) (iblk m c 2 t) (iblk m c 3 t) (iblk m c 7 t) (accA m c (t.val - 1) (Nat.lt_of_le_of_lt (Nat.sub_le _ _) t.isLt)) := by
  obtain ⟨n, hn⟩ := t
  cases n with
  | zero => exact absurd rfl h
  | succ n => rfl
theorem accB_pos (c : Dev nD) (t : Fin cfg0.N) (h : t.val ≠ 0) : accB m c t.val t.isLt = DBT (iblk m c 0 t) (iblk m c 1 t) (iblk m c 2 t) (iblk m c 3 t) (iblk m c 6 t) (accB m c (t.val - 1) (Nat.lt_of_le_of_lt (Nat.sub_le _ _) t.isLt)) := by
  obtain ⟨n, hn⟩ := t
  cases n with
  | zero => exact absurd rfl h
  | succ n => rfl
theorem accA_zero (c : Dev nD) (t : Fin cfg0.N) (h : t.val = 0) : accA m c t.val t.isLt = DAT (iblk m c 0 t) (iblk m c 1 t) (iblk m c 2 t) (iblk m c 3 t) (iblk m c 7 t) k0_pay2 := by
  obtain ⟨n, hn⟩ := t
  cases n with
  | zero => rfl
  | succ n => exact absurd h (Nat.succ_ne_zero n)
theorem accB_zero (c : Dev nD) (t : Fin cfg0.N) (h : t.val = 0) : accB m c t.val t.isLt = DBT (iblk m c 0 t) (iblk m c 1 t) (iblk m c 2 t) (iblk m c 3 t) (iblk m c 6 t) k0_pay3 := by
  obtain ⟨n, hn⟩ := t
  cases n with
  | zero => rfl
  | succ n => exact absurd h (Nat.succ_ne_zero n)
theorem Wf_zero (c : Dev nD) (t : Fin cfg0.N) (h : t.val = 0) : WEFF c (V m c main_v2) (iblk m c 4 t) = Wf m c := by
  have e : t = ⟨0, by decide⟩ := Fin.ext h
  rw [Wf, ← e]

/-- What the transfers own, out of the scratch, the cells and the operand; and back. -/
theorem dma_of (c : Dev nD) (XA : Buf (Elt F) (aM.view.loc (c : Thread nD τ))) :
    iprop((∃ d, owns (c : Thread nD τ) scM0_1 fullShare d) ∗ iprop(semVal ((c : Thread nD τ), SemLoc.dma 24) 0 ∗ semVal ((c : Thread nD τ), SemLoc.dma 25) 0) ∗ hbPt0 c hbM0_0 XA)
      ⊢ (DMA c XA : sProp 𝕄) := by
  rw [DMA, a_eq]
  simp only [scM0_1, owns_whole]
  iintro ⟨Hb, ⟨Hq0, Hq1⟩, Hh⟩
  isplitl [Hh]; · iexact Hh
  isplitl [Hb]; · iapply (buf_split c); iexact Hb
  isplitl [Hq0]; · iexact Hq0
  iexact Hq1
theorem of_dma (c : Dev nD) (XA : Buf (Elt F) (aM.view.loc (c : Thread nD τ))) :
    (DMA c XA : sProp 𝕄)
      ⊢ iprop((∃ d, owns (c : Thread nD τ) scM0_1 fullShare d) ∗ iprop(semVal ((c : Thread nD τ), SemLoc.dma 24) 0 ∗ semVal ((c : Thread nD τ), SemLoc.dma 25) 0) ∗ hbPt0 c hbM0_0 XA) := by
  rw [DMA, a_eq]
  simp only [scM0_1, owns_whole]
  iintro ⟨Hh, Hb, Hq0, Hq1⟩
  isplitl [Hb]; · iapply (buf_join c); iexact Hb
  isplitl [Hq0 Hq1]
  · isplitl [Hq0]; · iexact Hq0
    iexact Hq1
  iexact Hh

/-- The region invariant before position `n`: before the first point the launch's invariant; afterwards the same with the converted weights named. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (Wf m c) ∗ (∃ d, owns (c : Thread nD τ) scM0_1 fullShare d) ∗ (∃ d, owns (c : Thread nD τ) scM0_2 fullShare d)) ∗ (∃ r, prngReg c r) ∗ iprop(semVal ((c : Thread nD τ), SemLoc.dma 24) 0 ∗ semVal ((c : Thread nD τ), SemLoc.dma 25) 0) ∗ iprop(hbPt0 c hbM0_0 (V m c main_v2)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (Wf m c) ∗ (∃ d, owns (c : Thread nD τ) scM0_1 fullShare d) ∗ (∃ d, owns (c : Thread nD τ) scM0_2 fullShare d)) ∗ (∃ r, prngReg c r) ∗ iprop(semVal ((c : Thread nD τ), SemLoc.dma 24) 0 ∗ semVal ((c : Thread nD τ), SemLoc.dma 25) 0) ∗ iprop(hbPt0 c hbM0_0 (V m c main_v2))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (Wf m c) ∗ (∃ d, owns (c : Thread nD τ) scM0_1 fullShare d) ∗ (∃ d, owns (c : Thread nD τ) scM0_2 fullShare d)) ∗ (∃ r, prngReg c r) ∗ iprop(semVal ((c : Thread nD τ), SemLoc.dma 24) 0 ∗ semVal ((c : Thread nD τ), SemLoc.dma 25) 0) ∗ iprop(hbPt0 c hbM0_0 (V m c main_v2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => DXO (DD (iblk m c 2 t) (iblk m c 3 t) (iblk m c 5 t) (iblk m c 7 t) (Wf m c))
    | ⟨9, _⟩ => accA m c t.val t.isLt
    | ⟨10, _⟩ => accB m c t.val t.isLt
    | ⟨11, _⟩ => TT (iblk m c 2 t) (iblk m c 3 t) (iblk m c 7 t)
    | ⟨12, _⟩ => XX (iblk m c 0 t) (iblk m c 1 t) (iblk m c 6 t)
    | ⟨13, _⟩ => COD (INV (MX (iblk m c 2 t) (iblk m c 3 t) (iblk m c 5 t) (iblk m c 7 t) (Wf m c))) (DD (iblk m c 2 t) (iblk m c 3 t) (iblk m c 5 t) (iblk m c 7 t) (Wf m c))
    | ⟨14, _⟩ => SCL (MX (iblk m c 2 t) (iblk m c 3 t) (iblk m c 5 t) (iblk m c 7 t) (Wf m c))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = DXO (DD (iblk m c 2 t) (iblk m c 3 t) (iblk m c 5 t) (iblk m c 7 t) (Wf m c)) := by dsimp only [dats]
theorem after0_9 (c : Dev nD) (t : Fin cfg0.N) : (dats m 0 c).after 9 t = accA m c t.val t.isLt := by dsimp only [dats]
theorem after0_10 (c : Dev nD) (t : Fin cfg0.N) : (dats m 0 c).after 10 t = accB m c t.val t.isLt := by dsimp only [dats]
theorem after0_11 (c : Dev nD) (t : Fin cfg0.N) : (dats m 0 c).after 11 t = TT (iblk m c 2 t) (iblk m c 3 t) (iblk m c 7 t) := by dsimp only [dats]
theorem after0_12 (c : Dev nD) (t : Fin cfg0.N) : (dats m 0 c).after 12 t = XX (iblk m c 0 t) (iblk m c 1 t) (iblk m c 6 t) := by dsimp only [dats]
theorem after0_13 (c : Dev nD) (t : Fin cfg0.N) : (dats m 0 c).after 13 t = COD (INV (MX (iblk m c 2 t) (iblk m c 3 t) (iblk m c 5 t) (iblk m c 7 t) (Wf m c))) (DD (iblk m c 2 t) (iblk m c 3 t) (iblk m c 5 t) (iblk m c 7 t) (Wf m c)) := by dsimp only [dats]
theorem after0_14 (c : Dev nD) (t : Fin cfg0.N) : (dats m 0 c).after 14 t = SCL (MX (iblk m c 2 t) (iblk m c 3 t) (iblk m c 5 t) (iblk m c 7 t) (Wf m c)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 36 = 0) (d) :
    (dats m 0 c).before 9 t d = accA m c (t.val - 1) (Nat.lt_of_le_of_lt (Nat.sub_le _ _) t.isLt) := by
  have hN : t.val < 36 := lt_of_lt_of_eq t.isLt (show cfg0.N = 36 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 36 = 0) (d) :
    (dats m 0 c).before 10 t d = accB m c (t.val - 1) (Nat.lt_of_le_of_lt (Nat.sub_le _ _) t.isLt) := by
  have hN : t.val < 36 := lt_of_lt_of_eq t.isLt (show cfg0.N = 36 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 1000000 in
/-- The body at any point: its triple at the first point, or at a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14]
  unfold Dat.owesAt Pipeline.owesWithin
  rw [show (dats m 0 c).owed t.castSucc = 0 from rfl, show (dats m 0 c).owed t.succ = 0 from rfl]
  have hN : t.val < 36 := lt_of_lt_of_eq t.isLt (show cfg0.N = 36 from N_0)
  by_cases hz : t.val = 0
  · have h0 : t.val % 36 = 0 := by omega
    rw [PhiS_castSucc m c t, PhiS_zero m c _ _ hz, PhiD0_eq]
    rw [accA_zero m c t hz, accB_zero m c t hz, ← Wf_zero m c t hz]
    iintro ⟨⟨⟨HS0, HS1, HS2⟩, Hg, Hq, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    ihave HD := (dma_of c (V m c main_v2)) $$ [HS1 Hq Hh0]
    · isplitl [HS1]; · iexact HS1
      isplitl [Hq]; · iexact Hq
      iexact Hh0
    iapply (bodyA c (grid0.coords t) _ _ _ _ _ _ _ _ _ _ _ _ _ _ _ _ _ _ _ _ _ _ _ _ _ _ _ _ _ _ _ _ _ _ ((hcond0_0 t).mpr h0) (V m c main_v2) (iblk m c 0 t) (iblk m c 1 t) (iblk m c 2 t) (iblk m c 3 t) (iblk m c 4 t) (iblk m c 5 t) (iblk m c 6 t) (iblk m c 7 t) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS2]; · iexact HS2
    isplitl [HD]; · iexact HD
    isplitl [HW]; · iexact HW
    iintro ⟨H0, H1, H2, H3, H4, H5, H6, H7, H8, H9, H10, H11, H12, H13, H14, HS0, HS2, HD, ⟨%W', HW'⟩⟩
    ihave HE := (of_dma c (V m c main_v2)) $$ HD
    icases HE with ⟨HS1, Hq, Hh0⟩
    isplitl [HS0 HS1 HS2 Hg Hq Hh0]
    · isplitl [HS0 HS1 HS2]
      · isplitl [HS0]; · iexact HS0
        isplitl [HS1]; · iexact HS1
        iexact HS2
      isplitl [Hg]; · iexact Hg
      isplitl [Hq]; · iexact Hq
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have h0 : ¬ t.val % 36 = 0 := by omega
    rw [PhiS_castSucc m c t, PhiS_pos m c _ _ hz]
    rw [accA_pos m c t hz, accB_pos m c t hz]
    simp only [before0_9_B m c t h0, before0_10_B m c t h0]
    iintro ⟨⟨⟨HS0, HS1, HS2⟩, Hg, Hq, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (bodyB c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ (Wf m c) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexact HS0
    isplitl [HS2]; · iexact HS2
    isplitl [HW]; · iexact HW
    iintro ⟨H0, H1, H2, H3, H4, H5, H6, H7, H8, H9, H10, H11, H12, H13, H14, HS0, HS2, ⟨%W', HW'⟩⟩
    isplitl [HS0 HS1 HS2 Hg Hq Hh0]
    · isplitl [HS0 HS1 HS2]
      · isplitl [HS0]; · iexact HS0
        isplitl [HS1]; · iexact HS1
        iexact HS2
      isplitl [Hg]; · iexact Hg
      isplitl [Hq]; · iexact Hq
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1⟩, Hh0⟩
  isplitl [HS0 HS1 HS2]
  · isplitl [HS0]
    · iexists _; iexact HS0
    isplitl [HS1]
    · iexact HS1
    iexact HS2
  isplitl [Hg]; · iexact Hg
  isplitl [Hq0 Hq1]
  · isplitl [Hq0]; · iexact Hq0
    iexact Hq1
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 36 := N_0; omega)

/-! ## The run and the frame -/

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: every run ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.Spec.lean ====
/- The mathematics both programs compute, over real numbers, and the laws that take an extended-real
   computation of finite values to it. -/
module

public import Idealize.ShloMosaic.Lib.Pointwise

@[expose] public section

set_option maxRecDepth 16384

noncomputable section

namespace Cert.Spec

open Idealize.ShloMosaic

/-! ### Sums and differences of finite values -/

/-- A sum of real numbers, in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real number less itself is zero. -/
theorem sub_self_fin {x : EReal} (h : ∃ r : ℝ, x = r) : x - x = 0 := by
  obtain ⟨r, rfl⟩ := h; rw [← EReal.coe_sub, sub_self, EReal.coe_zero]

/-- The word of 2. -/
theorem two_f32 : Ideal.ofBits .f32 0x40000000#32 = ((2 : ℝ) : EReal) := by
  simp [Ideal.ofBits, Ideal.ieee, -EReal.coe_mul]; norm_num
/-- The word of minus infinity. -/
theorem bot_f32 : Ideal.ofBits .f32 0xFF800000#32 = ⊥ := by simp [Ideal.ofBits, Ideal.ieee]

/-! ### The arguments' magnitudes -/

/-- A finite e5m2 code's number. -/
theorem e5m2_fin (b : BitVec 8) (h : b.toNat % 128 < 124) : ∃ r : ℝ, Ideal.ofBits .fp8e5m2 b = (r : EReal) ∧ |r| ≤ 2 ^ 16 := by
  have hb := b.isLt
  have ex : (b.extractLsb' 2 5).toNat = b.toNat / 4 % 32 := by simp [BitVec.extractLsb'_toNat, Nat.shiftRight_eq_div_pow]
  have fr : (b.extractLsb' 0 2).toNat = b.toNat % 4 := by simp [BitVec.extractLsb'_toNat]
  have h1 : b.toNat / 4 % 32 ≠ 31 := by omega
  have sg : ∀ n : Bool, |(if n then (-1 : ℝ) else 1)| = 1 := by intro n; cases n <;> simp
  unfold Ideal.ofBits Ideal.ieee
  simp only [ex, fr]
  rw [if_neg (by simpa using h1)]
  split
  · refine ⟨_, rfl, ?_⟩
    rw [abs_mul, abs_mul, sg, one_mul, abs_of_nonneg (by positivity), abs_of_nonneg (by positivity)]
    have h3 : ((b.toNat % 4 : ℕ) : ℝ) ≤ 4 := by exact_mod_cast (by omega : b.toNat % 4 ≤ 4)
    norm_num
    nlinarith
  · refine ⟨_, rfl, ?_⟩
    rw [abs_mul, abs_mul, sg, one_mul, abs_of_nonneg (by positivity), abs_of_nonneg (by positivity)]
    have h3 : ((2 ^ 2 + b.toNat % 4 : ℕ) : ℝ) ≤ 8 := by exact_mod_cast (by omega : 2 ^ 2 + b.toNat % 4 ≤ 8)
    have h4 : (2 : ℝ) ^ (((b.toNat / 4 % 32 : ℕ) : ℤ) - (2 ^ (5 - 1) - 1) - (2 : ℕ)) ≤ 2 ^ (13 : ℤ) :=
      zpow_le_zpow_right₀ (by norm_num) (by norm_num; omega)
    calc _ ≤ (8 : ℝ) * 2 ^ (13 : ℤ) := mul_le_mul h3 h4 (by positivity) (by norm_num)
      _ ≤ _ := by norm_num

/-- A finite e4m3 code's number. -/
theorem e4m3_fin (b : BitVec 8) (h : b.toNat % 128 < 127) : ∃ r : ℝ, Ideal.ofBits .fp8e4m3 b = (r : EReal) ∧ |r| ≤ 2 ^ 16 := by
  have hb := b.isLt
  have ex : (b.extractLsb' 3 4).toNat = b.toNat / 8 % 16 := by simp [BitVec.extractLsb'_toNat, Nat.shiftRight_eq_div_pow]
  have fr : (b.extractLsb' 0 3).toNat = b.toNat % 8 := by simp [BitVec.extractLsb'_toNat]
  have h1 : ¬(b.toNat / 8 % 16 = 15 ∧ b.toNat % 8 = 7) := by omega
  have sg : ∀ n : Bool, |(if n then (-1 : ℝ) else 1)| = 1 := by intro n; cases n <;> simp
  unfold Ideal.ofBits Ideal.e4m3fn
  simp only [ex, fr]
  rw [if_neg h1]
  split
  · refine ⟨_, rfl, ?_⟩
    rw [abs_mul, abs_mul, sg, one_mul, abs_of_nonneg (by positivity), abs_of_nonneg (by positivity)]
    have h3 : ((b.toNat % 8 : ℕ) : ℝ) ≤ 8 := by exact_mod_cast (by omega : b.toNat % 8 ≤ 8)
    norm_num
    nlinarith
  · refine ⟨_, rfl, ?_⟩
    rw [abs_mul, abs_mul, sg, one_mul, abs_of_nonneg (by positivity), abs_of_nonneg (by positivity)]
    have h3 : ((8 + b.toNat % 8 : ℕ) : ℝ) ≤ 16 := by exact_mod_cast (by omega : 8 + b.toNat % 8 ≤ 16)
    have h4 : (2 : ℝ) ^ (((b.toNat / 8 % 16 : ℕ) : ℤ) - 10) ≤ 2 ^ (5 : ℤ) :=
      zpow_le_zpow_right₀ (by norm_num) (by norm_num; omega)
    calc _ ≤ (16 : ℝ) * 2 ^ (5 : ℤ) := mul_le_mul h3 h4 (by positivity) (by norm_num)
      _ ≤ _ := by norm_num

/-- A value bounded in magnitude by a real number is a real number. -/
theorem abs_fin {x : EReal} {b : EReal} {B : ℝ} (hb : b = (B : EReal)) (h : max x (-x) ≤ b) : ∃ r : ℝ, x = (r : EReal) ∧ |r| ≤ B := by
  subst hb
  induction x using EReal.rec with
  | bot => exact absurd (le_trans (le_max_right _ _) h) (by rw [EReal.neg_bot, top_le_iff]; exact EReal.coe_ne_top _)
  | top => exact absurd (le_trans (le_max_left _ _) h) (by rw [top_le_iff]; exact EReal.coe_ne_top _)
  | coe r =>
    refine ⟨r, rfl, ?_⟩
    rw [max_le_iff, ← EReal.coe_neg, EReal.coe_le_coe_iff, EReal.coe_le_coe_iff] at h
    exact abs_le.mpr ⟨by linarith [h.2], h.1⟩
/-- The word of 2^20, in f32. -/
theorem bound_f32 : Ideal.ofBits .f32 0x49800000#32 = ((2 ^ 20 : ℝ) : EReal) := by
  simp [Ideal.ofBits, Ideal.ieee, -EReal.coe_mul, -EReal.coe_pow]; norm_num
/-- The word of the greatest finite f32 number. -/
theorem bound_max : Ideal.ofBits .f32 0x7F7FFFFF#32 = (((16777215 : ℝ) * 2 ^ 104 : ℝ) : EReal) := by
  simp [Ideal.ofBits, Ideal.ieee, -EReal.coe_mul, -EReal.coe_pow]
/-- The word of 2^20, in bf16. -/
theorem bound_bf16 : Ideal.ofBits .bf16 0x4980#16 = ((2 ^ 20 : ℝ) : EReal) := by
  simp [Ideal.ofBits, Ideal.ieee, -EReal.coe_mul, -EReal.coe_pow]; norm_num

/-! ### The results -/

/-- The arguments as real numbers, tokens flattened. -/
structure Args where
  X : Fin 9216 → Fin 2304 → ℝ
  XS : Fin 9216 → ℝ
  DY : Fin 9216 → Fin 9216 → ℝ
  DS : Fin 9216 → ℝ
  W : Fin 2304 → Fin 9216 → ℝ
  WS : Fin 9216 → ℝ
  A : Fin 2304 → Fin 32 → ℝ
  B : Fin 32 → Fin 9216 → ℝ

namespace Args
variable (a : Args)

/-- The output gradient through the second factor. -/
def t (n : Fin 9216) (r : Fin 32) : ℝ := (∑ o, a.DY n o * a.B r o) * a.DS n
/-- The input through the first factor. -/
def xa (n : Fin 9216) (r : Fin 32) : ℝ := (∑ k, a.X n k * a.A k r) * a.XS n
/-- The input gradient. -/
def g (n : Fin 9216) (k : Fin 2304) : ℝ := (∑ o, a.DY n o * (a.W k o * a.WS o)) * a.DS n + 2 * ∑ r, a.t n r * a.A k r
/-- The gradient of the first factor. -/
def da (k : Fin 2304) (r : Fin 32) : ℝ := 2 * ∑ n, a.X n k * (a.XS n * a.t n r)
/-- The gradient of the second factor. -/
def db (r : Fin 32) (o : Fin 9216) : ℝ := 2 * ∑ n, (a.xa n r * a.DS n) * a.DY n o

/-- The magnitudes the precondition grants. -/
structure Moderate : Prop where
  DY : ∀ n o, |a.DY n o| ≤ 2 ^ 16
  DS : ∀ n, |a.DS n| ≤ 2 ^ 20
  W : ∀ k o, |a.W k o| ≤ 2 ^ 16
  WS : ∀ o, |a.WS o| ≤ 2 ^ 20
  A : ∀ k r, |a.A k r| ≤ 2 ^ 20
  B : ∀ r o, |a.B r o| ≤ 2 ^ 20

/-- A sum of bounded terms is bounded. -/
theorem abs_sum_le {n : ℕ} (f : Fin n → ℝ) (b : ℝ) (h : ∀ i, |f i| ≤ b) : |∑ i, f i| ≤ n * b := by
  calc _ ≤ ∑ i, |f i| := Finset.abs_sum_le_sum_abs _ _
    _ ≤ ∑ i : Fin n, b := Finset.sum_le_sum fun i _ => h i
    _ = _ := by simp
/-- A product of bounded factors is bounded. -/
theorem abs_mul_le {x y b c : ℝ} (hx : |x| ≤ b) (hy : |y| ≤ c) : |x * y| ≤ b * c := by
  rw [abs_mul]; exact mul_le_mul hx hy (abs_nonneg _) (le_trans (abs_nonneg _) hx)

/-- Under the bounds on the arguments the input gradient is below 2^100. -/
theorem abs_g (h : a.Moderate) (n : Fin 9216) (k : Fin 2304) : |a.g n k| ≤ 2 ^ 100 := by
  have ht : ∀ r, |a.t n r| ≤ ((9216 : ℕ) : ℝ) * (2 ^ 16 * 2 ^ 20) * 2 ^ 20 := fun r =>
    abs_mul_le (abs_sum_le _ _ fun o => abs_mul_le (h.DY n o) (h.B r o)) (h.DS n)
  have h1 : |(∑ o, a.DY n o * (a.W k o * a.WS o)) * a.DS n| ≤ ((9216 : ℕ) : ℝ) * (2 ^ 16 * (2 ^ 16 * 2 ^ 20)) * 2 ^ 20 :=
    abs_mul_le (abs_sum_le _ _ fun o => abs_mul_le (h.DY n o) (abs_mul_le (h.W k o) (h.WS o))) (h.DS n)
  have h2 : |2 * ∑ r, a.t n r * a.A k r| ≤ 2 * (((32 : ℕ) : ℝ) * (((9216 : ℕ) : ℝ) * (2 ^ 16 * 2 ^ 20) * 2 ^ 20 * 2 ^ 20)) :=
    abs_mul_le (by norm_num) (abs_sum_le _ _ fun r => abs_mul_le (ht r) (h.A k r))
  refine (abs_add_le _ _).trans ((add_le_add h1 h2).trans ?_)
  norm_num

end Args

/-! ### The greatest magnitude of a row -/

/-- The greatest magnitude among finitely many values. -/
def top {n : ℕ} (f : Fin n → EReal) : EReal := Finset.univ.fold max ⊥ fun k => max (f k) (-f k)

/-- The row maximum is below a bound when every magnitude is. -/
theorem top_le {n : ℕ} (f : Fin n → EReal) (b : EReal) : top f ≤ b ↔ ∀ k, max (f k) (-f k) ≤ b := by
  unfold top; rw [Finset.fold_max_le]; simp
/-- Every magnitude is below the row maximum. -/
theorem le_top {n : ℕ} (f : Fin n → EReal) (k : Fin n) : max (f k) (-f k) ≤ top f := (top_le f _).mp le_rfl k
/-- A magnitude is not negative. -/
theorem abs_coe_nonneg (r : ℝ) : (0 : EReal) ≤ max (r : EReal) (-(r : EReal)) := by
  rcases le_total 0 r with h | h
  · exact le_max_of_le_left (by exact_mod_cast h)
  · refine le_max_of_le_right ?_; rw [← EReal.coe_neg]; exact_mod_cast (by linarith : (0 : ℝ) ≤ -r)

/-- Of finite values below a bound, it is finite and below that bound. -/
theorem top_fin {n : ℕ} (hn : 0 < n) (f : Fin n → ℝ) (b : ℝ) (h : ∀ k, |f k| ≤ b) :
    ∃ r : ℝ, top (fun k => (f k : EReal)) = (r : EReal) ∧ 0 ≤ r ∧ r ≤ b := by
  have h1 : top (fun k => (f k : EReal)) ≤ (b : EReal) := (top_le _ _).mpr fun k => by
    have := abs_le.mp (h k)
    exact max_le (by exact_mod_cast this.2) (by rw [← EReal.coe_neg]; exact_mod_cast (by linarith : -f k ≤ b))
  have h0 : (0 : EReal) ≤ top (fun k => (f k : EReal)) := le_trans (abs_coe_nonneg (f ⟨0, hn⟩)) (le_top (fun k => (f k : EReal)) ⟨0, hn⟩)
  generalize top (fun k => (f k : EReal)) = x at h0 h1
  induction x using EReal.rec with
  | bot => exact absurd h0 (by simp)
  | top => exact absurd h1 (by rw [top_le_iff]; exact EReal.coe_ne_top _)
  | coe r => exact ⟨r, rfl, by exact_mod_cast h0, by exact_mod_cast h1⟩

/-! ### The scale -/

/-- The scale at exponent field `f`. -/
def sc (f : ℕ) : ℝ := if f = 0 then 1 else 2 ^ ((f : ℤ) - 126)
/-- `f` is the exponent field of `q`, below the top. -/
def IsField (q : ℝ) (f : ℕ) : Prop := f ≤ 252 ∧ (f = 0 ∨ (2 : ℝ) ^ ((f : ℤ) - 127) ≤ q) ∧ q < 2 ^ ((f : ℤ) - 126)

/-- One doubling: the power, and the scale found so far. -/
def dbl (q : EReal) (c : EReal × EReal) : EReal × EReal := (c.1 * ((2 : ℝ) : EReal), if c.1 ≤ q then c.1 * ((2 : ℝ) : EReal) else c.2)
/-- The scale found by 253 doublings. -/
def scale (q : EReal) : EReal := ((dbl q)^[253] (((2 : ℝ) ^ (-126 : ℤ) : ℝ), 1)).2

/-- What the doubling holds after some steps. -/
theorem dbl_iterate (q : ℝ) (f : ℕ) (hf : IsField q f) (i : ℕ) :
    (dbl q)^[i] (((2 : ℝ) ^ (-126 : ℤ) : ℝ), 1) = ((((2 : ℝ) ^ ((i : ℤ) - 126) : ℝ) : EReal), ((sc (min i f) : ℝ) : EReal)) := by
  induction i with
  | zero => simp [sc]
  | succ i ih =>
    obtain ⟨h0, h1, h2⟩ := hf
    have e2 : (2 : ℝ) ^ ((i : ℤ) - 126) * 2 = 2 ^ (((i + 1 : ℕ) : ℤ) - 126) := by
      rw [← zpow_add_one₀ (by norm_num)]; congr 1; push_cast; omega
    rw [Function.iterate_succ_apply', ih, dbl, ← EReal.coe_mul, e2]
    refine Prod.ext rfl ?_
    show (if (((2 : ℝ) ^ ((i : ℤ) - 126) : ℝ) : EReal) ≤ (q : EReal) then (((2 : ℝ) ^ (((i + 1 : ℕ) : ℤ) - 126) : ℝ) : EReal) else ((sc (min i f) : ℝ) : EReal))
      = ((sc (min (i + 1) f) : ℝ) : EReal)
    simp only [EReal.coe_le_coe_iff]
    by_cases hi : i < f
    · have : (2 : ℝ) ^ ((i : ℤ) - 126) ≤ q := by
        rcases h1 with h1 | h1
        · omega
        · exact le_trans (zpow_le_zpow_right₀ (by norm_num) (by omega)) h1
      rw [if_pos this, Nat.min_eq_left (by omega), sc, if_neg (by omega)]
    · have : ¬(2 : ℝ) ^ ((i : ℤ) - 126) ≤ q := not_le.mpr (lt_of_lt_of_le h2 (zpow_le_zpow_right₀ (by norm_num) (by omega)))
      rw [if_neg this, Nat.min_eq_right (by omega), Nat.min_eq_right (by omega)]

/-- `1 / 57344` as rounded. -/
theorem c_f32 : ∃ c : ℝ, Ideal.ofBits .f32 0x37924925#32 = (c : EReal) ∧ 0 ≤ c ∧ c ≤ 1 := by
  refine ⟨9586981 * 2 ^ (-39 : ℤ), ?_, by positivity, by norm_num⟩
  simp [Ideal.ofBits, Ideal.ieee, -EReal.coe_mul]

/-- The doubling finds the power of two of the quotient's exponent field. -/
theorem scale_eq {q : ℝ} {f : ℕ} (hf : IsField q f) : scale q = ((sc f : ℝ) : EReal) := by
  rw [scale, dbl_iterate q f hf, Nat.min_eq_right (le_trans hf.1 (by omega))]

/-- A scale is positive. -/
theorem sc_pos (f : ℕ) : 0 < sc f := by unfold sc; split <;> positivity

/-! ### The search for the exponent field -/

/-- The power of two whose exponent field is `f`. -/
theorem bits_shl (f : ℕ) (h1 : 1 ≤ f) (h2 : f ≤ 254) : Ideal.ofBits .f32 (BitVec.ofNat 32 f <<< 23) = (((2 : ℝ) ^ ((f : ℤ) - 127) : ℝ) : EReal) := by
  have ht : (BitVec.ofNat 32 f <<< 23).toNat = f * 2 ^ 23 := by
    rw [BitVec.toNat_shiftLeft, BitVec.toNat_ofNat, Nat.shiftLeft_eq]; omega
  have ex : ((BitVec.ofNat 32 f <<< 23).extractLsb' 23 8).toNat = f := by
    rw [BitVec.extractLsb'_toNat, ht, Nat.shiftRight_eq_div_pow]; omega
  have fr : ((BitVec.ofNat 32 f <<< 23).extractLsb' 0 23).toNat = 0 := by
    rw [BitVec.extractLsb'_toNat, ht, Nat.shiftRight_eq_div_pow]; omega
  have sg : ((BitVec.ofNat 32 f <<< 23).extractLsb' (8 + 23) 1 == 1#1) = false := by
    have h3 : ((BitVec.ofNat 32 f <<< 23).extractLsb' (8 + 23) 1).toNat = 0 := by
      rw [BitVec.extractLsb'_toNat, ht, Nat.shiftRight_eq_div_pow]; omega
    rw [beq_eq_false_iff_ne]; intro h
    rw [h] at h3; exact absurd h3 (by decide)
  have hne : f ≠ 2 ^ 8 - 1 := by omega
  show Ideal.ieee 8 23 (BitVec.ofNat 32 f <<< 23) = _
  generalize BitVec.ofNat 32 f <<< 23 = b at *
  simp only [Ideal.ieee, ex, fr, sg, if_neg hne, if_neg (show f ≠ 0 by omega)]
  refine congrArg (fun r : ℝ => (r : EReal)) ?_
  simp only [Bool.false_eq_true, if_false, one_mul, Nat.add_zero]
  rw [Nat.cast_pow, Nat.cast_ofNat, ← zpow_natCast, ← zpow_add₀ (by norm_num)]
  congr 1; push_cast; norm_num
/-- The word of infinity. -/
theorem bits_top : Ideal.ofBits .f32 (BitVec.ofNat 32 255 <<< 23) = ⊤ := by simp [Ideal.ofBits, Ideal.ieee]

/-- One step: the next bit of the field is set when the power of two it makes is not above `q`. -/
def bitStep (q : EReal) (F b : BitVec 32) : BitVec 32 :=
  Scalar.select (FloatOps.cmpf (F := Ideal) (φ := .f32) .oge q (Ideal.ofBits .f32 ((F + b) <<< 23))) (F + b) F

/-- What the search keeps: the field lies in `f … f + w - 1`. -/
def Inv (q : ℝ) (F : BitVec 32) (f w : ℕ) : Prop :=
  F = BitVec.ofNat 32 f ∧ f + w ≤ 256 ∧ (f = 0 ∨ Ideal.ofBits .f32 (BitVec.ofNat 32 f <<< 23) ≤ (q : EReal))
    ∧ (f + w = 256 ∨ (q : EReal) < Ideal.ofBits .f32 (BitVec.ofNat 32 (f + w) <<< 23))

/-- One step of the search keeps its invariant. -/
theorem inv_step (q : ℝ) (F : BitVec 32) (f w : ℕ) (hw : 1 ≤ w) (h : Inv q F f (2 * w)) : ∃ f', Inv q (bitStep q F (BitVec.ofNat 32 w)) f' w := by
  obtain ⟨rfl, h0, h1, h2⟩ := h
  have e : BitVec.ofNat 32 f + BitVec.ofNat 32 w = BitVec.ofNat 32 (f + w) := by rw [BitVec.ofNat_add]
  unfold bitStep
  rw [e]
  by_cases hc : Ideal.ofBits .f32 (BitVec.ofNat 32 (f + w) <<< 23) ≤ (q : EReal)
  · refine ⟨f + w, ?_, by omega, .inr hc, ?_⟩
    · show Scalar.select (BitVec.ofBool (decide _)) _ _ = _
      rw [decide_eq_true hc]; rfl
    · rw [show f + w + w = f + 2 * w by omega]; exact h2
  · refine ⟨f, ?_, by omega, h1, .inr (not_le.mp hc)⟩
    show Scalar.select (BitVec.ofBool (decide _)) _ _ = _
    rw [decide_eq_false hc]; rfl

/-- The search whole. -/
def search (q : EReal) : BitVec 32 :=
  bitStep q (bitStep q (bitStep q (bitStep q (bitStep q (bitStep q (bitStep q (bitStep q 0#32 128#32) 64#32) 32#32) 16#32) 8#32) 4#32) 2#32) 1#32

/-- The search finds the exponent field. -/
theorem search_field (q : ℝ) (hq : 0 ≤ q) (hq' : q < 2 ^ 126) : ∃ f, search q = BitVec.ofNat 32 f ∧ IsField q f := by
  have i0 : Inv q 0#32 0 (2 * 128) := ⟨rfl, by omega, .inl rfl, .inl rfl⟩
  obtain ⟨_, i1⟩ := inv_step q _ _ 128 (by omega) i0
  obtain ⟨_, i2⟩ := inv_step q _ _ 64 (by omega) i1
  obtain ⟨_, i3⟩ := inv_step q _ _ 32 (by omega) i2
  obtain ⟨_, i4⟩ := inv_step q _ _ 16 (by omega) i3
  obtain ⟨_, i5⟩ := inv_step q _ _ 8 (by omega) i4
  obtain ⟨_, i6⟩ := inv_step q _ _ 4 (by omega) i5
  obtain ⟨_, i7⟩ := inv_step q _ _ 2 (by omega) i6
  obtain ⟨f, i8⟩ := inv_step q _ _ 1 (by omega) i7
  obtain ⟨e, h0, h1, h2⟩ := i8
  have hf : f ≤ 252 := by
    by_contra hc
    rcases h1 with h1 | h1
    · omega
    · by_cases h5 : f = 255
      · subst h5; rw [bits_top] at h1; simp at h1
      · rw [bits_shl f (by omega) (by omega), EReal.coe_le_coe_iff] at h1
        have : (2 : ℝ) ^ ((126 : ℕ) : ℤ) ≤ 2 ^ ((f : ℤ) - 127) := zpow_le_zpow_right₀ (by norm_num) (by omega)
        rw [zpow_natCast] at this
        linarith
  refine ⟨f, e, hf, ?_, ?_⟩
  · rcases h1 with h1 | h1
    · exact .inl h1
    · by_cases hz : f = 0
      · exact .inl hz
      · rw [bits_shl f (by omega) (by omega), EReal.coe_le_coe_iff] at h1; exact .inr h1
  · rcases h2 with h2 | h2
    · omega
    · rw [bits_shl (f + 1) (by omega) (by omega), EReal.coe_lt_coe_iff] at h2
      have : (((f + 1 : ℕ) : ℤ) - 127) = (f : ℤ) - 126 := by push_cast; omega
      rwa [this] at h2

/-- The shift of a field: none at `0`. -/
def shiftOf (F : BitVec 32) : BitVec 32 :=
  Scalar.select (IntOp.ori (IntOp.cmpi .eq F 0#32) (IntOp.cmpi .eq F 255#32)) 0#32 (F - 126#32)

/-- The words that the field is shifted into are the scale and its inverse. -/
theorem shift_field (f : ℕ) (hf : f ≤ 252) :
    Ideal.ofBits .f32 ((shiftOf (BitVec.ofNat 32 f) + 127#32) <<< 23) = ((sc f : ℝ) : EReal)
    ∧ Ideal.ofBits .f32 ((127#32 - shiftOf (BitVec.ofNat 32 f)) <<< 23) = (((sc f)⁻¹ : ℝ) : EReal) := by
  by_cases hz : f = 0
  · subst hz
    have : shiftOf (BitVec.ofNat 32 0) = 0#32 := by decide
    rw [this, sc, if_pos rfl]
    constructor
    · refine (bits_shl 127 (by omega) (by omega)).trans (by norm_num)
    · refine (bits_shl 127 (by omega) (by omega)).trans (by norm_num)
  · have h0 : BitVec.ofNat 32 f ≠ 0#32 := fun h => hz (by have := congrArg BitVec.toNat h; simp at this; omega)
    have h1 : BitVec.ofNat 32 f ≠ 255#32 := fun h => by have := congrArg BitVec.toNat h; simp at this; omega
    have e : shiftOf (BitVec.ofNat 32 f) = BitVec.ofNat 32 f - 126#32 := by
      have c0 : IntOp.cmpi .eq (BitVec.ofNat 32 f) 0#32 = 0#1 := by
        show BitVec.ofBool (BitVec.ofNat 32 f == 0#32) = _; rw [beq_eq_false_iff_ne.mpr h0]; rfl
      have c1 : IntOp.cmpi .eq (BitVec.ofNat 32 f) 255#32 = 0#1 := by
        show BitVec.ofBool (BitVec.ofNat 32 f == 255#32) = _; rw [beq_eq_false_iff_ne.mpr h1]; rfl
      unfold shiftOf; rw [c0, c1]; rfl
    rw [e, sc, if_neg hz]
    have e1 : BitVec.ofNat 32 f - 126#32 + 127#32 = BitVec.ofNat 32 (f + 1) := by
      apply BitVec.eq_of_toNat_eq; simp; omega
    have e2 : 127#32 - (BitVec.ofNat 32 f - 126#32) = BitVec.ofNat 32 (253 - f) := by
      apply BitVec.eq_of_toNat_eq; simp; omega
    rw [e1, e2]
    constructor
    · rw [bits_shl _ (by omega) (by omega)]; congr 2; push_cast; omega
    · rw [bits_shl _ (by omega) (by omega), ← zpow_neg]; congr 2; omega

/-- One over a scale. -/
theorem div_one_sc (f : ℕ) : Ideal.div 1 ((sc f : ℝ) : EReal) = (((sc f)⁻¹ : ℝ) : EReal) := by
  unfold Ideal.div
  rw [if_neg (by exact_mod_cast (sc_pos f).ne'), one_mul, EReal.coe_inv]

namespace Args
variable (a : Args)

/-- A token's scale, from its row's greatest magnitude. -/
def scl (n : Fin 9216) : EReal := scale ((top fun k => (a.g n k : EReal)) * Ideal.ofBits .f32 0x37924925#32)
/-- A code: the gradient over the scale, clipped. -/
def code (n : Fin 9216) (k : Fin 2304) : EReal :=
  min (Ideal.ofBits .f32 0x47600000#32) (max (Ideal.ofBits .f32 0xC7600000#32) ((a.g n k : EReal) * Ideal.div 1 (a.scl n)))

/-- A token's scale is that of the field which the search finds. -/
theorem scl_field (h : a.Moderate) (n : Fin 9216) :
    ∃ f, search ((top fun k => (a.g n k : EReal)) * Ideal.ofBits .f32 0x37924925#32) = BitVec.ofNat 32 f ∧ f ≤ 252 ∧ a.scl n = ((sc f : ℝ) : EReal) := by
  obtain ⟨r, hr, r0, r1⟩ := top_fin (by omega) (a.g n) (2 ^ 100) (a.abs_g h n)
  obtain ⟨c, hc, c0, c1⟩ := c_f32
  unfold scl
  rw [hr, hc, ← EReal.coe_mul]
  have hq : r * c < 2 ^ 126 := by
    have : r * c ≤ 2 ^ 100 * 1 := mul_le_mul r1 c1 c0 (by norm_num)
    refine lt_of_le_of_lt this (by norm_num)
  obtain ⟨f, e, hf⟩ := search_field (r * c) (mul_nonneg r0 c0) hq
  exact ⟨f, e, hf.1, scale_eq hf⟩

end Args

/-! ### The arguments as given -/

/-- A flattened token's sequence. -/
def tb (n : Fin 9216) : Fin 24 := ⟨n.val / 384, by omega⟩
/-- A token's position in its sequence. -/
def ts (n : Fin 9216) : Fin 384 := ⟨n.val % 384, by omega⟩

/-- A bounded number, read as a real number. -/
theorem toReal_of {x : EReal} {b : ℝ} (hx : ∃ r : ℝ, x = (r : EReal) ∧ |r| ≤ b) : x = (x.toReal : EReal) ∧ |x.toReal| ≤ b := by
  obtain ⟨r, rfl, hr⟩ := hx; exact ⟨rfl, hr⟩

section Given
variable (a0 : IVec ⟨3, ![24, 384, 2304]⟩ 8) (a1 : FVec Ideal ⟨2, ![24, 384]⟩ .f32) (a2 : IVec ⟨3, ![24, 384, 9216]⟩ 8)
  (a3 : FVec Ideal ⟨2, ![24, 384]⟩ .f32) (a4 : IVec ⟨2, ![2304, 9216]⟩ 8) (a5 : FVec Ideal ⟨1, ![9216]⟩ .f32)
  (a6 : FVec Ideal ⟨2, ![2304, 32]⟩ .bf16) (a7 : FVec Ideal ⟨2, ![32, 9216]⟩ .bf16)

/-- What the precondition says of the arguments. -/
structure Pre : Prop where
  c0 : ∀ i, (a0 i).toNat % 128 < 127
  c2 : ∀ i, (a2 i).toNat % 128 < 124
  c4 : ∀ i, (a4 i).toNat % 128 < 127
  b1 : ∀ i, max (a1 i) (-a1 i) ≤ Ideal.ofBits .f32 0x7F7FFFFF#32
  b3 : ∀ i, max (a3 i) (-a3 i) ≤ Ideal.ofBits .f32 0x49800000#32
  b5 : ∀ i, max (a5 i) (-a5 i) ≤ Ideal.ofBits .f32 0x49800000#32
  b6 : ∀ i, max (a6 i) (-a6 i) ≤ Ideal.ofBits .bf16 0x4980#16
  b7 : ∀ i, max (a7 i) (-a7 i) ≤ Ideal.ofBits .bf16 0x4980#16

/-- The arguments' numbers. -/
def args : Args where
  X n k := (Ideal.ofBits .fp8e4m3 (a0 (ix3 (tb n) (ts n) k))).toReal
  XS n := (a1 (ix2 (tb n) (ts n))).toReal
  DY n o := (Ideal.ofBits .fp8e5m2 (a2 (ix3 (tb n) (ts n) o))).toReal
  DS n := (a3 (ix2 (tb n) (ts n))).toReal
  W k o := (Ideal.ofBits .fp8e4m3 (a4 (ix2 k o))).toReal
  WS o := (a5 (ix1 o)).toReal
  A k r := (a6 (ix2 k r)).toReal
  B r o := (a7 (ix2 r o)).toReal

variable {a0 a1 a2 a3 a4 a5 a6 a7} (h : Pre a0 a1 a2 a3 a4 a5 a6 a7)
include h

/-- An argument's element is its number. -/
theorem X_eq (n k) : Ideal.ofBits .fp8e4m3 (a0 (ix3 (tb n) (ts n) k)) = ((args a0 a1 a2 a3 a4 a5 a6 a7).X n k : EReal) := (toReal_of (e4m3_fin _ (h.c0 _))).1
/-- An argument's element is its number. -/
theorem XS_eq (n) : a1 (ix2 (tb n) (ts n)) = ((args a0 a1 a2 a3 a4 a5 a6 a7).XS n : EReal) := (toReal_of (abs_fin bound_max (h.b1 _))).1
/-- An argument's element is its number. -/
theorem DY_eq (n o) : Ideal.ofBits .fp8e5m2 (a2 (ix3 (tb n) (ts n) o)) = ((args a0 a1 a2 a3 a4 a5 a6 a7).DY n o : EReal) := (toReal_of (e5m2_fin _ (h.c2 _))).1
/-- An argument's element is its number. -/
theorem DS_eq (n) : a3 (ix2 (tb n) (ts n)) = ((args a0 a1 a2 a3 a4 a5 a6 a7).DS n : EReal) := (toReal_of (abs_fin bound_f32 (h.b3 _))).1
/-- An argument's element is its number. -/
theorem W_eq (k o) : Ideal.ofBits .fp8e4m3 (a4 (ix2 k o)) = ((args a0 a1 a2 a3 a4 a5 a6 a7).W k o : EReal) := (toReal_of (e4m3_fin _ (h.c4 _))).1
/-- An argument's element is its number. -/
theorem WS_eq (o) : a5 (ix1 o) = ((args a0 a1 a2 a3 a4 a5 a6 a7).WS o : EReal) := (toReal_of (abs_fin bound_f32 (h.b5 _))).1
/-- An argument's element is its number. -/
theorem A_eq (k r) : a6 (ix2 k r) = ((args a0 a1 a2 a3 a4 a5 a6 a7).A k r : EReal) := (toReal_of (abs_fin bound_bf16 (h.b6 _))).1
/-- An argument's element is its number. -/
theorem B_eq (r o) : a7 (ix2 r o) = ((args a0 a1 a2 a3 a4 a5 a6 a7).B r o : EReal) := (toReal_of (abs_fin bound_bf16 (h.b7 _))).1

/-- Under the precondition the numbers are bounded. -/
theorem moderate : (args a0 a1 a2 a3 a4 a5 a6 a7).Moderate where
  DY n o := (toReal_of (e5m2_fin _ (h.c2 _))).2
  DS n := (toReal_of (abs_fin bound_f32 (h.b3 _))).2
  W k o := (toReal_of (e4m3_fin _ (h.c4 _))).2
  WS o := (toReal_of (abs_fin bound_f32 (h.b5 _))).2
  A k r := (toReal_of (abs_fin bound_bf16 (h.b6 _))).2
  B r o := (toReal_of (abs_fin bound_bf16 (h.b7 _))).2
end Given

end Cert.Spec

end
-- ==== Proof.PreFacts.lean ====
/- What the precondition says of each argument's numbers. -/
module

public import proofs.«01_k».proof.Pre_moderate
public import proofs.«01_k».proof.Proof.Spec
public import Idealize.ShloMosaic.Lib.Pointwise
public import Idealize.ShloMosaic.Lib.ReduceAll

@[expose] public section

set_option maxRecDepth 16384

noncomputable section

namespace Cert.PreFacts

open Cert.Pre_moderate
open Idealize.ShloMosaic

/-- Two bits whose conjunction is one are both one. -/
theorem and_one {a b : BitVec 1} (h : IntOp.andi a b = 1#1) : a = 1#1 ∧ b = 1#1 := by
  revert a b; decide

/-- A byte whose low seven bits, read as a word, lie below `k`. -/
theorem code_lt (x : BitVec 8) (k : ℕ) (hk : k < 2 ^ 31)
    (h : IntOp.cmpi .slt (IntOp.andi (x.setWidth 32) 127#32) (BitVec.ofNat 32 k) = 1#1) : x.toNat % 128 < k := by
  have e : (x.setWidth 32 &&& 127#32).toNat = x.toNat % 128 := by
    rw [BitVec.toNat_and, BitVec.toNat_setWidth]
    have : x.toNat < 256 := x.isLt
    rw [Nat.mod_eq_of_lt (by omega)]
    exact Nat.and_two_pow_sub_one_eq_mod x.toNat 7
  have l : x.toNat % 128 < 128 := Nat.mod_lt _ (by norm_num)
  have e2 : (BitVec.ofNat 32 k).toNat = k := by rw [BitVec.toNat_ofNat]; exact Nat.mod_eq_of_lt (by omega)
  change IntOp.cmpi .slt (x.setWidth 32 &&& 127#32) _ = _ at h
  rw [IntOp.cmpi_slt, BitVec.toInt_eq_toNat_of_lt (by rw [e]; omega), BitVec.toInt_eq_toNat_of_lt (by rw [e2]; omega), e, e2] at h
  exact_mod_cast h

/-- A comparison that is one, read back. -/
theorem le_of {φ : FTy} {x y : Ideal φ} (h : FloatOps.cmpf .ole x y = 1#1) : (x : EReal) ≤ y := by
  change BitVec.ofBool (decide ((x : EReal) ≤ y)) = 1#1 at h
  by_contra c
  rw [decide_eq_false c] at h
  exact absurd h (by decide)

instance : Subsingleton S_.Idx := ⟨fun a b => funext fun k => k.elim0⟩

/-- The printed precondition, holding, says of every element what `Spec.Pre` states. -/
theorem pre [Facts] (a0 : IVec S24x384x2304 8) (a1 : FVec Ideal S24x384 .f32) (a2 : IVec S24x384x9216 8) (a3 : FVec Ideal S24x384 .f32)
    (a4 : IVec S2304x9216 8) (a5 : FVec Ideal S9216 .f32) (a6 : FVec Ideal S2304x32 .bf16) (a7 : FVec Ideal S32x9216 .bf16)
    (h : fn (F := Ideal) a0 a1 a2 a3 a4 a5 a6 a7 = fun _ => 1#1) : Spec.Pre a0 a1 a2 a3 a4 a5 a6 a7 := by
  have z := congrFun h (fun k => k.elim0)
  unfold fn at z; dsimp only at z
  unfold fn_part1 at z; dsimp only at z
  unfold fn_part2 at z; dsimp only at z
  obtain ⟨z, e7⟩ := and_one z
  obtain ⟨z, e6⟩ := and_one z
  obtain ⟨z, e5⟩ := and_one z
  obtain ⟨z, e3⟩ := and_one z
  obtain ⟨z, e1⟩ := and_one z
  obtain ⟨z, e4⟩ := and_one z
  obtain ⟨e0, e2⟩ := and_one z
  exact {
    c0 := fun i => code_lt _ 127 (by norm_num) (Host.reduce_andi_all _ _ _ _ _ e0 i)
    c2 := fun i => code_lt _ 124 (by norm_num) (Host.reduce_andi_all _ _ _ _ _ e2 i)
    c4 := fun i => code_lt _ 127 (by norm_num) (Host.reduce_andi_all _ _ _ _ _ e4 i)
    b1 := fun i => le_of (Host.reduce_andi_all _ _ _ _ _ e1 i)
    b3 := fun i => le_of (Host.reduce_andi_all _ _ _ _ _ e3 i)
    b5 := fun i => le_of (Host.reduce_andi_all _ _ _ _ _ e5 i)
    b6 := fun i => le_of (Host.reduce_andi_all _ _ _ _ _ e6 i)
    b7 := fun i => le_of (Host.reduce_andi_all _ _ _ _ _ e7 i) }

end Cert.PreFacts
end
-- ==== Proof.KernelIdeal.Pay.lean ====
module

public import proofs.«01_k».proof.Proof.KernelIdeal.Values
public import Idealize.ShloMosaic.Lib.Pointwise
public import proofs.«01_k».proof.Proof.Spec

@[expose] public section

set_option maxRecDepth 16384

noncomputable section

namespace Cert.KernelIdeal.Hand

open Cert.KernelIdeal Cert.KernelIdeal.Gen
open Cert
open Idealize.ShloMosaic Idealize.ShloMosaic.TcCoe Idealize.SL.Sem

/-! ### What one grid point computes, read at an index. -/

section Pay
variable (x0 : FVec Ideal S256x2304 .fp8e4m3) (x1 : FVec Ideal S1x1x256 .f32) (x2 : FVec Ideal S256x9216 .fp8e5m2) (x3 : FVec Ideal S1x1x256 .f32)
  (x5 : FVec Ideal S2304x96 .bf16) (x6 : FVec Ideal S32x2304 .bf16) (x7 : FVec Ideal S32x9216 .bf16) (w : FVec Ideal S2304x9216 .bf16)

/-- The output gradient through the second factor, elementwise. -/
theorem TT_at (p : Fin 256) (r : Fin 32) : TT (F := Ideal) x2 x3 x7 (ix2 p r) = (∑ o : Fin 9216, x7 (ix2 r o) * x2 (ix2 p o)) * x3 (ix3 0 0 p) := by
  pointwise [k0_pay8, k0_pay7, k0_pay6, k0_pay5]
/-- A stored value of the kernel, elementwise. -/
theorem pay6_at (p : Fin 256) (r : Fin 32) : k0_pay6 (F := Ideal) x7 x2 (ix2 r p) = ∑ o : Fin 9216, x7 (ix2 r o) * x2 (ix2 p o) := by
  pointwise [k0_pay6]
/-- A stored value of the kernel, elementwise. -/
theorem pay14_at (v : FVec Ideal S32x256 .f32) (p : Fin 256) (r : Fin 32) : k0_pay14 (F := Ideal) v (ix2 r p) = Ideal.ofBits .f32 0x40000000#32 * v (ix2 r p) := by
  pointwise [k0_pay14]
/-- A stored value of the kernel, elementwise. -/
theorem pay15_at (v : FVec Ideal S32x256 .f32) (p : Fin 256) (r : Fin 32) : k0_pay15 (F := Ideal) v (ix2 r p) = Ideal.ofBits .f32 0x40000000#32 * v (ix2 r p) := by
  pointwise [k0_pay15, k0_pay14]
/-- A stored value of the kernel, elementwise. -/
theorem pay5_at (p : Fin 256) : k0_pay5 (F := Ideal) x3 (ix2 0 p) = x3 (ix3 0 0 p) := by
  pointwise [k0_pay5]
/-- The input through the first factor, elementwise. -/
theorem XX_at (p : Fin 256) (r : Fin 32) : XX (F := Ideal) x0 x1 x6 (ix2 p r) = (∑ k : Fin 2304, x6 (ix2 r k) * x0 (ix2 p k)) * x1 (ix3 0 0 p) := by
  pointwise [k0_pay10, k0_pay9, k0_pay4]

/-- What the first factor of the first gradient is, where it is finite. -/
theorem DAT_at (a : FVec Ideal S32x2304 .f32) (r : Fin 32) (k : Fin 2304)
    (hf : ∀ p : Fin 256, ∃ u : ℝ, x1 (ix3 0 0 p) * ((∑ o : Fin 9216, x7 (ix2 r o) * x2 (ix2 p o)) * x3 (ix3 0 0 p)) = u) :
    DAT (F := Ideal) x0 x1 x2 x3 x7 a (ix2 r k) = a (ix2 r k) + Ideal.ofBits .f32 0x40000000#32 *
      ∑ p : Fin 256, x1 (ix3 0 0 p) * ((∑ o : Fin 9216, x7 (ix2 r o) * x2 (ix2 p o)) * x3 (ix3 0 0 p)) * x0 (ix2 p k) := by
  pointwise [k0_pay12, k0_pay11, k0_pay7, k0_pay6, k0_pay5, k0_pay4]
  have h1 : ¬64 + r.val < 32 := by omega
  have h2 : ¬64 + r.val - 32 < 32 := by omega
  have h3 : (⟨64 + r.val - 32 - 32, by omega⟩ : Fin 32) = r := Fin.ext (by show 64 + r.val - 32 - 32 = r.val; omega)
  simp only [dif_neg h1, dif_neg h2, h3, fun p => Spec.sub_self_fin (hf p), sub_zero, zero_mul, Finset.sum_const_zero, add_zero]
/-- What a tile adds to the second factor's gradient, elementwise. -/
theorem DBT_at (a : FVec Ideal S32x9216 .f32) (r : Fin 32) (k : Fin 9216)
    (hf : ∀ p : Fin 256, ∃ u : ℝ, (∑ l : Fin 2304, x6 (ix2 r l) * x0 (ix2 p l)) * x1 (ix3 0 0 p) * x3 (ix3 0 0 p) = u) :
    DBT (F := Ideal) x0 x1 x2 x3 x6 a (ix2 r k) = a (ix2 r k) + Ideal.ofBits .f32 0x40000000#32 *
      ∑ p : Fin 256, (∑ l : Fin 2304, x6 (ix2 r l) * x0 (ix2 p l)) * x1 (ix3 0 0 p) * x3 (ix3 0 0 p) * x2 (ix2 p k) := by
  pointwise [k0_pay13, k0_pay9, k0_pay5, k0_pay4]
  have h1 : ¬64 + r.val < 32 := by omega
  have h2 : ¬64 + r.val - 32 < 32 := by omega
  have h3 : (⟨64 + r.val - 32 - 32, by omega⟩ : Fin 32) = r := Fin.ext (by show 64 + r.val - 32 - 32 = r.val; omega)
  simp only [dif_neg h1, dif_neg h2, h3, fun p => Spec.sub_self_fin (hf p), sub_zero, zero_mul, Finset.sum_const_zero, add_zero]

section Rows
variable (v6 : FVec Ideal S1x256 .f32) (v73 : FVec Ideal S32x256 .f32) (v74 : FVec Ideal S32x256 .bf16) (v385 : FVec Ideal S768x9216 .bf16)
   (v386 : FVec Ideal S256x9216 .fp8e5m2) (v387 : FVec Ideal S768x96 .bf16)

/-- A stored value of the kernel, elementwise. -/
theorem pay17_at (k : Fin 768) (p : Fin 256) (h74 : ∀ r : Fin 32, v73 (ix2 r p) = v74 (ix2 r p)) (hf : ∀ r : Fin 32, ∃ u : ℝ, v74 (ix2 r p) = u) :
   k0_pay17 (F := Ideal) v6 v73 v74 v385 v386 v387 (ix2 k p)
     = (∑ o : Fin 9216, v385 (ix2 k o) * v386 (ix2 p o) + ∑ r : Fin 32, v387 (ix2 k (Fin.castAdd 64 r : Fin 96)) * v74 (ix2 r p)) * v6 (ix2 0 p) := by
  pointwise [k0_pay17]
  refine congrArg (fun y : EReal => (_ + y) * _) ?_
  have hs : ∀ r : Fin 32, v73 (ix2 r p) - v74 (ix2 r p) = 0 := fun r => by rw [h74]; exact Spec.sub_self_fin (hf r)
  simp only [hs, sub_zero]
  refine (Fin.sum_univ_add (a := 32) (b := 64) _).trans ?_
  refine (congrArg₂ (· + ·) (Finset.sum_congr rfl fun r _ => ?_) (Finset.sum_eq_zero fun r _ => ?_)).trans (add_zero _)
  · have : ((Fin.castAdd 64 r : Fin 96) : ℕ) < 32 := r.isLt
    rw [dif_pos this]; rfl
  · have : ¬((Fin.natAdd 32 r : Fin 96) : ℕ) < 32 := by show ¬(32 + r.val < 32); omega
    rw [dif_neg this]; split <;> exact mul_zero _
/-- A stored value of the kernel, elementwise. -/
theorem pay18_at (y : S768x256.Idx) : k0_pay18 (F := Ideal) v6 v73 v74 v385 v386 v387 y = k0_pay17 (F := Ideal) v6 v73 v74 v385 v386 v387 y := by
  pointwise [k0_pay18]
/-- A stored value of the kernel, elementwise. -/
theorem pay19_at (mx : FVec Ideal S1x256 .f32) (p : Fin 256) :
   k0_pay19 (F := Ideal) v6 v73 v74 mx v385 v386 v387 (ix2 0 p) = max (mx (ix2 0 p)) (Spec.top fun k : Fin 768 => k0_pay17 (F := Ideal) v6 v73 v74 v385 v386 v387 (ix2 k p)) := by
  pointwise [k0_pay19]
  rw [Spec.bot_f32]; rfl
end Rows

/-- A stored value of the kernel, elementwise. -/
theorem pay1_at (x : FVec Ideal S1x128x9216 .fp8e4m3) (y : FVec Ideal S1x9216 .f32) (k : Fin 128) (p : Fin 9216) :
   k0_pay1 (F := Ideal) x y (ix2 k p) = x (ix3 0 k p) * y (ix2 0 p) := by
  pointwise [k0_pay1]

/-- A shift by 23. -/
theorem shl23 (x : BitVec 32) : IntOp.shli .vector x 23#32 = x <<< 23 := rfl
/-- One step of the search for the exponent field, on every lane. -/
def bitV (q : FVec Ideal S1x256 .f32) (G : IVec S1x256 32) (b : BitVec 32) : IVec S1x256 32 :=
  select (cmpf (F := Ideal) (φ := .f32) .oge q (bitcastToFloat .f32 (shli (addi G (broadcast S1x256 b)) (broadcast S1x256 23#32)))) (addi G (broadcast S1x256 b)) G
/-- One bit's step of the search at a token. -/
theorem bitV_at (q : FVec Ideal S1x256 .f32) (G : IVec S1x256 32) (b : BitVec 32) (j : S1x256.Idx) : bitV q G b j = Spec.bitStep (q j) (G j) b := by
  show Scalar.select (FloatOps.cmpf (F := Ideal) (φ := .f32) .oge (q j) (Ideal.ofBits .f32 (IntOp.shli .vector (G j + b) 23#32))) (G j + b) (G j) = _
  rw [shl23]; rfl
/-- A stored value of the kernel, by its parts. -/
theorem pay21_eq (mx : FVec Ideal S1x256 .f32) :
    k0_pay21 (F := Ideal) mx = bitV (k0_pay20 (F := Ideal) mx) (bitV (k0_pay20 (F := Ideal) mx) (bitV (k0_pay20 (F := Ideal) mx) (broadcast S1x256 0#32) 128#32) 64#32) 32#32 := rfl
/-- A stored value of the kernel, by its parts. -/
theorem pay22_eq (mx : FVec Ideal S1x256 .f32) : k0_pay22 (F := Ideal) mx = addi (k0_pay21 (F := Ideal) mx) (broadcast S1x256 16#32) := rfl
/-- A stored value of the kernel, by its parts. -/
theorem pay23_eq (q : FVec Ideal S1x256 .f32) (G : IVec S1x256 32) :
    k0_pay23 (F := Ideal) q G (addi G (broadcast S1x256 16#32)) 23#32 = bitV q (bitV q (bitV q (bitV q (bitV q G 16#32) 8#32) 4#32) 2#32) 1#32 := rfl
/-- A stored value of the kernel, elementwise. -/
theorem pay20_at (mx : FVec Ideal S1x256 .f32) (j : S1x256.Idx) : k0_pay20 (F := Ideal) mx j = mx j * Ideal.ofBits .f32 0x37924925#32 := by
  pointwise [k0_pay20]
/-- The field that the search finds at a token. -/
theorem EXPO_at (mx : FVec Ideal S1x256 .f32) (p : Fin 256) :
    EXPO (F := Ideal) mx (ix2 0 p) = Spec.search (mx (ix2 0 p) * Ideal.ofBits .f32 0x37924925#32) := by
  unfold EXPO
  rw [pay22_eq, pay23_eq, pay21_eq]
  simp only [bitV_at, pay20_at]
  rfl
/-- The exponent at a token. -/
theorem EZ_at (mx : FVec Ideal S1x256 .f32) (p : Fin 256) :
    EZ (F := Ideal) mx (ix2 0 p) = IntOp.cmpi .eq (EXPO (F := Ideal) mx (ix2 0 p)) 0#32 := rfl
/-- The scale at a token. -/
theorem SCL_at (mx : FVec Ideal S1x256 .f32) (p : Fin 256) :
    SCL (F := Ideal) mx (ix3 0 0 p) = Ideal.ofBits .f32 ((Spec.shiftOf (EXPO (F := Ideal) mx (ix2 0 p)) + 127#32) <<< 23) := by
  unfold SCL
  pointwise [k0_pay26, k0_pay25, EZ_at]
  rfl
/-- The scale's inverse at a token. -/
theorem INV_at (mx : FVec Ideal S1x256 .f32) (p : Fin 256) (j : Fin 128) :
    INV (F := Ideal) mx (ix2 p j) = Ideal.ofBits .f32 ((127#32 - Spec.shiftOf (EXPO (F := Ideal) mx (ix2 0 p))) <<< 23) := by
  unfold INV
  pointwise [k0_pay27, k0_pay25, EZ_at]
  rfl
/-- A stored value of the kernel, elementwise. -/
theorem pay29_at (v : FVec Ideal S128x256 .f32) (p : Fin 256) (j : Fin 128) : k0_pay29 (F := Ideal) v (ix2 p j) = v (ix2 j p) := by
  pointwise [k0_pay29, k0_pay28]
/-- A stored value of the kernel, elementwise. -/
theorem pay36_at (iv : FVec Ideal S256x128 .f32) (v : FVec Ideal S128x256 .f32) (p : Fin 256) (j : Fin 128) :
    k0_pay36 (F := Ideal) iv v (ix2 p j) = min (Ideal.ofBits .f32 0x47600000#32) (max (Ideal.ofBits .f32 0xC7600000#32) (v (ix2 j p) * iv (ix2 p j))) := by
  pointwise [k0_pay36, k0_pay34]
end Pay
end Cert.KernelIdeal.Hand
end
-- ==== Proof.KernelIdeal.Vals.lean ====
module

public import proofs.«01_k».proof.Proof.KernelIdeal.Pay
public import Idealize.ShloMosaic.Lib.Pointwise
public import proofs.«01_k».proof.Proof.Spec

@[expose] public section

set_option maxRecDepth 16384

noncomputable section

namespace Cert.KernelIdeal.Hand

open Cert.KernelIdeal Cert.KernelIdeal.Gen
open Cert
open Idealize.ShloMosaic Idealize.ShloMosaic.TcCoe Idealize.SL.Sem

/-! ### What one grid point computes from finite blocks: the results of its tokens. -/

section Vals
variable {x0 : FVec Ideal S256x2304 .fp8e4m3} {x1 : FVec Ideal S1x1x256 .f32} {x2 : FVec Ideal S256x9216 .fp8e5m2} {x3 : FVec Ideal S1x1x256 .f32}
  {x5 : FVec Ideal S2304x96 .bf16} {x6 : FVec Ideal S32x2304 .bf16} {x7 : FVec Ideal S32x9216 .bf16} {w : FVec Ideal S2304x9216 .bf16}
variable {a : Spec.Args} {n : Fin 256 → Fin 9216}

/-- A tile's output gradient through the second factor. -/
theorem TT_val (h2 : ∀ p o, x2 (ix2 p o) = (a.DY (n p) o : EReal)) (h3 : ∀ p, x3 (ix3 0 0 p) = (a.DS (n p) : EReal)) (h7 : ∀ r o, x7 (ix2 r o) = (a.B r o : EReal))
    (p : Fin 256) (r : Fin 32) : TT (F := Ideal) x2 x3 x7 (ix2 p r) = (a.t (n p) r : EReal) := by
  rw [TT_at]
  simp only [h2, h3, h7, ← EReal.coe_mul, Spec.coe_sum]
  simp only [Spec.Args.t, mul_comm]
/-- A tile's input through the first factor. -/
theorem XX_val (h0 : ∀ p k, x0 (ix2 p k) = (a.X (n p) k : EReal)) (h1 : ∀ p, x1 (ix3 0 0 p) = (a.XS (n p) : EReal)) (h6 : ∀ r k, x6 (ix2 r k) = (a.A k r : EReal))
    (p : Fin 256) (r : Fin 32) : XX (F := Ideal) x0 x1 x6 (ix2 p r) = (a.xa (n p) r : EReal) := by
  rw [XX_at]
  simp only [h0, h1, h6, ← EReal.coe_mul, Spec.coe_sum]
  simp only [Spec.Args.xa, mul_comm]
/-- What a tile adds to the first factor's gradient. -/
theorem DAT_val (h0 : ∀ p k, x0 (ix2 p k) = (a.X (n p) k : EReal)) (h1 : ∀ p, x1 (ix3 0 0 p) = (a.XS (n p) : EReal))
    (h2 : ∀ p o, x2 (ix2 p o) = (a.DY (n p) o : EReal)) (h3 : ∀ p, x3 (ix3 0 0 p) = (a.DS (n p) : EReal)) (h7 : ∀ r o, x7 (ix2 r o) = (a.B r o : EReal))
    (v : FVec Ideal S32x2304 .f32) (r : Fin 32) (k : Fin 2304) :
    DAT (F := Ideal) x0 x1 x2 x3 x7 v (ix2 r k) = v (ix2 r k) + ((∑ p, 2 * (a.X (n p) k * (a.XS (n p) * a.t (n p) r)) : ℝ) : EReal) := by
  rw [DAT_at]
  · simp only [h0, h1, h2, h3, h7, Spec.two_f32, ← EReal.coe_mul, Spec.coe_sum]
    rw [Finset.mul_sum]
    simp only [Spec.Args.t, mul_comm, mul_left_comm, mul_assoc]
  · intro p; simp only [h1, h2, h3, h7, ← EReal.coe_mul, Spec.coe_sum]; exact ⟨_, rfl⟩
/-- What a tile adds to the second factor's gradient. -/
theorem DBT_val (h0 : ∀ p k, x0 (ix2 p k) = (a.X (n p) k : EReal)) (h1 : ∀ p, x1 (ix3 0 0 p) = (a.XS (n p) : EReal))
    (h2 : ∀ p o, x2 (ix2 p o) = (a.DY (n p) o : EReal)) (h3 : ∀ p, x3 (ix3 0 0 p) = (a.DS (n p) : EReal)) (h6 : ∀ r k, x6 (ix2 r k) = (a.A k r : EReal))
    (v : FVec Ideal S32x9216 .f32) (r : Fin 32) (o : Fin 9216) :
    DBT (F := Ideal) x0 x1 x2 x3 x6 v (ix2 r o) = v (ix2 r o) + ((∑ p, 2 * ((a.xa (n p) r * a.DS (n p)) * a.DY (n p) o) : ℝ) : EReal) := by
  rw [DBT_at]
  · simp only [h0, h1, h2, h3, h6, Spec.two_f32, ← EReal.coe_mul, Spec.coe_sum]
    rw [Finset.mul_sum]
    simp only [Spec.Args.xa, mul_comm, mul_left_comm, mul_assoc]
  · intro p; simp only [h0, h1, h3, h6, ← EReal.coe_mul, Spec.coe_sum]; exact ⟨_, rfl⟩

section G
variable (h2 : ∀ p o, x2 (ix2 p o) = (a.DY (n p) o : EReal)) (h3 : ∀ p, x3 (ix3 0 0 p) = (a.DS (n p) : EReal))
  (h5 : ∀ k (r : Fin 32), x5 (ix2 k (Fin.castAdd 64 r : Fin 96)) = (a.A k r : EReal)) (h7 : ∀ r o, x7 (ix2 r o) = (a.B r o : EReal))
  (hw : ∀ k o, w (ix2 k o) = ((a.W k o * a.WS o : ℝ) : EReal))
include h2 h3 h5 h7 hw

/-- One group of rows of a tile's input gradient. -/
theorem row_val (q : ℕ) (hq : q < 3) (i : Fin 768) (p : Fin 256) :
    k0_pay17 (F := Ideal) (k0_pay5 x3) (k0_pay14 (k0_pay6 x7 x2)) (k0_pay15 (k0_pay6 x7 x2)) (rowsW w q) x2 (rowsA x5 q) (ix2 i p)
      = (a.g (n p) ⟨768 * q + i.val, by omega⟩ : EReal) := by
  have e : (⟨(768 * q + i.val) % 2304, Nat.mod_lt _ (by decide)⟩ : Fin 2304) = ⟨768 * q + i.val, by omega⟩ := Fin.ext (Nat.mod_eq_of_lt (by omega))
  have eW : ∀ o, rowsW (F := Ideal) w q (ix2 i o) = w (ix2 ⟨768 * q + i.val, by omega⟩ o) := fun o => congrArg (fun z => w (ix2 z o)) e
  have eA : ∀ j, rowsA (F := Ideal) x5 q (ix2 i j) = x5 (ix2 ⟨768 * q + i.val, by omega⟩ j) := fun j => congrArg (fun z => x5 (ix2 z j)) e
  have e15 : ∀ r : Fin 32, k0_pay15 (F := Ideal) (k0_pay6 x7 x2) (ix2 r p) = ((2 * ∑ o, a.B r o * a.DY (n p) o : ℝ) : EReal) := fun r => by
    rw [pay15_at, pay6_at]; simp only [h2, h7, Spec.two_f32, ← EReal.coe_mul, Spec.coe_sum]
  rw [pay17_at]
  · simp only [eW, eA, e15, pay5_at, h2, h3, h5, hw, ← EReal.coe_mul, Spec.coe_sum, ← EReal.coe_add]
    refine congrArg (fun r : ℝ => (r : EReal)) ?_
    unfold Spec.Args.g Spec.Args.t
    rw [add_mul]
    refine congrArg₂ (· + ·) ?_ ?_
    · simp only [mul_comm, mul_left_comm, mul_assoc]
    · rw [Finset.sum_mul, Finset.mul_sum]
      exact Finset.sum_congr rfl fun r _ => by simp only [mul_comm, mul_left_comm, mul_assoc]
  · intro r; rw [pay14_at, pay15_at]
  · intro r; exact ⟨_, e15 r⟩

/-- A tile's input gradient, before the transposition. -/
theorem DD_val (k : Fin 2304) (p : Fin 256) : DD (F := Ideal) x2 x3 x5 x7 w (ix2 k p) = (a.g (n p) k : EReal) := by
  show k0_pay18 (F := Ideal) _ _ _ (rowsW w (k.val / 768)) x2 (rowsA x5 (k.val / 768)) (ix2 ⟨k.val % 768, Nat.mod_lt _ (by decide)⟩ p) = _
  rw [pay18_at, row_val h2 h3 h5 h7 hw _ (by omega)]
  exact congrArg (fun z => (a.g (n p) z : EReal)) (Fin.ext (Nat.div_add_mod _ _))

/-- A tile's row maxima. -/
theorem MX_val (p : Fin 256) : MX (F := Ideal) x2 x3 x5 x7 w (ix2 0 p) = Spec.top fun k => (a.g (n p) k : EReal) := by
  show AMAX (F := Ideal) _ _ _ w x2 x5 k0_pay16 3 (ix2 0 p) = _
  simp only [AMAX, pay19_at, row_val h2 h3 h5 h7 hw 0 (by omega), row_val h2 h3 h5 h7 hw 1 (by omega), row_val h2 h3 h5 h7 hw 2 (by omega)]
  have z : k0_pay16 (F := Ideal) (ix2 0 p) = 0 := by pointwise [k0_pay16]
  rw [z]
  apply le_antisymm
  · refine max_le (max_le (max_le ?_ ?_) ?_) ?_
    · exact le_trans (Spec.abs_coe_nonneg _) (Spec.le_top (fun k => (a.g (n p) k : EReal)) ⟨0, by omega⟩)
    · exact (Spec.top_le _ _).mpr fun k => Spec.le_top (fun k => (a.g (n p) k : EReal)) _
    · exact (Spec.top_le _ _).mpr fun k => Spec.le_top (fun k => (a.g (n p) k : EReal)) _
    · exact (Spec.top_le _ _).mpr fun k => Spec.le_top (fun k => (a.g (n p) k : EReal)) _
  · refine (Spec.top_le _ _).mpr fun k => ?_
    have key : ∀ q (hq : q < 3), k.val / 768 = q → max (a.g (n p) k : EReal) (-(a.g (n p) k : EReal))
        ≤ Spec.top (fun i : Fin 768 => (a.g (n p) ⟨768 * q + i.val, by omega⟩ : EReal)) := by
      intro q hq e
      have := Spec.le_top (fun i : Fin 768 => (a.g (n p) ⟨768 * q + i.val, by omega⟩ : EReal)) ⟨k.val % 768, Nat.mod_lt _ (by decide)⟩
      have ek : (⟨768 * q + k.val % 768, by omega⟩ : Fin 2304) = k := Fin.ext (by show 768 * q + k.val % 768 = k.val; omega)
      simp only [ek] at this
      exact this
    rcases (show k.val / 768 = 0 ∨ k.val / 768 = 1 ∨ k.val / 768 = 2 by omega) with h | h | h
    · exact le_max_of_le_left (le_max_of_le_left (le_max_of_le_right (key 0 (by omega) h)))
    · exact le_max_of_le_left (le_max_of_le_right (key 1 (by omega) h))
    · exact le_max_of_le_right (key 2 (by omega) h)

/-- A tile's scales. -/
theorem SCL_val (hm : a.Moderate) (p : Fin 256) :
    SCL (F := Ideal) (MX (F := Ideal) x2 x3 x5 x7 w) (ix3 0 0 p) = a.scl (n p)
    ∧ ∀ j : Fin 128, INV (F := Ideal) (MX (F := Ideal) x2 x3 x5 x7 w) (ix2 p j) = Ideal.div 1 (a.scl (n p)) := by
  obtain ⟨f, e1, e2, e3⟩ := a.scl_field hm (n p)
  have e : EXPO (F := Ideal) (MX (F := Ideal) x2 x3 x5 x7 w) (ix2 0 p) = BitVec.ofNat 32 f := by
    rw [EXPO_at, MX_val h2 h3 h5 h7 hw]; exact e1
  have hs := Spec.shift_field f e2
  refine ⟨?_, fun j => ?_⟩
  · rw [SCL_at, e, hs.1, e3]
  · rw [INV_at, e, hs.2, e3, Spec.div_one_sc]

/-- A tile's codes. -/
theorem COD_val (hm : a.Moderate) (p : Fin 256) (k : Fin 2304) :
    COD (F := Ideal) (INV (F := Ideal) (MX (F := Ideal) x2 x3 x5 x7 w)) (DD (F := Ideal) x2 x3 x5 x7 w) (ix2 p k) = a.code (n p) k := by
  show k0_pay36 (F := Ideal) _ (rowsD (DD (F := Ideal) x2 x3 x5 x7 w) (k.val / 128)) (ix2 p ⟨k.val % 128, Nat.mod_lt _ (by decide)⟩) = _
  rw [pay36_at, (SCL_val h2 h3 h5 h7 hw hm p).2]
  have e : rowsD (F := Ideal) (DD (F := Ideal) x2 x3 x5 x7 w) (k.val / 128) (ix2 ⟨k.val % 128, Nat.mod_lt _ (by decide)⟩ p) = (a.g (n p) k : EReal) := by
    rw [← DD_val h2 h3 h5 h7 hw]
    exact congrArg (fun z => DD (F := Ideal) x2 x3 x5 x7 w (ix2 z p)) (Fin.ext (by show (128 * (k.val / 128) + k.val % 128) % 2304 = k.val; omega))
  rw [e]; rfl
/-- A tile's input gradient as stored. -/
theorem DXO_val (p : Fin 256) (k : Fin 2304) : DXO (F := Ideal) (DD (F := Ideal) x2 x3 x5 x7 w) (ix2 p k) = (a.g (n p) k : EReal) := by
  show k0_pay29 (F := Ideal) (rowsD (DD (F := Ideal) x2 x3 x5 x7 w) (k.val / 128)) (ix2 p ⟨k.val % 128, Nat.mod_lt _ (by decide)⟩) = _
  rw [pay29_at, ← DD_val h2 h3 h5 h7 hw]
  exact congrArg (fun z => DD (F := Ideal) x2 x3 x5 x7 w (ix2 z p)) (Fin.ext (by show (128 * (k.val / 128) + k.val % 128) % 2304 = k.val; omega))
end G
end Vals
end Cert.KernelIdeal.Hand
end
-- ==== Proof.KernelIdeal.Entry.lean ====
module

public import proofs.«01_k».proof.Proof.KernelIdeal.Frame
public import proofs.«01_k».proof.Proof.KernelIdeal.Vals
public import Idealize.ShloMosaic.Lib.Pipeline.ValueKit
public import Idealize.ShloMosaic.Lib.Pointwise
public import proofs.«01_k».proof.Proof.Spec

@[expose] public section

set_option maxRecDepth 16384

noncomputable section

namespace Cert.KernelIdeal.Hand

open Cert.KernelIdeal Cert.KernelIdeal.Gen
open Cert
open Idealize.ShloMosaic Idealize.ShloMosaic.TcCoe Idealize.SL.Sem
open Idealize.ShloMosaic.Pipeline (Dat)

variable (m : (ℓ : Loc nD τ sig) → Buf (Elt Ideal) ℓ)

/-- The arguments' numbers on a device. -/
abbrev AR (c : Dev nD) : Spec.Args := Spec.args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7))
/-- The precondition on a device's arguments. -/
abbrev PR (c : Dev nD) : Prop := Spec.Pre (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7))

/-- The blocks that a grid point stages. -/
theorem idx : ∀ t : Fin cfg0.N, win0_0.index t = ![t.val, 0] ∧ win0_1.index t = ![t.val, 0, 0] ∧ win0_2.index t = ![t.val, 0] ∧ win0_3.index t = ![t.val, 0, 0]
    ∧ win0_4.index t = ![0, 0] ∧ win0_5.index t = ![0, 0] ∧ win0_6.index t = ![0, 0] ∧ win0_7.index t = ![0, 0] ∧ win0_8.index t = ![t.val, 0]
    ∧ win0_9.index t = ![0, 0] ∧ win0_10.index t = ![0, 0] ∧ win0_11.index t = ![t.val, 0] ∧ win0_12.index t = ![t.val, 0] ∧ win0_13.index t = ![t.val, 0]
    ∧ win0_14.index t = ![t.val, 0, 0] :=
  (by decide +kernel : ∀ t : Fin grid0.N, _)

/-- Token `p` of point `t`. -/
def tok (t : Fin cfg0.N) (p : Fin 256) : Fin 9216 := ⟨256 * t.val + p.val, by have : t.val < 36 := t.isLt; omega⟩

/-- A buffer at the region's entry: the host lines run on the launch contents. -/
theorem V_after (c : Dev nD) (b : Ref sig .tc) : V m c b = StableHlo.after hostOps0 (fun b => m (c, b)) (Proc.devRef .tc b) := by
  show StableHlo.after (hostOps0 ++ []) _ _ = _
  rw [List.append_nil]

section Entry
variable (c : Dev nD) (h : PR m c)
include h

/-- The region's entry: the weight codes, as numbers. -/
theorem V2_at (k : Fin 2304) (o : Fin 9216) : V m c main_v2 (ix2 k o) = ((AR m c).W k o : EReal) := by
  rw [← Spec.W_eq h, V_after]; unfold_abbrev_sides
  after_results
  pointwise
/-- The region's entry: the input codes, as numbers. -/
theorem V3_at (n : Fin 9216) (k : Fin 2304) : V m c main_v3 (ix2 n k) = ((AR m c).X n k : EReal) := by
  rw [← Spec.X_eq h, V_after]; unfold_abbrev_sides
  after_results
  pointwise
  rfl
/-- The region's entry: the input scales, as numbers. -/
theorem V4_at (t : Fin cfg0.N) (p : Fin 256) : V m c main_v4 (ix3 (t : Fin 36) 0 p) = ((AR m c).XS (tok t p) : EReal) := by
  rw [← Spec.XS_eq h, V_after]; unfold_abbrev_sides
  after_results
  pointwise
  simp only [Spec.tb, Spec.ts, tok, Nat.mul_comm]
/-- The region's entry: the output gradient codes, as numbers. -/
theorem V5_at (n : Fin 9216) (k : Fin 9216) : V m c main_v5 (ix2 n k) = ((AR m c).DY n k : EReal) := by
  rw [← Spec.DY_eq h, V_after]; unfold_abbrev_sides
  after_results
  pointwise
  rfl
/-- The region's entry: the output gradient scales, as numbers. -/
theorem V6_at (t : Fin cfg0.N) (p : Fin 256) : V m c main_v6 (ix3 (t : Fin 36) 0 p) = ((AR m c).DS (tok t p) : EReal) := by
  rw [← Spec.DS_eq h, V_after]; unfold_abbrev_sides
  after_results
  pointwise
  simp only [Spec.tb, Spec.ts, tok, Nat.mul_comm]
/-- The region's entry: the weight scales, as numbers. -/
theorem V7_at (o : Fin 9216) : V m c main_v7 (ix2 0 o) = ((AR m c).WS o : EReal) := by
  rw [← Spec.WS_eq h, V_after]; unfold_abbrev_sides
  after_results
  pointwise
/-- The region's entry: the first low-rank factor, as numbers. -/
theorem V8_at (k : Fin 2304) (r : Fin 32) : V m c main_v8 (ix2 k (Fin.castAdd 64 r : Fin 96)) = ((AR m c).A k r : EReal) := by
  rw [← Spec.A_eq h, V_after]; unfold_abbrev_sides
  after_results
  pointwise
  rw [dif_pos (show (Fin.castAdd 64 r).val < 32 from r.isLt)]
  rfl
/-- The region's entry: the transposed first low-rank factor, as numbers. -/
theorem V9_at (k : Fin 2304) (r : Fin 32) : V m c main_v9 (ix2 r k) = ((AR m c).A k r : EReal) := by
  rw [← Spec.A_eq h, V_after]; unfold_abbrev_sides
  after_results
  pointwise

variable (t : Fin cfg0.N)
/-- A block that a grid point stages, as numbers. -/
theorem blk0 (p : Fin 256) (k : Fin 2304) : iblk m c 0 t (ix2 p k) = ((AR m c).X (tok t p) k : EReal) :=
  Eq.trans (congrArg (V m c main_v3) (by blk_ext [idx t, tok])) (V3_at m c h (tok t p) k)
/-- A block that a grid point stages, as numbers. -/
theorem blk1 (p : Fin 256) : iblk m c 1 t (ix3 0 0 p) = ((AR m c).XS (tok t p) : EReal) :=
  Eq.trans (congrArg (V m c main_v4) (by blk_ext [idx t])) (V4_at m c h t p)
/-- A block that a grid point stages, as numbers. -/
theorem blk2 (p : Fin 256) (o : Fin 9216) : iblk m c 2 t (ix2 p o) = ((AR m c).DY (tok t p) o : EReal) :=
  Eq.trans (congrArg (V m c main_v5) (by blk_ext [idx t, tok])) (V5_at m c h (tok t p) o)
/-- A block that a grid point stages, as numbers. -/
theorem blk3 (p : Fin 256) : iblk m c 3 t (ix3 0 0 p) = ((AR m c).DS (tok t p) : EReal) :=
  Eq.trans (congrArg (V m c main_v6) (by blk_ext [idx t])) (V6_at m c h t p)
/-- A block that a grid point stages, as numbers. -/
theorem blk4 (o : Fin 9216) : iblk m c 4 t (ix2 0 o) = ((AR m c).WS o : EReal) :=
  Eq.trans (congrArg (V m c main_v7) (by blk_ext [idx t])) (V7_at m c h o)
/-- A block that a grid point stages, as numbers. -/
theorem blk5 (k : Fin 2304) (r : Fin 32) : iblk m c 5 t (ix2 k (Fin.castAdd 64 r : Fin 96)) = ((AR m c).A k r : EReal) :=
  Eq.trans (congrArg (V m c main_v8) (by blk_ext [idx t])) (V8_at m c h k r)
/-- A block that a grid point stages, as numbers. -/
theorem blk6 (k : Fin 2304) (r : Fin 32) : iblk m c 6 t (ix2 r k) = ((AR m c).A k r : EReal) :=
  Eq.trans (congrArg (V m c main_v9) (by blk_ext [idx t])) (V9_at m c h k r)
/-- A block that a grid point stages, as numbers. -/
theorem blk7 (r : Fin 32) (o : Fin 9216) : iblk m c 7 t (ix2 r o) = ((AR m c).B r o : EReal) :=
  Eq.trans (Eq.trans (congrArg (V m c main_arg7) (by blk_ext [idx t])) (congrFun (V_main_arg7 m c) (ix2 r o))) (Spec.B_eq h r o)

omit h in
theorem wblk_at (XA : Buf (Elt Ideal) (aM.view.loc (c : Thread nD τ))) (b : Fin 18) (k : Fin 128) (o : Fin 9216) (k' : Fin 2304) (hk : k'.val = 128 * b.val + k.val) :
    wblk c XA b (ix3 0 k o) = XA (ix2 k' o) := by
  have e : wblk c XA b (ix3 0 k o) = (grp b).view.read (Elt Ideal) XA (ix2 k o) := by unfold wblk; pointwise
  rw [e]
  refine congrArg XA (funext fun a => Fin.ext ?_)
  fin_cases a
  · show 128 * b.val + 1 * k.val = k'.val; omega
  · show 0 + 1 * o.val = o.val; omega

/-- The scaled weight as the first point leaves it. -/
theorem Wf_at (k : Fin 2304) (o : Fin 9216) : Wf m c (ix2 k o) = (((AR m c).W k o * (AR m c).WS o : ℝ) : EReal) := by
  have hb : (Ring.bk 18 (k.val / 128)).val = k.val / 128 := Ring.bk_val (by omega)
  have e : Wf m c (ix2 k o) = k0_pay1 (wblk c (V m c main_v2) (Ring.bk 18 (k.val / 128))) (iblk m c 4 ⟨0, by decide⟩) (ix2 ⟨k.val % 128, Nat.mod_lt _ (by decide)⟩ o) := rfl
  rw [e, pay1_at, wblk_at c _ _ _ _ k (by rw [hb]; show k.val = 128 * (k.val / 128) + k.val % 128; omega), V2_at m c h, blk4 m c h, ← EReal.coe_mul]
end Entry

end Cert.KernelIdeal.Hand
end
-- ==== Proof.KernelIdeal.Final.lean ====
module

public import proofs.«01_k».proof.Proof.KernelIdeal.Frame
public import proofs.«01_k».proof.Proof.KernelIdeal.Entry
public import proofs.«01_k».proof.Proof.KernelIdeal.Vals
public import Idealize.ShloMosaic.Lib.Pipeline.ValueKit
public import Idealize.ShloMosaic.Lib.Pointwise
public import proofs.«01_k».proof.Proof.Spec

@[expose] public section

set_option maxRecDepth 16384

noncomputable section

namespace Cert.KernelIdeal.Hand

open Cert.KernelIdeal Cert.KernelIdeal.Gen
open Cert
open Idealize.ShloMosaic Idealize.ShloMosaic.TcCoe Idealize.SL.Sem
open Idealize.ShloMosaic.Pipeline (Dat)

variable (m : (ℓ : Loc nD τ sig) → Buf (Elt Ideal) ℓ) (c : Dev nD) (h : PR m c)
include h

/-! ### The tiled results -/

omit h in
/-- A result's array, from its rows. -/
def G2 {n k : ℕ} (f : Fin n → Fin k → EReal) : (⟨2, ![n, k]⟩ : Shape).Idx → EReal := fun i => f (i 0) (i 1)
omit h in
def G14 (f : Fin 9216 → EReal) : S36x1x256.Idx → EReal := fun i => f (tok (show Fin 36 from i 0) (i 2))

/-- The output gradient through the second factor, of one tile of tokens. -/
theorem point11 (t : Fin cfg0.N) (y0) (y1) : TT (F := Ideal) (iblk m c 2 t) (iblk m c 3 t) (iblk m c 7 t) (ix2 y0 y1) = ((AR m c).t (tok t y0) y1 : EReal) :=
  TT_val (n := tok t) (blk2 m c h t) (blk3 m c h t) (blk7 m c h t) y0 y1
/-- The array of the output gradient through the second factor after the run. -/
theorem final11 : (dats m 0 c).arrAt 11 (cfgs 0).N = (G2 (fun n k => ((AR m c).t n k : EReal)) : S9216x32.Idx → EReal) := by
  refine (dats m 0 c).arrAt_eq_of_covers 11 _ (by decide +kernel) fun t _ y => ?_
  blk_simp
  rw [after0_11]
  idx_vars y
  refine (point11 m c h t y0 y1).trans (Eq.trans ?_ (congrArg (G2 (fun n k => ((AR m c).t n k : EReal)) : S9216x32.Idx → EReal) (show (ix2 (tok t y0) y1 : S9216x32.Idx) = _ from ?_)))
  · rfl
  · blk_ext [idx t, tok]
/-- The input through the first factor, of one tile of tokens. -/
theorem point12 (t : Fin cfg0.N) (y0) (y1) : XX (F := Ideal) (iblk m c 0 t) (iblk m c 1 t) (iblk m c 6 t) (ix2 y0 y1) = ((AR m c).xa (tok t y0) y1 : EReal) :=
  XX_val (n := tok t) (blk0 m c h t) (blk1 m c h t) (fun r k => blk6 m c h t k r) y0 y1
/-- The array of the input through the first factor after the run. -/
theorem final12 : (dats m 0 c).arrAt 12 (cfgs 0).N = (G2 (fun n k => ((AR m c).xa n k : EReal)) : S9216x32.Idx → EReal) := by
  refine (dats m 0 c).arrAt_eq_of_covers 12 _ (by decide +kernel) fun t _ y => ?_
  blk_simp
  rw [after0_12]
  idx_vars y
  refine (point12 m c h t y0 y1).trans (Eq.trans ?_ (congrArg (G2 (fun n k => ((AR m c).xa n k : EReal)) : S9216x32.Idx → EReal) (show (ix2 (tok t y0) y1 : S9216x32.Idx) = _ from ?_)))
  · rfl
  · blk_ext [idx t, tok]
/-- The input gradient of one tile of tokens. -/
theorem point8 (t : Fin cfg0.N) (y0) (y1) : DXO (F := Ideal) (DD (iblk m c 2 t) (iblk m c 3 t) (iblk m c 5 t) (iblk m c 7 t) (Wf m c)) (ix2 y0 y1) = ((AR m c).g (tok t y0) y1 : EReal) :=
  DXO_val (n := tok t) (blk2 m c h t) (blk3 m c h t) (blk5 m c h t) (blk7 m c h t) (Wf_at m c h) y0 y1
/-- The array of the input gradient after the run. -/
theorem final8 : (dats m 0 c).arrAt 8 (cfgs 0).N = (G2 (fun n k => ((AR m c).g n k : EReal)) : S9216x2304.Idx → EReal) := by
  refine (dats m 0 c).arrAt_eq_of_covers 8 _ (by decide +kernel) fun t _ y => ?_
  blk_simp
  rw [after0_8]
  idx_vars y
  refine (point8 m c h t y0 y1).trans (Eq.trans ?_ (congrArg (G2 (fun n k => ((AR m c).g n k : EReal)) : S9216x2304.Idx → EReal) (show (ix2 (tok t y0) y1 : S9216x2304.Idx) = _ from ?_)))
  · rfl
  · blk_ext [idx t, tok]
/-- The codes of one tile of tokens. -/
theorem point13 (t : Fin cfg0.N) (y0) (y1) : COD (F := Ideal) (INV (MX (iblk m c 2 t) (iblk m c 3 t) (iblk m c 5 t) (iblk m c 7 t) (Wf m c))) (DD (iblk m c 2 t) (iblk m c 3 t) (iblk m c 5 t) (iblk m c 7 t) (Wf m c)) (ix2 y0 y1) = (AR m c).code (tok t y0) y1 :=
  COD_val (n := tok t) (blk2 m c h t) (blk3 m c h t) (blk5 m c h t) (blk7 m c h t) (Wf_at m c h) (Spec.moderate h) y0 y1
/-- The array of the codes after the run. -/
theorem final13 : (dats m 0 c).arrAt 13 (cfgs 0).N = (G2 (fun n k => (AR m c).code n k) : S9216x2304.Idx → EReal) := by
  refine (dats m 0 c).arrAt_eq_of_covers 13 _ (by decide +kernel) fun t _ y => ?_
  blk_simp
  rw [after0_13]
  idx_vars y
  refine (point13 m c h t y0 y1).trans (Eq.trans ?_ (congrArg (G2 (fun n k => (AR m c).code n k) : S9216x2304.Idx → EReal) (show (ix2 (tok t y0) y1 : S9216x2304.Idx) = _ from ?_)))
  · rfl
  · blk_ext [idx t, tok]
/-- The array of the scales after the run. -/
theorem final14 : (dats m 0 c).arrAt 14 (cfgs 0).N = G14 (AR m c).scl := by
  refine (dats m 0 c).arrAt_eq_of_covers 14 _ (by decide +kernel) fun t _ y => ?_
  blk_simp
  rw [after0_14]
  idx_vars y
  refine ((congrArg (SCL (F := Ideal) (MX (iblk m c 2 t) (iblk m c 3 t) (iblk m c 5 t) (iblk m c 7 t) (Wf m c))) (show _ = (ix3 0 0 y2 : S1x1x256.Idx) from ?_)).trans (SCL_val (n := tok t) (blk2 m c h t) (blk3 m c h t) (blk5 m c h t) (blk7 m c h t) (Wf_at m c h) (Spec.moderate h) y2).1).trans
    (Eq.trans ?_ (congrArg (G14 (AR m c).scl) (show (ix3 (show Fin 36 from t) 0 y2 : S36x1x256.Idx) = _ from ?_)))
  · blk_ext
  · rfl
  · blk_ext [idx t]

/-! ### The accumulated results -/

omit h in
/-- A function of the tokens, on the naturals. -/
def ext (f : Fin 9216 → ℝ) (i : ℕ) : ℝ := if h : i < 9216 then f ⟨i, h⟩ else 0
omit h in
theorem ext_tok (f : Fin 9216 → ℝ) (t : Fin cfg0.N) (p : Fin 256) : ext f (256 * t.val + p.val) = f (tok t p) := by
  have : t.val < 36 := t.isLt
  unfold ext; rw [dif_pos (by omega)]; rfl
omit h in
theorem ext_step (f : Fin 9216 → ℝ) (t : Fin cfg0.N) :
    ∑ i ∈ Finset.range (256 * (t.val + 1)), ext f i = ∑ i ∈ Finset.range (256 * t.val), ext f i + ∑ p : Fin 256, f (tok t p) := by
  rw [Nat.mul_add, Nat.mul_one, Finset.sum_range_add, Finset.sum_range (n := 256)]
  exact congrArg _ (Finset.sum_congr rfl fun p _ => ext_tok f t p)
omit h in
theorem ext_sum (f : Fin 9216 → ℝ) : ∑ i ∈ Finset.range (256 * (35 + 1)), ext f i = ∑ q, f q := by
  rw [show 256 * (35 + 1) = 9216 from rfl, Finset.sum_range]
  exact Finset.sum_congr rfl fun q _ => by unfold ext; rw [dif_pos q.isLt]

/-- The running sum of the first factor's gradient: the tokens of the tiles so far. -/
theorem accA_val (r : Fin 32) (k : Fin 2304) : ∀ (n : ℕ) (hn : n < cfg0.N), accA m c n hn (ix2 r k)
    = ((∑ i ∈ Finset.range (256 * (n + 1)), ext (fun q => 2 * ((AR m c).X q k * ((AR m c).XS q * (AR m c).t q r))) i : ℝ) : EReal)
  | 0, hn => by
    rw [accA, DAT_val (n := tok ⟨0, hn⟩) (blk0 m c h _) (blk1 m c h _) (blk2 m c h _) (blk3 m c h _) (blk7 m c h _), ext_step _ (⟨0, hn⟩ : Fin cfg0.N)]
    have z : k0_pay2 (F := Ideal) (ix2 r k) = 0 := by pointwise [k0_pay2]
    rw [z, zero_add, show 256 * 0 = 0 from rfl, Finset.sum_range_zero, zero_add]
  | n + 1, hn => by
    rw [accA, DAT_val (n := tok ⟨n + 1, hn⟩) (blk0 m c h _) (blk1 m c h _) (blk2 m c h _) (blk3 m c h _) (blk7 m c h _), accA_val r k n,
      ext_step _ (⟨n + 1, hn⟩ : Fin cfg0.N), EReal.coe_add]
/-- The running sum of the second factor's gradient: the tokens of the tiles so far. -/
theorem accB_val (r : Fin 32) (o : Fin 9216) : ∀ (n : ℕ) (hn : n < cfg0.N), accB m c n hn (ix2 r o)
    = ((∑ i ∈ Finset.range (256 * (n + 1)), ext (fun q => 2 * (((AR m c).xa q r * (AR m c).DS q) * (AR m c).DY q o)) i : ℝ) : EReal)
  | 0, hn => by
    rw [accB, DBT_val (n := tok ⟨0, hn⟩) (blk0 m c h _) (blk1 m c h _) (blk2 m c h _) (blk3 m c h _) (fun r k => blk6 m c h _ k r), ext_step _ (⟨0, hn⟩ : Fin cfg0.N)]
    have z : k0_pay3 (F := Ideal) (ix2 r o) = 0 := by pointwise [k0_pay3]
    rw [z, zero_add, show 256 * 0 = 0 from rfl, Finset.sum_range_zero, zero_add]
  | n + 1, hn => by
    rw [accB, DBT_val (n := tok ⟨n + 1, hn⟩) (blk0 m c h _) (blk1 m c h _) (blk2 m c h _) (blk3 m c h _) (fun r k => blk6 m c h _ k r), accB_val r o n,
      ext_step _ (⟨n + 1, hn⟩ : Fin cfg0.N), EReal.coe_add]

/-- The array of the first factor's gradient after the run. -/
theorem final9 : (dats m 0 c).arrAt 9 (cfgs 0).N = (G2 (fun r k => ((AR m c).da k r : EReal)) : S32x2304.Idx → EReal) := by
  refine (dats m 0 c).arrAt_eq_of_covers 9 _ (by decide +kernel) fun t hf y => ?_
  blk_simp
  rw [after0_9]
  have ht : t.val = 35 := by have := (flush0_9 t).mp hf; have : t.val < 36 := t.isLt; omega
  idx_vars y
  refine Eq.trans ?_ (congrArg ((G2 (fun r k => ((AR m c).da k r : EReal)) : S32x2304.Idx → EReal)) (show (ix2 y0 y1 : S32x2304.Idx) = _ by blk_ext [idx t]))
  refine (accA_val m c h y0 y1 t.val t.isLt).trans ?_
  rw [ht, ext_sum, ← Finset.mul_sum]; rfl
/-- The array of the second factor's gradient after the run. -/
theorem final10 : (dats m 0 c).arrAt 10 (cfgs 0).N = (G2 (fun r k => ((AR m c).db r k : EReal)) : S32x9216.Idx → EReal) := by
  refine (dats m 0 c).arrAt_eq_of_covers 10 _ (by decide +kernel) fun t hf y => ?_
  blk_simp
  rw [after0_10]
  have ht : t.val = 35 := by have := (flush0_10 t).mp hf; have : t.val < 36 := t.isLt; omega
  idx_vars y
  refine Eq.trans ?_ (congrArg ((G2 (fun r k => ((AR m c).db r k : EReal)) : S32x9216.Idx → EReal)) (show (ix2 y0 y1 : S32x9216.Idx) = _ by blk_ext [idx t]))
  refine (accB_val m c h y0 y1 t.val t.isLt).trans ?_
  rw [ht, ext_sum, ← Finset.mul_sum]; rfl

end Cert.KernelIdeal.Hand
end
-- ==== Proof.Results.lean ====
/- The seven results as arrays, from the arguments' numbers. -/
module

public import proofs.«01_k».proof.Proof.Spec

@[expose] public section

noncomputable section

namespace Cert.Spec

open Idealize.ShloMosaic

/-- The row of token `s` of sequence `b`. -/
def row (b : Fin 24) (s : Fin 384) : Fin 9216 := ⟨384 * b.val + s.val, by omega⟩

variable (a : Args)

/-- The gradient of the input. -/
def res0 : (⟨3, ![24, 384, 2304]⟩ : Shape).Idx → EReal := fun i => a.g (row (i 0) (i 1)) (i 2)
/-- The gradient of the first low-rank factor. -/
def res1 : (⟨2, ![2304, 32]⟩ : Shape).Idx → EReal := fun i => a.da (i 0) (i 1)
/-- The gradient of the second low-rank factor. -/
def res2 : (⟨2, ![32, 9216]⟩ : Shape).Idx → EReal := fun i => a.db (i 0) (i 1)
/-- The output gradient through the second factor. -/
def res3 : (⟨3, ![24, 384, 32]⟩ : Shape).Idx → EReal := fun i => a.t (row (i 0) (i 1)) (i 2)
/-- The input through the first factor. -/
def res4 : (⟨3, ![24, 384, 32]⟩ : Shape).Idx → EReal := fun i => a.xa (row (i 0) (i 1)) (i 2)
/-- The codes of the gradient of the input. -/
def res5 : (⟨3, ![24, 384, 2304]⟩ : Shape).Idx → EReal := fun i => a.code (row (i 0) (i 1)) (i 2)
/-- The scales of those codes. -/
def res6 : (⟨2, ![24, 384]⟩ : Shape).Idx → EReal := fun i => a.scl (row (i 0) (i 1))

end Cert.Spec
end
-- ==== Proof.KernelIdeal.Tail.lean ====
/- What a run of the kernel leaves in its results. -/
module

public import proofs.«01_k».proof.Proof.KernelIdeal.Final
public import proofs.«01_k».proof.Proof.KernelIdeal.Frame
public import Idealize.ShloMosaic.Lib.Pointwise
public import proofs.«01_k».proof.Proof.Results
public import Idealize.ShloMosaic.Lib.Claim

@[expose] public section

set_option maxRecDepth 16384

noncomputable section

namespace Cert.KernelIdeal.Hand

open Cert.KernelIdeal Cert.KernelIdeal.Gen
open Cert
open Idealize.ShloMosaic Idealize.ShloMosaic.TcCoe Idealize.SL.Sem

variable (m : (ℓ : Loc nD τ sig) → Buf (Elt Ideal) ℓ) (g : Dev nD → PrngReg)

/-- A result's array among the contents that the lines after the region find. -/
abbrev WA (c : Dev nD) : Valuation τ sig (Elt Ideal) :=
  Pipeline.withArrays (cfgs 0).spec c (V0 m c) fun w => (dats m 0 c).arrAt w (cfgs 0).N
/-- What a buffer holds after the lines that follow the region. -/
theorem tail_after (c : Dev nD) (b : Ref sig .tc) : Pipeline.afterTail₀ cfgs (dats m) 0 (V0 m) [hostOps1] c b
    = StableHlo.after hostOps1 (WA m c) (Proc.devRef .tc b) := by
  show StableHlo.after (hostOps1 ++ []) _ _ = _
  rw [List.append_nil]

/-- The windows have distinct arrays. -/
theorem arr_inj : Function.Injective (Pipeline.arrRef (cfgs 0).spec) := by decide +kernel
/-- Those contents at a window's array: what the region leaves there. -/
theorem at_arr (c : Dev nD) (w : Fin (cfgs 0).W) : WA m c (Proc.devRef .tc (Pipeline.arrRef (cfgs 0).spec w)) = (dats m 0 c).arrAt w (cfgs 0).N :=
  Pipeline.withArrays_arr (cfgs 0).spec arr_inj c (V0 m c) _ w

section Tail
variable (W : Valuation τ sig (Elt Ideal))
/-- The input gradient, folded to sequences. -/
theorem tail0 {f : Fin 9216 → Fin 2304 → EReal} (hW : W (Proc.devRef .tc main_v10_0) = (G2 f : S9216x2304.Idx → EReal)) :
    StableHlo.after hostOps1 W (Proc.devRef .tc main_v11) = (fun i => f (Spec.row (i 0) (i 1)) (i 2) : S24x384x2304.Idx → EReal) := by
  unfold_abbrev_sides
  after_results
  rw [hW]
  funext i; idx_vars i
  pointwise
  exact congrArg (fun n => f n i2) (Fin.ext (by show i0.val * 384 + i1.val = 384 * i0.val + i1.val; omega))
/-- The first factor's gradient, transposed. -/
theorem tail1 {f : Fin 32 → Fin 2304 → EReal} (hW : W (Proc.devRef .tc main_v10_1) = (G2 f : S32x2304.Idx → EReal)) :
    StableHlo.after hostOps1 W (Proc.devRef .tc main_v12) = (fun i => f (i 1) (i 0) : S2304x32.Idx → EReal) := by
  unfold_abbrev_sides
  after_results
  rw [hW]
  funext i; idx_vars i
  pointwise
  rfl
/-- The output gradient through the second factor, folded to sequences. -/
theorem tail3 {f : Fin 9216 → Fin 32 → EReal} (hW : W (Proc.devRef .tc main_v10_3) = (G2 f : S9216x32.Idx → EReal)) :
    StableHlo.after hostOps1 W (Proc.devRef .tc main_v13) = (fun i => f (Spec.row (i 0) (i 1)) (i 2) : S24x384x32.Idx → EReal) := by
  unfold_abbrev_sides
  after_results
  rw [hW]
  funext i; idx_vars i
  pointwise
  exact congrArg (fun n => f n i2) (Fin.ext (by show i0.val * 384 + i1.val = 384 * i0.val + i1.val; omega))
/-- The input through the first factor, folded to sequences. -/
theorem tail4 {f : Fin 9216 → Fin 32 → EReal} (hW : W (Proc.devRef .tc main_v10_4) = (G2 f : S9216x32.Idx → EReal)) :
    StableHlo.after hostOps1 W (Proc.devRef .tc main_v14) = (fun i => f (Spec.row (i 0) (i 1)) (i 2) : S24x384x32.Idx → EReal) := by
  unfold_abbrev_sides
  after_results
  rw [hW]
  funext i; idx_vars i
  pointwise
  exact congrArg (fun n => f n i2) (Fin.ext (by show i0.val * 384 + i1.val = 384 * i0.val + i1.val; omega))
/-- The codes, folded to sequences. -/
theorem tail5 {f : Fin 9216 → Fin 2304 → EReal} (hW : W (Proc.devRef .tc main_v10_5) = (G2 f : S9216x2304.Idx → EReal)) :
    StableHlo.after hostOps1 W (Proc.devRef .tc main_v15) = (fun i => f (Spec.row (i 0) (i 1)) (i 2) : S24x384x2304.Idx → EReal) := by
  unfold_abbrev_sides
  after_results
  rw [hW]
  funext i; idx_vars i
  pointwise
  exact congrArg (fun n => f n i2) (Fin.ext (by show i0.val * 384 + i1.val = 384 * i0.val + i1.val; omega))
/-- The scales, folded to sequences. -/
theorem tail6 {f : Fin 9216 → EReal} (hW : W (Proc.devRef .tc main_v10_6) = (G14 f : S36x1x256.Idx → EReal)) :
    StableHlo.after hostOps1 W (Proc.devRef .tc main_v16) = (fun i => f (Spec.row (i 0) (i 1)) : S24x384.Idx → EReal) := by
  unfold_abbrev_sides
  after_results
  rw [hW]
  funext i; idx_vars i
  pointwise
  exact congrArg f (Fin.ext (by show 256 * ((i0.val * 384 + i1.val) / 256) + (i0.val * 384 + i1.val) % 256 = 384 * i0.val + i1.val; omega))
end Tail

/-- Every run of the program ends with the seven results at the arguments' numbers' results. -/
theorem run_vals (h : ∀ c, PR m c) : θ_run defs (onTc (τ := τ) (main (F := Ideal))) ⟨m, fun _ => 0, g⟩ (fun r => ∀ c : Dev nD,
      r.2.mem ((c.tc : Thread nD τ).loc main_v11) = Spec.res0 (AR m c)
      ∧ r.2.mem ((c.tc : Thread nD τ).loc main_v12) = Spec.res1 (AR m c)
      ∧ r.2.mem ((c.tc : Thread nD τ).loc main_v10_2) = Spec.res2 (AR m c)
      ∧ r.2.mem ((c.tc : Thread nD τ).loc main_v13) = Spec.res3 (AR m c)
      ∧ r.2.mem ((c.tc : Thread nD τ).loc main_v14) = Spec.res4 (AR m c)
      ∧ r.2.mem ((c.tc : Thread nD τ).loc main_v15) = Spec.res5 (AR m c)
      ∧ r.2.mem ((c.tc : Thread nD τ).loc main_v16) = Spec.res6 (AR m c)) := by
  run_from run_main m g
  · exact (tail_after m c _).trans (tail0 _ ((at_arr m c 8).trans (final8 m c (h c))))
  · exact (tail_after m c _).trans (tail1 _ ((at_arr m c 9).trans (final9 m c (h c))))
  · exact final10 m c (h c)
  · exact (tail_after m c _).trans (tail3 _ ((at_arr m c 11).trans (final11 m c (h c))))
  · exact (tail_after m c _).trans (tail4 _ ((at_arr m c 12).trans (final12 m c (h c))))
  · exact (tail_after m c _).trans (tail5 _ ((at_arr m c 13).trans (final13 m c (h c))))
  · exact (tail_after m c _).trans (tail6 _ ((at_arr m c 14).trans (final14 m c (h c))))

end Cert.KernelIdeal.Hand
end
-- ==== Proof.ReferenceIdeal.Vals.lean ====
module

public import proofs.«01_k».proof.Proof.Gen.ReferenceIdeal.Frame
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen
open Cert
open Idealize.ShloMosaic Idealize.ShloMosaic.TcCoe Idealize.SL.Sem
open Idealize.ShloMosaic.Pipeline (Dat)

section Pay
variable (x0 : FVec Ideal S9216x2304 .fp8e4m3) (x1 : FVec Ideal S9216x1 .f32) (x2 : FVec Ideal S9216x9216 .fp8e5m2) (x3 : FVec Ideal S9216x1 .f32)
  (x4 : FVec Ideal S2304x9216 .fp8e4m3) (x5 : FVec Ideal S1x9216 .f32) (x6 : FVec Ideal S2304x32 .bf16) (x7 : FVec Ideal S32x9216 .bf16)
/-- A value of the reference, elementwise. -/
theorem p5 (n : Fin 9216) (o : Fin 9216) : k0_pay5 (F := Ideal) x2 (ix2 n o) = x2 (ix2 n o) := by
  pointwise [k0_pay5, k0_pay2]
/-- A value of the reference, elementwise. -/
theorem p6 (n : Fin 9216) (r : Fin 32) : k0_pay6 (F := Ideal) x2 x3 x7 (ix2 n r) = (∑ o, x2 (ix2 n o) * x7 (ix2 r o)) * x3 (ix2 n 0) := by
  pointwise [k0_pay6, k0_pay4]
  simp only [p5]
/-- A value of the reference, elementwise. -/
theorem p7 (n : Fin 9216) (r : Fin 32) : k0_pay7 (F := Ideal) x0 x1 x6 (ix2 n r) = (∑ k, x0 (ix2 n k) * x6 (ix2 k r)) * x1 (ix2 n 0) := by
  pointwise [k0_pay7, k0_pay1, k0_pay3]
/-- A value of the reference, elementwise. -/
theorem p8 (n : Fin 9216) (k : Fin 2304) : k0_pay8 (F := Ideal) x2 x3 x4 x5 (ix2 n k) = (∑ o, x2 (ix2 n o) * (x4 (ix2 k o) * x5 (ix2 0 o))) * x3 (ix2 n 0) := by
  pointwise [k0_pay8, k0_pay4]
  simp only [p5]
/-- A value of the reference, elementwise. -/
theorem p9 (n : Fin 9216) (k : Fin 2304) : k0_pay9 (F := Ideal) x2 x3 x6 x7 (ix2 n k) = ∑ r, ((∑ o, x2 (ix2 n o) * x7 (ix2 r o)) * x3 (ix2 n 0)) * x6 (ix2 k r) := by
  pointwise [k0_pay9]
  simp only [p6]
variable (a b : FVec Ideal S9216x2304 .f32) (s : Ideal .f32) (v w : FVec Ideal S9216x1 .f32)
/-- A value of the reference, elementwise. -/
theorem p10 (n : Fin 9216) (k : Fin 2304) : k0_pay10 (F := Ideal) a b s (ix2 n k) = a (ix2 n k) + s * b (ix2 n k) := by
  pointwise [k0_pay10]
/-- A value of the reference, elementwise. -/
theorem p11 (n : Fin 9216) (k : Fin 2304) : k0_pay11 (F := Ideal) a b s (ix2 n k) = k0_pay10 (F := Ideal) a b s (ix2 n k) := by
  rw [p10]; pointwise [k0_pay11, k0_pay10]
/-- A value of the reference, elementwise. -/
theorem p14 (n : Fin 9216) : k0_pay14 (F := Ideal) (ix2 n 0) = (((2 : ℝ) ^ (-126 : ℤ) : ℝ) : EReal) := by
  have e : k0_pay14 (F := Ideal) (ix2 n 0) = Ideal.ofBits .f32 8388608#32 := by pointwise [k0_pay14]
  rw [e]
  simp [Ideal.ofBits, Ideal.ieee, -EReal.coe_mul]
  norm_num
/-- A value of the reference, elementwise. -/
theorem p15 (n : Fin 9216) : k0_pay15 (F := Ideal) (ix2 n 0) = (1 : EReal) := by
  pointwise [k0_pay15]
/-- A value of the reference, elementwise. -/
theorem p16 (n : Fin 9216) : k0_pay16 (F := Ideal) v (ix2 n 0) = v (ix2 n 0) * ((2 : ℝ) : EReal) := by
  rw [← Spec.two_f32]; pointwise [k0_pay16]
/-- A value of the reference, elementwise. -/
theorem p18 (n : Fin 9216) (k : Fin 2304) : k0_pay18 (F := Ideal) a b s v (ix2 n k)
    = min (Ideal.ofBits .f32 0x47600000#32) (max (Ideal.ofBits .f32 0xC7600000#32) (k0_pay10 (F := Ideal) a b s (ix2 n k) * Ideal.div 1 (v (ix2 n 0)))) := by
  rw [p10]; pointwise [k0_pay18, k0_pay10]

/-- The scale's argument, before the doublings. -/
def QQ (A : FVec Ideal S9216x2304 .f32) : FVec Ideal S9216x1 .f32 :=
  mulf (shapeCast S9216x1 (multiReduction (F := Ideal) .maximumf [1] S9216 A 0xFF800000#32 reduces_S9216x2304_S9216 (.inl rfl) rfl) shapeCasts_S9216_S9216x1)
    (broadcast S9216x1 (Scalar.ofBits .f32 0x37924925#32 : Ideal .f32))
/-- The greatest magnitude of a row. -/
theorem rowmax (A : FVec Ideal S9216x2304 .f32) (n : Fin 9216) :
    multiReduction (F := Ideal) .maximumf [1] S9216 A 0xFF800000#32 reduces_S9216x2304_S9216 (.inl rfl) rfl (ix1 n)
      = Finset.fold max (Ideal.ofBits FTy.f32 0xFF800000#32) (fun x => A (ix2 n x)) Finset.univ := by
  pointwise
/-- The row maximum times the reciprocal of the greatest code. -/
theorem mulc (u : FVec Ideal S9216 .f32) (n : Fin 9216) :
    mulf (F := Ideal) (shapeCast S9216x1 u shapeCasts_S9216_S9216x1) (broadcast S9216x1 (Scalar.ofBits .f32 0x37924925#32 : Ideal .f32)) (ix2 n 0)
      = u (ix1 n) * Ideal.ofBits .f32 0x37924925#32 := by
  pointwise
/-- The quotient that chooses a token's scale. -/
theorem QQ_at (A : FVec Ideal S9216x2304 .f32) (n : Fin 9216) : QQ (absf A) (ix2 n 0) = Spec.top (fun k => A (ix2 n k)) * Ideal.ofBits .f32 0x37924925#32 := by
  rw [QQ, mulc, rowmax, Spec.bot_f32]; rfl
/-- The loop's step, by its parts. -/
theorem p17_eq : k0_pay17 (F := Ideal) a b s v w
    = select (cmpf .oge (QQ (absf (k0_pay10 a b s))) v) (mulf v (broadcast S9216x1 (Scalar.ofBits .f32 0x40000000#32 : Ideal .f32))) w := rfl
/-- One step's choice at a token. -/
theorem sel (q : FVec Ideal S9216x1 .f32) (n : Fin 9216) :
    select (cmpf (F := Ideal) .oge q v) (mulf v (broadcast S9216x1 (Scalar.ofBits .f32 0x40000000#32 : Ideal .f32))) w (ix2 n 0)
      = if v (ix2 n 0) ≤ q (ix2 n 0) then v (ix2 n 0) * Ideal.ofBits .f32 0x40000000#32 else w (ix2 n 0) := by
  pointwise
/-- A value of the reference, elementwise. -/
theorem p17 (n : Fin 9216) : k0_pay17 (F := Ideal) a b s v w (ix2 n 0)
    = if v (ix2 n 0) ≤ Spec.top (fun k => k0_pay10 (F := Ideal) a b s (ix2 n k)) * Ideal.ofBits .f32 0x37924925#32 then v (ix2 n 0) * ((2 : ℝ) : EReal) else w (ix2 n 0) := by
  rw [p17_eq, sel, QQ_at, Spec.two_f32]

/-- The doublings carried row by row. -/
theorem fold_iterate {σ : Type} {n : ℕ} (g : σ → σ) (i : σ) : Scf.fold (n := n) (fun _ x => g x) i = g^[n] i := by
  rw [Scf.fold_eq]
  induction n generalizing i with
  | zero => rfl
  | succ n ih => rw [List.finRange_succ, List.foldl_cons, List.foldl_map, ih, Function.iterate_succ_apply]
/-- The loop's number of trips. -/
theorem trips_eq : k0_t1_loop.trips = 253 := by decide +kernel
/-- The doubling loop at a token is the doubling of two numbers. -/
theorem loop_at (n : Fin 9216) :
    ((Scf.fold (n := k0_t1_loop.trips) (fun _ (x : FVec Ideal S9216x1 .f32 × FVec Ideal S9216x1 .f32) => (k0_pay16 (F := Ideal) x.1, k0_pay17 (F := Ideal) a b s x.1 x.2))
        (k0_pay14 (F := Ideal), k0_pay15 (F := Ideal))).2 (ix2 n 0) : EReal)
      = Spec.scale (Spec.top (fun k => k0_pay10 (F := Ideal) a b s (ix2 n k)) * Ideal.ofBits .f32 0x37924925#32) := by
  rw [fold_iterate, trips_eq, Spec.scale]
  generalize hq : Spec.top (fun k => k0_pay10 (F := Ideal) a b s (ix2 n k)) * Ideal.ofBits .f32 0x37924925#32 = q
  let R : FVec Ideal S9216x1 .f32 × FVec Ideal S9216x1 .f32 → EReal × EReal := fun x => (x.1 (ix2 n 0), x.2 (ix2 n 0))
  have hs : Function.Semiconj R (fun x => (k0_pay16 (F := Ideal) x.1, k0_pay17 (F := Ideal) a b s x.1 x.2)) (Spec.dbl q) := fun x => by
    show ((k0_pay16 (F := Ideal) x.1 (ix2 n 0), k0_pay17 (F := Ideal) a b s x.1 x.2 (ix2 n 0)) : EReal × EReal) = _
    rw [p16, p17, hq]; rfl
  have h0 : R (k0_pay14 (F := Ideal), k0_pay15 (F := Ideal)) = ((((2 : ℝ) ^ (-126 : ℤ) : ℝ) : EReal), (1 : EReal)) := by
    show ((k0_pay14 (F := Ideal) (ix2 n 0), k0_pay15 (F := Ideal) (ix2 n 0)) : EReal × EReal) = _
    rw [p14, p15]
  have key : ∀ N : ℕ, (((fun x : FVec Ideal S9216x1 .f32 × FVec Ideal S9216x1 .f32 => (k0_pay16 (F := Ideal) x.1, k0_pay17 (F := Ideal) a b s x.1 x.2))^[N]
      (k0_pay14 (F := Ideal), k0_pay15 (F := Ideal))).2 (ix2 n 0) : EReal) = ((Spec.dbl q)^[N] ((((2 : ℝ) ^ (-126 : ℤ) : ℝ) : EReal), (1 : EReal))).2 := fun N => by
    have := hs.iterate_right N (k0_pay14 (F := Ideal), k0_pay15 (F := Ideal))
    rw [h0] at this
    exact congrArg Prod.snd this
  exact key 253
end Pay

section Vals
variable {x0 : FVec Ideal S9216x2304 .fp8e4m3} {x1 : FVec Ideal S9216x1 .f32} {x2 : FVec Ideal S9216x9216 .fp8e5m2} {x3 : FVec Ideal S9216x1 .f32}
  {x4 : FVec Ideal S2304x9216 .fp8e4m3} {x5 : FVec Ideal S1x9216 .f32} {x6 : FVec Ideal S2304x32 .bf16} {x7 : FVec Ideal S32x9216 .bf16} {a : Spec.Args}
  (h0 : ∀ n k, x0 (ix2 n k) = (a.X n k : EReal)) (h1 : ∀ n, x1 (ix2 n 0) = (a.XS n : EReal))
  (h2 : ∀ n o, x2 (ix2 n o) = (a.DY n o : EReal)) (h3 : ∀ n, x3 (ix2 n 0) = (a.DS n : EReal))
  (h4 : ∀ k o, x4 (ix2 k o) = (a.W k o : EReal)) (h5 : ∀ o, x5 (ix2 0 o) = (a.WS o : EReal))
  (h6 : ∀ k r, x6 (ix2 k r) = (a.A k r : EReal)) (h7 : ∀ r o, x7 (ix2 r o) = (a.B r o : EReal))

include h2 h3 h7 in
/-- The reference's output gradient through the second factor. -/
theorem t_val (n : Fin 9216) (r : Fin 32) : k0_pay6 (F := Ideal) x2 x3 x7 (ix2 n r) = (a.t n r : EReal) := by
  rw [p6]
  simp only [h2, h3, h7, ← EReal.coe_mul, Spec.coe_sum]; rfl
include h0 h1 h6 in
/-- The reference's input through the first factor. -/
theorem xa_val (n : Fin 9216) (r : Fin 32) : k0_pay7 (F := Ideal) x0 x1 x6 (ix2 n r) = (a.xa n r : EReal) := by
  rw [p7]
  simp only [h0, h1, h6, ← EReal.coe_mul, Spec.coe_sum]; rfl
include h2 h3 h4 h5 h6 h7 in
/-- The reference's input gradient. -/
theorem g_val (n : Fin 9216) (k : Fin 2304) :
    k0_pay10 (F := Ideal) (k0_pay8 (F := Ideal) x2 x3 x4 x5) (k0_pay9 (F := Ideal) x2 x3 x6 x7) (FloatOps.ofBits FTy.f32 0x40000000#32) (ix2 n k) = (a.g n k : EReal) := by
  rw [p10, p8, p9, show (FloatOps.ofBits FTy.f32 0x40000000#32 : Ideal .f32) = ((2 : ℝ) : EReal) from Spec.two_f32]
  simp only [h2, h3, h4, h5, h6, h7, ← EReal.coe_mul, Spec.coe_sum, ← EReal.coe_add]; rfl
include h2 h3 h4 h5 h6 h7 in
/-- The reference's scale. -/
theorem scl_val (n : Fin 9216) :
    ((Scf.fold (n := k0_t1_loop.trips) (fun _ (x : FVec Ideal S9216x1 .f32 × FVec Ideal S9216x1 .f32) => (k0_pay16 (F := Ideal) x.1,
        k0_pay17 (F := Ideal) (k0_pay8 (F := Ideal) x2 x3 x4 x5) (k0_pay9 (F := Ideal) x2 x3 x6 x7) (FloatOps.ofBits FTy.f32 0x40000000#32) x.1 x.2))
        (k0_pay14 (F := Ideal), k0_pay15 (F := Ideal))).2 (ix2 n 0) : EReal) = a.scl n := by
  rw [loop_at]
  simp only [g_val h2 h3 h4 h5 h6 h7]; rfl
variable (f0 : FVec Ideal S9216x2304 .fp8e4m3) (f2 : FVec Ideal S9216x9216 .fp8e5m2) (f : FVec Ideal S9216x32 .f32) (v : FVec Ideal S9216x1 .f32)
/-- A value of the reference, elementwise. -/
theorem p12 (k : Fin 2304) (r : Fin 32): k0_pay12 (F := Ideal) f0 v f (ix2 k r) = Ideal.ofBits .f32 0x40000000#32 * ∑ n, f0 (ix2 n k) * (v (ix2 n 0) * f (ix2 n r)) := by
  pointwise [k0_pay12]
/-- A value of the reference, elementwise. -/
theorem p13 (o : Fin 9216) (r : Fin 32): k0_pay13 (F := Ideal) f2 v f (ix2 r o) = Ideal.ofBits .f32 0x40000000#32 * ∑ n, f (ix2 n r) * v (ix2 n 0) * f2 (ix2 n o) := by
  pointwise [k0_pay13]
include h0 h1 h2 h3 h7 in
/-- The reference's first factor gradient. -/
theorem da_val (k : Fin 2304) (r : Fin 32) : k0_pay12 (F := Ideal) x0 x1 (k0_pay6 (F := Ideal) x2 x3 x7) (ix2 k r) = (a.da k r : EReal) := by
  rw [p12]
  simp only [t_val h2 h3 h7, h0, h1, Spec.two_f32, ← EReal.coe_mul, Spec.coe_sum]; rfl
include h0 h1 h2 h3 h6 in
/-- The reference's second factor gradient. -/
theorem db_val (r : Fin 32) (o : Fin 9216) : k0_pay13 (F := Ideal) x2 x3 (k0_pay7 (F := Ideal) x0 x1 x6) (ix2 r o) = (a.db r o : EReal) := by
  rw [p13]
  simp only [xa_val h0 h1 h6, h2, h3, Spec.two_f32, ← EReal.coe_mul, Spec.coe_sum]; rfl
end Vals

end Cert.ReferenceIdeal.Hand
end
-- ==== Proof.ReferenceIdeal.Final.lean ====
module

public import proofs.«01_k».proof.Proof.Gen.ReferenceIdeal.Frame
public import proofs.«01_k».proof.Proof.ReferenceIdeal.Vals
public import proofs.«01_k».proof.Proof.Spec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ReferenceIdeal.Hand

open Cert.ReferenceIdeal Cert.ReferenceIdeal.Gen
open Cert
open Idealize.ShloMosaic Idealize.ShloMosaic.TcCoe Idealize.SL.Sem
open Idealize.ShloMosaic.Pipeline (Dat)

variable (m : (ℓ : Loc nD τ sig) → Buf (Elt Ideal) ℓ)

/-- The arguments' numbers on a device. -/
abbrev AR (c : Dev nD) : Spec.Args := Spec.args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7))
/-- The precondition on a device's arguments. -/
abbrev PR (c : Dev nD) : Prop := Spec.Pre (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7))

/-- A buffer at the region's entry: the host lines run on the launch contents. -/
theorem V_after (c : Dev nD) (b : Ref sig .tc) : V m c b = StableHlo.after hostOps0 (fun b => m (c, b)) (Proc.devRef .tc b) := by
  show StableHlo.after (hostOps0 ++ []) _ _ = _
  rw [List.append_nil]
/-- Every block is the whole array. -/
theorem idx0 : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

section Entry
variable (c : Dev nD) (h : PR m c)
include h

/-- The region's entry: the weight codes, as numbers. -/
theorem V2_at (k : Fin 2304) (o : Fin 9216) : V m c main_v2 (ix2 k o) = ((AR m c).W k o : EReal) := by
  rw [← Spec.W_eq h, V_after]; unfold_abbrev_sides
  after_results
  pointwise
/-- The region's entry: the input codes, as numbers. -/
theorem V3_at (n : Fin 9216) (k : Fin 2304) : V m c main_v3 (ix2 n k) = ((AR m c).X n k : EReal) := by
  rw [← Spec.X_eq h, V_after]; unfold_abbrev_sides
  after_results
  pointwise
  rfl
/-- The region's entry: the input scales, as numbers. -/
theorem V4_at (n : Fin 9216) : V m c main_v4 (ix2 n 0) = ((AR m c).XS n : EReal) := by
  rw [← Spec.XS_eq h, V_after]; unfold_abbrev_sides
  after_results
  pointwise
  rfl
/-- The region's entry: the output gradient codes, as numbers. -/
theorem V5_at (n : Fin 9216) (k : Fin 9216) : V m c main_v5 (ix2 n k) = ((AR m c).DY n k : EReal) := by
  rw [← Spec.DY_eq h, V_after]; unfold_abbrev_sides
  after_results
  pointwise
  rfl
/-- The region's entry: the output gradient scales, as numbers. -/
theorem V6_at (n : Fin 9216) : V m c main_v6 (ix2 n 0) = ((AR m c).DS n : EReal) := by
  rw [← Spec.DS_eq h, V_after]; unfold_abbrev_sides
  after_results
  pointwise
  rfl
/-- The region's entry: the weight scales, as numbers. -/
theorem V7_at (o : Fin 9216) : V m c main_v7 (ix2 0 o) = ((AR m c).WS o : EReal) := by
  rw [← Spec.WS_eq h, V_after]; unfold_abbrev_sides
  after_results
  pointwise

variable (t : Fin cfg0.N)
/-- A block that a grid point stages, as numbers. -/
theorem blk0 (n : Fin 9216) (k : Fin 2304) : iblk m c 0 t (ix2 n k) = ((AR m c).X n k : EReal) :=
  Eq.trans (congrArg (V m c main_v3) (by blk_ext [idx0 t])) (V3_at m c h n k)
/-- A block that a grid point stages, as numbers. -/
theorem blk1 (n : Fin 9216) : iblk m c 1 t (ix2 n 0) = ((AR m c).XS n : EReal) :=
  Eq.trans (congrArg (V m c main_v4) (by blk_ext [idx0 t])) (V4_at m c h n)
/-- A block that a grid point stages, as numbers. -/
theorem blk2 (n : Fin 9216) (o : Fin 9216) : iblk m c 2 t (ix2 n o) = ((AR m c).DY n o : EReal) :=
  Eq.trans (congrArg (V m c main_v5) (by blk_ext [idx0 t])) (V5_at m c h n o)
/-- A block that a grid point stages, as numbers. -/
theorem blk3 (n : Fin 9216) : iblk m c 3 t (ix2 n 0) = ((AR m c).DS n : EReal) :=
  Eq.trans (congrArg (V m c main_v6) (by blk_ext [idx0 t])) (V6_at m c h n)
/-- A block that a grid point stages, as numbers. -/
theorem blk4 (k : Fin 2304) (o : Fin 9216) : iblk m c 4 t (ix2 k o) = ((AR m c).W k o : EReal) :=
  Eq.trans (congrArg (V m c main_v2) (by blk_ext [idx0 t])) (V2_at m c h k o)
/-- A block that a grid point stages, as numbers. -/
theorem blk5 (o : Fin 9216) : iblk m c 5 t (ix2 0 o) = ((AR m c).WS o : EReal) :=
  Eq.trans (congrArg (V m c main_v7) (by blk_ext [idx0 t])) (V7_at m c h o)
/-- A block that a grid point stages, as numbers. -/
theorem blk6 (k : Fin 2304) (r : Fin 32) : iblk m c 6 t (ix2 k r) = ((AR m c).A k r : EReal) :=
  Eq.trans (Eq.trans (congrArg (V m c main_arg6) (by blk_ext [idx0 t])) (congrFun (V_main_arg6 m c) (ix2 k r))) (Spec.A_eq h k r)
/-- A block that a grid point stages, as numbers. -/
theorem blk7 (r : Fin 32) (o : Fin 9216) : iblk m c 7 t (ix2 r o) = ((AR m c).B r o : EReal) :=
  Eq.trans (Eq.trans (congrArg (V m c main_arg7) (by blk_ext [idx0 t])) (congrFun (V_main_arg7 m c) (ix2 r o))) (Spec.B_eq h r o)

omit h in
/-- A result's array, from its rows. -/
def G2 {n k : ℕ} (f : Fin n → Fin k → EReal) : (⟨2, ![n, k]⟩ : Shape).Idx → EReal := fun i => f (i 0) (i 1)
omit h in
/-- A stored value of the kernel, by its parts. -/
theorem pay1_eq (x : FVec Ideal S9216x2304 .fp8e4m3) : k0_pay1 (F := Ideal) x = x := by
  funext j; idx_vars j; pointwise [k0_pay1]
omit h in
/-- A stored value of the kernel, by its parts. -/
theorem pay2_eq (x : FVec Ideal S9216x9216 .fp8e5m2) : k0_pay2 (F := Ideal) x = x := by
  funext j; idx_vars j; pointwise [k0_pay2]
omit h in
/-- A stored value of the kernel, by its parts. -/
theorem pay3_eq (x : FVec Ideal S9216x1 .f32) : k0_pay3 (F := Ideal) x = x := by
  funext j; idx_vars j; pointwise [k0_pay3]
omit h in
/-- A stored value of the kernel, by its parts. -/
theorem pay4_eq (x : FVec Ideal S9216x1 .f32) : k0_pay4 (F := Ideal) x = x := by
  funext j; idx_vars j; pointwise [k0_pay4]

/-- The array of the input gradient after the run. -/
theorem final8 : (dats m 0 c).arrAt 8 (cfgs 0).N = (G2 (fun n k => ((AR m c).g n k : EReal)) : S9216x2304.Idx → EReal) := by
  refine (dats m 0 c).arrAt_eq_of_after_last 8 t0_0 (by decide +kernel) _ fun y => ?_
  blk_simp; rw [after0_8]; frame_out
  unfold outsAt0; dsimp only; unfold out0_A_8; frame_out
  simp only [read_unread_whole]
  idx_vars y
  exact (p11 _ _ _ y0 y1).trans (g_val (blk2 m c h t0_0) (blk3 m c h t0_0) (blk4 m c h t0_0) (blk5 m c h t0_0) (blk6 m c h t0_0) (blk7 m c h t0_0) y0 y1)
/-- The array of the first factor's gradient after the run. -/
theorem final9 : (dats m 0 c).arrAt 9 (cfgs 0).N = (G2 (fun k r => ((AR m c).da k r : EReal)) : S2304x32.Idx → EReal) := by
  refine (dats m 0 c).arrAt_eq_of_after_last 9 t0_0 (by decide +kernel) _ fun y => ?_
  blk_simp; rw [after0_9]; frame_out
  simp only [read_unread_whole, pay1_eq, pay3_eq]
  idx_vars y
  exact da_val (blk0 m c h t0_0) (blk1 m c h t0_0) (blk2 m c h t0_0) (blk3 m c h t0_0) (blk7 m c h t0_0) y0 y1
/-- The array of the second factor's gradient after the run. -/
theorem final10 : (dats m 0 c).arrAt 10 (cfgs 0).N = (G2 (fun r o => ((AR m c).db r o : EReal)) : S32x9216.Idx → EReal) := by
  refine (dats m 0 c).arrAt_eq_of_after_last 10 t0_0 (by decide +kernel) _ fun y => ?_
  blk_simp; rw [after0_10]; frame_out
  simp only [read_unread_whole, pay2_eq, pay4_eq]
  idx_vars y
  exact db_val (blk0 m c h t0_0) (blk1 m c h t0_0) (blk2 m c h t0_0) (blk3 m c h t0_0) (blk6 m c h t0_0) y0 y1
/-- The array of the output gradient through the second factor after the run. -/
theorem final11 : (dats m 0 c).arrAt 11 (cfgs 0).N = (G2 (fun n r => ((AR m c).t n r : EReal)) : S9216x32.Idx → EReal) := by
  refine (dats m 0 c).arrAt_eq_of_after_last 11 t0_0 (by decide +kernel) _ fun y => ?_
  blk_simp; rw [after0_11]; frame_out
  simp only [read_unread_whole]
  idx_vars y
  exact t_val (blk2 m c h t0_0) (blk3 m c h t0_0) (blk7 m c h t0_0) y0 y1
/-- The array of the input through the first factor after the run. -/
theorem final12 : (dats m 0 c).arrAt 12 (cfgs 0).N = (G2 (fun n r => ((AR m c).xa n r : EReal)) : S9216x32.Idx → EReal) := by
  refine (dats m 0 c).arrAt_eq_of_after_last 12 t0_0 (by decide +kernel) _ fun y => ?_
  blk_simp; rw [after0_12]; frame_out
  simp only [read_unread_whole]
  idx_vars y
  exact xa_val (blk0 m c h t0_0) (blk1 m c h t0_0) (blk6 m c h t0_0) y0 y1
/-- The array of the codes after the run. -/
theorem final13 : (dats m 0 c).arrAt 13 (cfgs 0).N = (G2 (fun n k => (AR m c).code n k) : S9216x2304.Idx → EReal) := by
  refine (dats m 0 c).arrAt_eq_of_after_last 13 t0_0 (by decide +kernel) _ fun y => ?_
  blk_simp; rw [after0_13]; frame_out
  simp only [read_unread_whole]
  idx_vars y
  refine (p18 _ _ _ _ y0 y1).trans ?_
  rw [g_val (blk2 m c h t0_0) (blk3 m c h t0_0) (blk4 m c h t0_0) (blk5 m c h t0_0) (blk6 m c h t0_0) (blk7 m c h t0_0) y0 y1]
  exact congrArg (fun u => min (Ideal.ofBits .f32 0x47600000#32) (max (Ideal.ofBits .f32 0xC7600000#32) (((AR m c).g y0 y1 : EReal) * Ideal.div 1 u)))
    (scl_val (blk2 m c h t0_0) (blk3 m c h t0_0) (blk4 m c h t0_0) (blk5 m c h t0_0) (blk6 m c h t0_0) (blk7 m c h t0_0) y0)
/-- The array of the scales after the run. -/
theorem final14 : (dats m 0 c).arrAt 14 (cfgs 0).N = (G2 (fun n _ => (AR m c).scl n) : S9216x1.Idx → EReal) := by
  refine (dats m 0 c).arrAt_eq_of_after_last 14 t0_0 (by decide +kernel) _ fun y => ?_
  blk_simp; rw [after0_14]; frame_out
  simp only [read_unread_whole]
  idx_vars y
  obtain rfl : y1 = 0 := Subsingleton.elim _ _
  exact scl_val (blk2 m c h t0_0) (blk3 m c h t0_0) (blk4 m c h t0_0) (blk5 m c h t0_0) (blk6 m c h t0_0) (blk7 m c h t0_0) y0
end Entry

end Cert.ReferenceIdeal.Hand
end
-- ==== Proof.ReferenceIdeal.Tail.lean ====
/- What a run of the reference leaves in its results. -/
module

public import proofs.«01_k».proof.Proof.ReferenceIdeal.Final
public import proofs.«01_k».proof.Proof.Gen.ReferenceIdeal.Frame
public import Idealize.ShloMosaic.Lib.Pointwise
public import proofs.«01_k».proof.Proof.Results
public import Idealize.ShloMosaic.Lib.Claim

@[expose] public section

set_option maxRecDepth 16384

noncomputable section

namespace Cert.ReferenceIdeal.Hand

open Cert.ReferenceIdeal Cert.ReferenceIdeal.Gen
open Cert
open Idealize.ShloMosaic Idealize.ShloMosaic.TcCoe Idealize.SL.Sem

variable (m : (ℓ : Loc nD τ sig) → Buf (Elt Ideal) ℓ) (g : Dev nD → PrngReg)

/-- A result's array among the contents that the lines after the region find. -/
abbrev WA (c : Dev nD) : Valuation τ sig (Elt Ideal) :=
  Pipeline.withArrays (cfgs 0).spec c (V0 m c) fun w => (dats m 0 c).arrAt w (cfgs 0).N
/-- What a buffer holds after the lines that follow the region. -/
theorem tail_after (c : Dev nD) (b : Ref sig .tc) : Pipeline.afterTail₀ cfgs (dats m) 0 (V0 m) [hostOps1] c b
    = StableHlo.after hostOps1 (WA m c) (Proc.devRef .tc b) := by
  show StableHlo.after (hostOps1 ++ []) _ _ = _
  rw [List.append_nil]

/-- The windows have distinct arrays. -/
theorem arr_inj : Function.Injective (Pipeline.arrRef (cfgs 0).spec) := by decide +kernel
/-- Those contents at a window's array: what the region leaves there. -/
theorem at_arr (c : Dev nD) (w : Fin (cfgs 0).W) : WA m c (Proc.devRef .tc (Pipeline.arrRef (cfgs 0).spec w)) = (dats m 0 c).arrAt w (cfgs 0).N :=
  Pipeline.withArrays_arr (cfgs 0).spec arr_inj c (V0 m c) _ w

section Tail
variable (W : Valuation τ sig (Elt Ideal))
/-- The input gradient, folded to sequences. -/
theorem tail0 {f : Fin 9216 → Fin 2304 → EReal} (hW : W (Proc.devRef .tc main_v8_0) = (G2 f : S9216x2304.Idx → EReal)) :
    StableHlo.after hostOps1 W (Proc.devRef .tc main_v9) = (fun i => f (Spec.row (i 0) (i 1)) (i 2) : S24x384x2304.Idx → EReal) := by
  unfold_abbrev_sides
  after_results
  rw [hW]
  funext i; idx_vars i
  pointwise
  exact congrArg (fun n => f n i2) (Fin.ext (by show i0.val * 384 + i1.val = 384 * i0.val + i1.val; omega))
/-- The output gradient through the second factor, folded to sequences. -/
theorem tail3 {f : Fin 9216 → Fin 32 → EReal} (hW : W (Proc.devRef .tc main_v8_3) = (G2 f : S9216x32.Idx → EReal)) :
    StableHlo.after hostOps1 W (Proc.devRef .tc main_v10) = (fun i => f (Spec.row (i 0) (i 1)) (i 2) : S24x384x32.Idx → EReal) := by
  unfold_abbrev_sides
  after_results
  rw [hW]
  funext i; idx_vars i
  pointwise
  exact congrArg (fun n => f n i2) (Fin.ext (by show i0.val * 384 + i1.val = 384 * i0.val + i1.val; omega))
/-- The input through the first factor, folded to sequences. -/
theorem tail4 {f : Fin 9216 → Fin 32 → EReal} (hW : W (Proc.devRef .tc main_v8_4) = (G2 f : S9216x32.Idx → EReal)) :
    StableHlo.after hostOps1 W (Proc.devRef .tc main_v11) = (fun i => f (Spec.row (i 0) (i 1)) (i 2) : S24x384x32.Idx → EReal) := by
  unfold_abbrev_sides
  after_results
  rw [hW]
  funext i; idx_vars i
  pointwise
  exact congrArg (fun n => f n i2) (Fin.ext (by show i0.val * 384 + i1.val = 384 * i0.val + i1.val; omega))
/-- The codes, folded to sequences. -/
theorem tail5 {f : Fin 9216 → Fin 2304 → EReal} (hW : W (Proc.devRef .tc main_v8_5) = (G2 f : S9216x2304.Idx → EReal)) :
    StableHlo.after hostOps1 W (Proc.devRef .tc main_v12) = (fun i => f (Spec.row (i 0) (i 1)) (i 2) : S24x384x2304.Idx → EReal) := by
  unfold_abbrev_sides
  after_results
  rw [hW]
  funext i; idx_vars i
  pointwise
  exact congrArg (fun n => f n i2) (Fin.ext (by show i0.val * 384 + i1.val = 384 * i0.val + i1.val; omega))
/-- The scales, folded to sequences. -/
theorem tail6 {f : Fin 9216 → EReal} (hW : W (Proc.devRef .tc main_v8_6) = (G2 (fun n _ => f n) : S9216x1.Idx → EReal)) :
    StableHlo.after hostOps1 W (Proc.devRef .tc main_v13) = (fun i => f (Spec.row (i 0) (i 1)) : S24x384.Idx → EReal) := by
  unfold_abbrev_sides
  after_results
  rw [hW]
  funext i; idx_vars i
  pointwise
  exact congrArg f (Fin.ext (by show i0.val * 384 + i1.val = 384 * i0.val + i1.val; omega))
end Tail

/-- Every run of the program ends with the seven results at the arguments' numbers' results. -/
theorem run_vals (h : ∀ c, PR m c) : θ_run defs (onTc (τ := τ) (main (F := Ideal))) ⟨m, fun _ => 0, g⟩ (fun r => ∀ c : Dev nD,
      r.2.mem ((c.tc : Thread nD τ).loc main_v9) = Spec.res0 (AR m c)
      ∧ r.2.mem ((c.tc : Thread nD τ).loc main_v8_1) = Spec.res1 (AR m c)
      ∧ r.2.mem ((c.tc : Thread nD τ).loc main_v8_2) = Spec.res2 (AR m c)
      ∧ r.2.mem ((c.tc : Thread nD τ).loc main_v10) = Spec.res3 (AR m c)
      ∧ r.2.mem ((c.tc : Thread nD τ).loc main_v11) = Spec.res4 (AR m c)
      ∧ r.2.mem ((c.tc : Thread nD τ).loc main_v12) = Spec.res5 (AR m c)
      ∧ r.2.mem ((c.tc : Thread nD τ).loc main_v13) = Spec.res6 (AR m c)) := by
  run_from run_main m g
  · exact (tail_after m c _).trans (tail0 _ ((at_arr m c 8).trans (final8 m c (h c))))
  · exact final9 m c (h c)
  · exact final10 m c (h c)
  · exact (tail_after m c _).trans (tail3 _ ((at_arr m c 11).trans (final11 m c (h c))))
  · exact (tail_after m c _).trans (tail4 _ ((at_arr m c 12).trans (final12 m c (h c))))
  · exact (tail_after m c _).trans (tail5 _ ((at_arr m c 13).trans (final13 m c (h c))))
  · exact (tail_after m c _).trans (tail6 _ ((at_arr m c 14).trans (final14 m c (h c))))

end Cert.ReferenceIdeal.Hand
end
-- ==== Proof.Algebraic.lean ====
/- The kernel and the reference end with equal results. -/
module

public import proofs.«01_k».proof.Defs
public import proofs.«01_k».proof.Proof.Gen.KernelIdeal
public import proofs.«01_k».proof.Proof.Gen.ReferenceIdeal
public import proofs.«01_k».proof.Proof.Gen.Pre_moderate
public import proofs.«01_k».proof.Proof.PreFacts
public import proofs.«01_k».proof.Proof.KernelIdeal.Tail
public import proofs.«01_k».proof.Proof.ReferenceIdeal.Tail

@[expose] public section

set_option maxRecDepth 16384

noncomputable section

namespace Cert.Proof

open Idealize.ShloMosaic Idealize.ShloMosaic.TcCoe Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The precondition, read off the kernel's arguments. -/
theorem pre_kernel (h : Cert.Pre_KernelIdeal_moderate (hPre_moderate := Cert.Pre_moderate.Gen.facts) m) (c : Dev Cert.KernelIdeal.nD) :
    Cert.KernelIdeal.Hand.PR m c :=
  letI := Cert.Pre_moderate.Gen.facts
  Cert.PreFacts.pre _ _ _ _ _ _ _ _ (h c)
end

/-- From memories that agree on the arguments, the kernel and the reference end with equal results. -/
theorem algebraic : Cert.algebraic_KernelIdeal_ReferenceIdeal_pre_moderate (hKernelIdeal := Cert.KernelIdeal.Gen.facts)
    (hReferenceIdeal := Cert.ReferenceIdeal.Gen.facts) (hPre_moderate := Cert.Pre_moderate.Gen.facts) := by
  intro m g m' g' hpre hagree
  have hP := pre_kernel m hpre
  have hA : ∀ c : Dev Cert.ReferenceIdeal.nD, Cert.ReferenceIdeal.Hand.AR m' c = Cert.KernelIdeal.Hand.AR m c := fun c => by
    obtain ⟨e0, e1, e2, e3, e4, e5, e6, e7⟩ := hagree c
    show Cert.Spec.args _ _ _ _ _ _ _ _ = _
    rw [e0, e1, e2, e3, e4, e5, e6, e7]
  have hR : ∀ c : Dev Cert.ReferenceIdeal.nD, Cert.ReferenceIdeal.Hand.PR m' c := fun c => by
    obtain ⟨e0, e1, e2, e3, e4, e5, e6, e7⟩ := hagree c
    show Cert.Spec.Pre _ _ _ _ _ _ _ _
    rw [e0, e1, e2, e3, e4, e5, e6, e7]
    exact hP c
  have k := θ_run_and (Cert.KernelIdeal.Hand.run_vals m g hP) (Cert.KernelIdeal.Hand.unchanged m g)
  have r := θ_run_and (Cert.ReferenceIdeal.Hand.run_vals m' g' hR) (Cert.ReferenceIdeal.Gen.unchanged m' g')
  refine ⟨fun c => Cert.Spec.res0 (Cert.KernelIdeal.Hand.AR m c), fun c => Cert.Spec.res1 (Cert.KernelIdeal.Hand.AR m c),
    fun c => Cert.Spec.res2 (Cert.KernelIdeal.Hand.AR m c), fun c => Cert.Spec.res3 (Cert.KernelIdeal.Hand.AR m c),
    fun c => Cert.Spec.res4 (Cert.KernelIdeal.Hand.AR m c), fun c => Cert.Spec.res5 (Cert.KernelIdeal.Hand.AR m c),
    fun c => Cert.Spec.res6 (Cert.KernelIdeal.Hand.AR m c),
    (θ_run _ _ _).mono (fun _ h c => ?_) k, (θ_run _ _ _).mono (fun _ h c => ?_) r⟩
  · obtain ⟨v0, v1, v2, v3, v4, v5, v6⟩ := h.1 c
    exact ⟨v0, v1, v2, v3, v4, v5, v6, h.2 c⟩
  · obtain ⟨v0, v1, v2, v3, v4, v5, v6⟩ := h.1 c
    rw [hA c] at v0 v1 v2 v3 v4 v5 v6
    exact ⟨v0, v1, v2, v3, v4, v5, v6, h.2 c⟩

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_moderate
public import proofs.«01_k».proof.Proof.Kernel.Frame
public import proofs.«01_k».proof.Proof.KernelIdeal.Frame
public import proofs.«01_k».proof.Proof.Algebraic

@[expose] public section

namespace Cert.Proof

open Idealize.ShloMosaic

theorem claim : Cert.Claim :=
  ⟨Cert.Kernel.Gen.facts, Cert.KernelIdeal.Gen.facts, Cert.ReferenceIdeal.Gen.facts, Cert.Pre_moderate.Gen.facts,
    fun m g _ => Cert.Kernel.Hand.frame m g, fun m g _ => Cert.KernelIdeal.Hand.frame m g, fun m g _ => Cert.KernelIdeal.Hand.frame m g,
    fun m g _ => Cert.ReferenceIdeal.Gen.frame m g, fun m g _ => Cert.ReferenceIdeal.Gen.frame m g, trivial, algebraic⟩

end Cert.Proof

end
